-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v33_0)) (v1 : (c : Dev Cert.Kernel3Ideal.nD) → Buf (Elt Ideal) ((c.tc : Thread Cert.Kernel3Ideal.nD Cert.Kernel3Ideal.τ).loc Cert.Kernel3Ideal.main_v33_1)) (v2 : (c : Dev Cert.Kernel3Ideal.nD) → Buf (Elt Ideal) ((c.tc : Thread Cert.Kernel3Ideal.nD Cert.Kernel3Ideal.τ).loc Cert.Kernel3Ideal.main_v33_2)) (v3 : (c : Dev Cert.Kernel3Ideal.nD) → Buf (Elt Ideal) ((c.tc : Thread Cert.Kernel3Ideal.nD Cert.Kernel3Ideal.τ).loc Cert.Kernel3Ideal.main_v33_3)) (v4 : (c : Dev Cert.Kernel3Ideal.nD) → Buf (Elt Ideal) ((c.tc : Thread Cert.Kernel3Ideal.nD Cert.Kernel3Ideal.τ).loc Cert.Kernel3Ideal.main_v33_4)) (v5 : (c : Dev Cert.Kernel3Ideal.nD) → Buf (Elt Ideal) ((c.tc : Thread Cert.Kernel3Ideal.nD Cert.Kernel3Ideal.τ).loc Cert.Kernel3Ideal.main_v33_5)) (v6 : (c : Dev Cert.Kernel3Ideal.nD) → Buf (Elt Ideal) ((c.tc : Thread Cert.Kernel3Ideal.nD Cert.Kernel3Ideal.τ).loc Cert.Kernel3Ideal.main_v33_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33_0) = v0 c
          ∧ r.2.mem ((c.tc : Thread Cert.Kernel3Ideal.nD Cert.Kernel3Ideal.τ).loc Cert.Kernel3Ideal.main_v33_1) = v1 c
          ∧ r.2.mem ((c.tc : Thread Cert.Kernel3Ideal.nD Cert.Kernel3Ideal.τ).loc Cert.Kernel3Ideal.main_v33_2) = v2 c
          ∧ r.2.mem ((c.tc : Thread Cert.Kernel3Ideal.nD Cert.Kernel3Ideal.τ).loc Cert.Kernel3Ideal.main_v33_3) = v3 c
          ∧ r.2.mem ((c.tc : Thread Cert.Kernel3Ideal.nD Cert.Kernel3Ideal.τ).loc Cert.Kernel3Ideal.main_v33_4) = v4 c
          ∧ r.2.mem ((c.tc : Thread Cert.Kernel3Ideal.nD Cert.Kernel3Ideal.τ).loc Cert.Kernel3Ideal.main_v33_5) = v5 c
          ∧ r.2.mem ((c.tc : Thread Cert.Kernel3Ideal.nD Cert.Kernel3Ideal.τ).loc Cert.Kernel3Ideal.main_v33_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v106) = v0 c
          ∧ r.2.mem ((c.tc : Thread Cert.Reference3Ideal.nD Cert.Reference3Ideal.τ).loc Cert.Reference3Ideal.main_v107) = v1 c
          ∧ r.2.mem ((c.tc : Thread Cert.Reference3Ideal.nD Cert.Reference3Ideal.τ).loc Cert.Reference3Ideal.main_v108) = v2 c
          ∧ r.2.mem ((c.tc : Thread Cert.Reference3Ideal.nD Cert.Reference3Ideal.τ).loc Cert.Reference3Ideal.main_v110) = v3 c
          ∧ r.2.mem ((c.tc : Thread Cert.Reference3Ideal.nD Cert.Reference3Ideal.τ).loc Cert.Reference3Ideal.main_v111) = v4 c
          ∧ r.2.mem ((c.tc : Thread Cert.Reference3Ideal.nD Cert.Reference3Ideal.τ).loc Cert.Reference3Ideal.main_v113) = v5 c
          ∧ r.2.mem ((c.tc : Thread Cert.Reference3Ideal.nD Cert.Reference3Ideal.τ).loc Cert.Reference3Ideal.main_v120) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v311) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x4096x512 : Shape := ⟨3, ![4, 4096, 512]⟩
abbrev S4x16x256x256 : Shape := ⟨4, ![4, 16, 256, 256]⟩
abbrev S4x64 : Shape := ⟨2, ![4, 64]⟩
abbrev S128 : Shape := ⟨1, ![128]⟩
abbrev S_ : Shape := ⟨0, ![]⟩
abbrev S1 : Shape := ⟨1, ![1]⟩
abbrev S5 : Shape := ⟨1, ![5]⟩

class Facts : Prop where
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x16x256x256 : S_.BroadcastsInDim S4x16x256x256 (![] : Fin 0 → Fin S4x16x256x256.rank)
  reducesTo_S4x16x256x256_S_d0_1_2_3 : S4x16x256x256.ReducesTo [0, 1, 2, 3] S_
  bcast_S_S4x64 : S_.BroadcastsInDim S4x64 (![] : Fin 0 → Fin S4x64.rank)
  reducesTo_S4x64_S_d0_1 : S4x64.ReducesTo [0, 1] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S4x64 .f32) (main_v4 : IVec S_ 1) (main_v9 : IVec S_ 1) (main_v14 : IVec S_ 1) (main_v15 : FVec F S4x16x256x256 .f32) (main_v16 : FVec F S4x16x256x256 .f32) : IVec S5 1 :=
  let main_v17 : IVec S4x16x256x256 1 := cmpf .olt main_v15 main_v16
  let main_c_5 : IVec S_ 1 := constantI S_ 1 1#1
  let main_v18 : IVec S_ 1 := (fun x v => Host.reduce IntOp.andi x v reducesTo_S4x16x256x256_S_d0_1_2_3 h_S_) main_v17 main_c_5
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S1 1 := broadcastInDim S1 ![] bcast_S_S1 main_v4
  let main_v24 : IVec S1 1 := broadcastInDim S1 ![] bcast_S_S1 main_v9
  let main_v25 : IVec S1 1 := broadcastInDim S1 ![] bcast_S_S1 main_v14
  let main_v26 : IVec S1 1 := broadcastInDim S1 ![] bcast_S_S1 main_v18
  let main_v27 : IVec S1 1 := broadcastInDim S1 ![] bcast_S_S1 main_v22
  let main_v28 : IVec S5 1 := concatenate S5 0 [⟨S1, main_v23⟩, ⟨S1, main_v24⟩, ⟨S1, main_v25⟩, ⟨S1, main_v26⟩, ⟨S1, main_v27⟩] concatenates_S1_S1_S1_S1_S1_S5_d0
  main_v28

def fn {F : FTy → Type} [FloatOps F] (main_arg0 : FVec F S4x4096x512 .bf16) (main_arg1 : FVec F S4x4096x512 .bf16) (main_arg2 : FVec F S4x4096x512 .bf16) (main_arg3 : FVec F S4x16x256x256 .f32) (main_arg4 : FVec F S4x64 .f32) (main_arg5 : FVec F S128 .f32) : IVec S5 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_c : IVec S_ 1 := constantI S_ 1 1#1
  let main_v4 : IVec S_ 1 := (fun x v => Host.reduce IntOp.andi x v reducesTo_S4x4096x512_S_d0_1_2 h_S_) main_v3 main_c
  let main_v5 : FVec F S4x4096x512 .f32 := (extf .f32 · bitsLt_bf16_f32) main_arg1
  let main_v6 : FVec F S4x4096x512 .f32 := Host.absf main_v5
  let main_cst_0 : FVec F S_ .f32 := constant S_ .f32 0x7F800000#32
  let main_v7 : FVec F S4x4096x512 .f32 := broadcastInDim S4x4096x512 ![] bcast_S_S4x4096x512 main_cst_0
  let main_v8 : IVec S4x4096x512 1 := cmpf .olt main_v6 main_v7
  let main_c_1 : IVec S_ 1 := constantI S_ 1 1#1
  let main_v9 : IVec S_ 1 := (fun x v => Host.reduce IntOp.andi x v reducesTo_S4x4096x512_S_d0_1_2 h_S_) main_v8 main_c_1
  let main_v10 : FVec F S4x4096x512 .f32 := (extf .f32 · bitsLt_bf16_f32) main_arg2
  let main_v11 : FVec F S4x4096x512 .f32 := Host.absf main_v10
  let main_cst_2 : FVec F S_ .f32 := constant S_ .f32 0x7F800000#32
  let main_v12 : FVec F S4x4096x512 .f32 := broadcastInDim S4x4096x512 ![] bcast_S_S4x4096x512 main_cst_2
  let main_v13 : IVec S4x4096x512 1 := cmpf .olt main_v11 main_v12
  let main_c_3 : IVec S_ 1 := constantI S_ 1 1#1
  let main_v14 : IVec S_ 1 := (fun x v => Host.reduce IntOp.andi x v reducesTo_S4x4096x512_S_d0_1_2 h_S_) main_v13 main_c_3
  let main_v15 : FVec F S4x16x256x256 .f32 := Host.absf main_arg3
  let main_cst_4 : FVec F S_ .f32 := constant S_ .f32 0x7F800000#32
  let main_v16 : FVec F S4x16x256x256 .f32 := broadcastInDim S4x16x256x256 ![] bcast_S_S4x16x256x256 main_cst_4
  fn_part1 (F := F) main_arg4 main_v4 main_v9 main_v14 main_v15 main_v16
-- ==== Kernel.lean ====
abbrev S4x4096x1024 : Shape := ⟨3, ![4, 4096, 1024]⟩
abbrev S4x9x1024 : Shape := ⟨3, ![4, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S1x1024x1024 : Shape := ⟨3, ![1, 1024, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S1024x1024 : Shape := ⟨2, ![1024, 1024]⟩
abbrev S1x1x1024 : Shape := ⟨3, ![1, 1, 1024]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S2x2x1024x5632, .bf16⟩
  | .hbm, ⟨6, _⟩ => ⟨S2x2x2816x1024, .bf16⟩
  | .hbm, ⟨7, _⟩ => ⟨S1x1024, .f32⟩
  | .hbm, ⟨8, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x1024 : Shape := ⟨3, ![4, 4096, 1024]⟩
abbrev S4x9x1024 : Shape := ⟨3, ![4, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S1x1x1024x5632 : Shape := ⟨4, ![1, 1, 1024, 5632]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S1x1x2816x1024 : Shape := ⟨4, ![1, 1, 2816, 1024]⟩
abbrev S2816x1024 : Shape := ⟨2, ![2816, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x1x1024, .f32⟩
  | .hbm, ⟨22, _⟩ => ⟨S4x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x1x1024, .f32⟩
  | .hbm, ⟨30, _⟩ => ⟨S4x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S1x1x1024x5632, .f32⟩
  | .hbm, ⟨35, _⟩ => ⟨S1024x5632, .f32⟩
  | .hbm, ⟨36, _⟩ => ⟨S4x4096x5632, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S1x1x2816x1024, .f32⟩
  | .hbm, ⟨50, _⟩ => ⟨S2816x1024, .f32⟩
  | .hbm, ⟨51, _⟩ => ⟨S4x4096x1024, .f32⟩
  | .hbm, ⟨52, _⟩ => ⟨S4x1x1024, .f32⟩
  | .hbm, ⟨53, _⟩ => ⟨S4x1024, .f32⟩
  | .hbm, ⟨54, _⟩ => ⟨S4x1x1024, .f32⟩
  | .hbm, ⟨55, _⟩ => ⟨S_, .f32⟩
  | .hbm, ⟨56, _⟩ => ⟨S4x1x1024, .f32⟩
  | .hbm, ⟨57, _⟩ => ⟨S4x1x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel2.lean ====
abbrev S4x4096x512 : Shape := ⟨3, ![4, 4096, 512]⟩
abbrev S4x16x256x256 : Shape := ⟨4, ![4, 16, 256, 256]⟩
abbrev S4x64 : Shape := ⟨2, ![4, 64]⟩
abbrev S128 : Shape := ⟨1, ![128]⟩
abbrev S1x128 : Shape := ⟨2, ![1, 128]⟩
abbrev S1x256x128 : Shape := ⟨3, ![1, 256, 128]⟩
abbrev S1x4096x128 : Shape := ⟨3, ![1, 4096, 128]⟩
abbrev S1x16x256x256 : Shape := ⟨4, ![1, 16, 256, 256]⟩
abbrev S2x256x1 : Shape := ⟨3, ![2, 256, 1]⟩
abbrev S2x256x128 : Shape := ⟨3, ![2, 256, 128]⟩
abbrev S256x128 : Shape := ⟨2, ![256, 128]⟩
abbrev S1x1x256x256 : Shape := ⟨4, ![1, 1, 256, 256]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩
abbrev S1x64 : Shape := ⟨2, ![1, 64]⟩
abbrev S1 : Shape := ⟨1, ![1]⟩
abbrev S1x1 : Shape := ⟨2, ![1, 1]⟩

abbrev nBuf : Space → Nat
  | .hbm => 8
  | .vmem => 15
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x16x256x256, .f32⟩
  | .hbm, ⟨4, _⟩ => ⟨S4x64, .f32⟩
  | .hbm, ⟨5, _⟩ => ⟨S128, .f32⟩
  | .hbm, ⟨6, _⟩ => ⟨S1x128, .f32⟩
  | .hbm, ⟨7, _⟩ => ⟨S4x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x16x256x256, .f32⟩
  | .local _ .vmem, ⟨7, _⟩ => ⟨S1x16x256x256, .f32⟩
  | .local _ .vmem, ⟨8, _⟩ => ⟨S4x64, .f32⟩
  | .local _ .vmem, ⟨9, _⟩ => ⟨S1x128, .f32⟩
  | .local _ .vmem, ⟨10, _⟩ => ⟨S1x256x128, .bf16⟩
  | .local _ .vmem, ⟨11, _⟩ => ⟨S1x256x128, .bf16⟩
  | .local _ .vmem, ⟨12, _⟩ => ⟨S2x256x1, .f32⟩
  | .local _ .vmem, ⟨13, _⟩ => ⟨S2x256x1, .f32⟩
  | .local _ .vmem, ⟨14, _⟩ => ⟨S2x256x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 16], ![false, false, false]⟩

@[reducible] def k0_t1_loop (i : grid0.Coords) : Scf.Loop 32 :=
  let c0_i32_14 : BitVec 32 := 0#32
  let arg2 : BitVec 32 := BitVec.ofNat 32 (i 2).val
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_15 : BitVec 32 := 1#32
  ⟨c0_i32_14, v24, c1_i32_15⟩
def k0_off1 (i : grid0.Coords) (k0_t1 : Fin (k0_t1_loop i).trips) : Fin 4 → Nat :=
  let c0_96 : Index := 0#32
  let arg2 : BitVec 32 := BitVec.ofNat 32 (i 2).val
  let c0_i32_14 : BitVec 32 := 0#32
  let c1_i32_15 : BitVec 32 := 1#32
  let arg13 : BitVec 32 := Scf.iv c0_i32_14 c1_i32_15 k0_t1
  let v164 : BitVec 32 := Scalar.subi arg2 arg13
  let v165 : Index := Scalar.indexCast v164
  let c0_97 : Index := 0#32
  let c0_98 : Index := 0#32
  ![0, v165.toNat, 0, 0]
def k0_mult1 (i : grid0.Coords) (k0_t1 : Fin (k0_t1_loop i).trips) : BitVec 32 :=
  let c0_i32_14 : BitVec 32 := 0#32
  let c1_i32_15 : BitVec 32 := 1#32
  let arg13 : BitVec 32 := Scf.iv c0_i32_14 c1_i32_15 k0_t1
  let c256_i32_99 : BitVec 32 := 256#32
  let v168 : BitVec 32 := Scalar.muli arg13 c256_i32_99
  v168
def k0_off2 (i : grid0.Coords) (k0_t1 : Fin (k0_t1_loop i).trips) : Fin 3 → Nat :=
  let c0_100 : Index := 0#32
  let c0_i32_14 : BitVec 32 := 0#32
  let c1_i32_15 : BitVec 32 := 1#32
  let arg13 : BitVec 32 := Scf.iv c0_i32_14 c1_i32_15 k0_t1
  let c256_i32_99 : BitVec 32 := 256#32
  let v168 : BitVec 32 := Scalar.muli arg13 c256_i32_99
  let v169 : BitVec 32 := v168
  let v170 : Index := Scalar.indexCast v169
  let c0_101 : Index := 0#32
  ![0, v170.toNat, 0]
@[reducible] def k0_t2_loop (i : grid0.Coords) : Scf.Loop 32 :=
  let c0_i32_14 : BitVec 32 := 0#32
  let arg2 : BitVec 32 := BitVec.ofNat 32 (i 2).val
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let v21 : BitVec 32 := Scalar.addi c0_i32_14 v20
  let c1_i32_16 : BitVec 32 := 1#32
  ⟨v24, v21, c1_i32_16⟩
def k0_off3 (i : grid0.Coords) (k0_t2 : Fin (k0_t2_loop i).trips) : Fin 4 → Nat :=
  let c0_96 : Index := 0#32
  let arg2 : BitVec 32 := BitVec.ofNat 32 (i 2).val
  let c0_i32_14 : BitVec 32 := 0#32
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg13 : BitVec 32 := Scf.iv v24 c1_i32_16 k0_t2
  let v164 : BitVec 32 := Scalar.subi arg2 arg13
  let v165 : Index := Scalar.indexCast v164
  let c0_97 : Index := 0#32
  let c0_98 : Index := 0#32
  ![0, v165.toNat, 0, 0]
def k0_mult2 (i : grid0.Coords) (k0_t2 : Fin (k0_t2_loop i).trips) : BitVec 32 :=
  let c0_i32_14 : BitVec 32 := 0#32
  let arg2 : BitVec 32 := BitVec.ofNat 32 (i 2).val
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg13 : BitVec 32 := Scf.iv v24 c1_i32_16 k0_t2
  let c256_i32_99 : BitVec 32 := 256#32
  let v168 : BitVec 32 := Scalar.muli arg13 c256_i32_99
  v168
def k0_off4 (i : grid0.Coords) (k0_t2 : Fin (k0_t2_loop i).trips) : Fin 3 → Nat :=
  let c0_100 : Index := 0#32
  let c0_i32_14 : BitVec 32 := 0#32
  let arg2 : BitVec 32 := BitVec.ofNat 32 (i 2).val
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg13 : BitVec 32 := Scf.iv v24 c1_i32_16 k0_t2
  let c256_i32_99 : BitVec 32 := 256#32
  let v168 : BitVec 32 := Scalar.muli arg13 c256_i32_99
  let v169 : BitVec 32 := v168
  let v170 : Index := Scalar.indexCast v169
  let c0_101 : Index := 0#32
  ![0, v170.toNat, 0]
def k0_mult3 (i : grid0.Coords) : BitVec 32 :=
  let arg2 : BitVec 32 := BitVec.ofNat 32 (i 2).val
  let c256_i32 : BitVec 32 := 256#32
  let v27 : BitVec 32 := Scalar.muli arg2 c256_i32
  v27
def k0_off5 (i : grid0.Coords) : Fin 3 → Nat :=
  let c0_21 : Index := 0#32
  let arg2 : BitVec 32 := BitVec.ofNat 32 (i 2).val
  let c256_i32 : BitVec 32 := 256#32
  let v27 : BitVec 32 := Scalar.muli arg2 c256_i32
  let v28 : BitVec 32 := v27
  let v29 : Index := Scalar.indexCast v28
  let c0_22 : Index := 0#32
  ![0, v29.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S4x4096x512 : Shape := ⟨3, ![4, 4096, 512]⟩
abbrev S4x16x256x256 : Shape := ⟨4, ![4, 16, 256, 256]⟩
abbrev S4x64 : Shape := ⟨2, ![4, 64]⟩
abbrev S128 : Shape := ⟨1, ![128]⟩
abbrev S4x4096x4x2x64 : Shape := ⟨5, ![4, 4096, 4, 2, 64]⟩
abbrev S4x4096x4x128 : Shape := ⟨4, ![4, 4096, 4, 128]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x16x1 : Shape := ⟨3, ![16, 16, 1]⟩
abbrev S4x16x16x256x256 : Shape := ⟨5, ![4, 16, 16, 256, 256]⟩
abbrev S4x16x256x16x256 : Shape := ⟨5, ![4, 16, 256, 16, 256]⟩
abbrev S4x4096x4096 : Shape := ⟨3, ![4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x4x2x4096x4096 : Shape := ⟨5, ![4, 4, 2, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S1x64 : Shape := ⟨2, ![1, 64]⟩
abbrev S64 : Shape := ⟨1, ![64]⟩
abbrev S4x4x1x4096x4096 : Shape := ⟨5, ![4, 4, 1, 4096, 4096]⟩
abbrev S4x4x4096x4096 : Shape := ⟨4, ![4, 4, 4096, 4096]⟩
abbrev S4x4x4096x128 : Shape := ⟨4, ![4, 4, 4096, 128]⟩
abbrev S4x4x4096 : Shape := ⟨3, ![4, 4, 4096]⟩
abbrev S4x4x4096x1 : Shape := ⟨4, ![4, 4, 4096, 1]⟩
abbrev S1x1x1x128 : Shape := ⟨4, ![1, 1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x16x256x256, .f32⟩
  | .hbm, ⟨4, _⟩ => ⟨S4x64, .f32⟩
  | .hbm, ⟨5, _⟩ => ⟨S128, .f32⟩
  | .hbm, ⟨6, _⟩ => ⟨S4x4096x512, .f32⟩
  | .hbm, ⟨7, _⟩ => ⟨S4x4096x4x2x64, .f32⟩
  | .hbm, ⟨8, _⟩ => ⟨S4x4096x512, .f32⟩
  | .hbm, ⟨9, _⟩ => ⟨S4x4096x4x2x64, .f32⟩
  | .hbm, ⟨10, _⟩ => ⟨S4x4096x512, .f32⟩
  | .hbm, ⟨11, _⟩ => ⟨S4x4096x4x128, .f32⟩
  | .hbm, ⟨12, _⟩ => ⟨S16, .i32⟩
  | .hbm, ⟨13, _⟩ => ⟨S16x1, .i32⟩
  | .hbm, ⟨14, _⟩ => ⟨S16, .i32⟩
  | .hbm, ⟨15, _⟩ => ⟨S1x16, .i32⟩
  | .hbm, ⟨16, _⟩ => ⟨S16x16, .i32⟩
  | .hbm, ⟨17, _⟩ => ⟨S16x16, .i32⟩
  | .hbm, ⟨18, _⟩ => ⟨S16x16, .i32⟩
  | .hbm, ⟨19, _⟩ => ⟨S_, .i32⟩
  | .hbm, ⟨20, _⟩ => ⟨S16x16, .i32⟩
  | .hbm, ⟨21, _⟩ => ⟨S16x16, .i32⟩
  | .hbm, ⟨22, _⟩ => ⟨S_, .i32⟩
  | .hbm, ⟨23, _⟩ => ⟨S16x16, .i32⟩
  | .hbm, ⟨24, _⟩ => ⟨S16x16, .i1⟩
  | .hbm, ⟨25, _⟩ => ⟨S_, .i32⟩
  | .hbm, ⟨26, _⟩ => ⟨S16x16, .i32⟩
  | .hbm, ⟨27, _⟩ => ⟨S16x16, .i32⟩
  | .hbm, ⟨28, _⟩ => ⟨S16x16, .i32⟩
  | .hbm, ⟨29, _⟩ => ⟨S16x16x1, .i32⟩
  | .hbm, ⟨30, _⟩ => ⟨S4x16x16x256x256, .f32⟩
  | .hbm, ⟨31, _⟩ => ⟨S4x16x256x16x256, .f32⟩
  | .hbm, ⟨32, _⟩ => ⟨S4x4096x4096, .f32⟩
  | .hbm, ⟨33, _⟩ => ⟨S4096, .i32⟩
  | .hbm, ⟨34, _⟩ => ⟨S4096x1, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S4x4x2x4096x4096, .f32⟩
  | .hbm, ⟨40, _⟩ => ⟨S1x4x1x4096x4096, .f32⟩
  | .hbm, ⟨41, _⟩ => ⟨S4x4x2x4096x4096, .f32⟩
  | .hbm, ⟨42, _⟩ => ⟨S4x4x2x4096x4096, .f32⟩
  | .hbm, ⟨43, _⟩ => ⟨S_, .f32⟩
  | .hbm, ⟨44, _⟩ => ⟨S_, .f32⟩
  | .hbm, ⟨45, _⟩ => ⟨S4x4x2x4096x4096, .i1⟩
  | .hbm, ⟨46, _⟩ => ⟨S4x4x2x4096x4096, .f32⟩
  | .hbm, ⟨47, _⟩ => ⟨S4x4x2x4096x4096, .f32⟩
  | .hbm, ⟨48, _⟩ => ⟨S_, .f32⟩
  | .hbm, ⟨49, _⟩ => ⟨S4x4x2x4096, .f32⟩
  | .hbm, ⟨50, _⟩ => ⟨S4x4x2x4096x1, .f32⟩
  | .hbm, ⟨51, _⟩ => ⟨S4x4x2x4096x4096, .f32⟩
  | .hbm, ⟨52, _⟩ => ⟨S4x4x2x4096x4096, .f32⟩
  | .hbm, ⟨53, _⟩ => ⟨S4x4x2x4096x4096, .f32⟩
  | .hbm, ⟨54, _⟩ => ⟨S_, .f32⟩
  | .hbm, ⟨55, _⟩ => ⟨S4x4x2x4096, .f32⟩
  | .hbm, ⟨56, _⟩ => ⟨S4x4x2x4096x1, .f32⟩
  | .hbm, ⟨57, _⟩ => ⟨S4x4x2x4096x4096, .f32⟩
  | .hbm, ⟨58, _⟩ => ⟨S4x4x2x4096x4096, .f32⟩
  | .hbm, ⟨59, _⟩ => ⟨S1x64, .f32⟩
  | .hbm, ⟨60, _⟩ => ⟨S64, .f32⟩
  | .hbm, ⟨61, _⟩ => ⟨S1x64, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1x64, .f32⟩
  | .hbm, ⟨68, _⟩ => ⟨S64, .f32⟩
  | .hbm, ⟨69, _⟩ => ⟨S1x64, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4x4x1x4096x4096, .f32⟩
  | .hbm, ⟨79, _⟩ => ⟨S4x4x4096x4096, .f32⟩
  | .hbm, ⟨80, _⟩ => ⟨S4x4x1x4096x4096, .f32⟩
  | .hbm, ⟨81, _⟩ => ⟨S4x4x4096x4096, .f32⟩
  | .hbm, ⟨82, _⟩ => ⟨S4x4x4096x4096, .f32⟩
  | .hbm, ⟨83, _⟩ => ⟨S4x4x4096x4096, .f32⟩
  | .hbm, ⟨84, _⟩ => ⟨S4x4x4096x4096, .f32⟩
  | .hbm, ⟨85, _⟩ => ⟨S4x4x4096x128, .f32⟩
  | .hbm, ⟨86, _⟩ => ⟨S4x4x4096x128, .f32⟩
  | .hbm, ⟨87, _⟩ => ⟨S_, .f32⟩
  | .hbm, ⟨88, _⟩ => ⟨S4x4x4096, .f32⟩
  | .hbm, ⟨89, _⟩ => ⟨S4x4x4096x1, .f32⟩
  | .hbm, ⟨90, _⟩ => ⟨S_, .f32⟩
  | .hbm, ⟨91, _⟩ => ⟨S4x4x4096x1, .f32⟩
  | .hbm, ⟨92, _⟩ => ⟨S4x4x4096x1, .f32⟩
  | .hbm, ⟨93, _⟩ => ⟨S_, .f32⟩
  | .hbm, ⟨94, _⟩ => ⟨S4x4x4096x1, .f32⟩
  | .hbm, ⟨95, _⟩ => ⟨S4x4x4096x1, .f32⟩
  | .hbm, ⟨96, _⟩ => ⟨S4x4x4096x1, .f32⟩
  | .hbm, ⟨97, _⟩ => ⟨S4x4x4096x128, .f32⟩
  | .hbm, ⟨98, _⟩ => ⟨S4x4x4096x128, .f32⟩
  | .hbm, ⟨99, _⟩ => ⟨S1x1x1x128, .f32⟩
  | .hbm, ⟨100, _⟩ => ⟨S4x4x4096x128, .f32⟩
  | .hbm, ⟨101, _⟩ => ⟨S4x4x4096x128, .f32⟩
  | .hbm, ⟨102, _⟩ => ⟨S_, .f32⟩
  | .hbm, ⟨103, _⟩ => ⟨S4x4x4096x128, .f32⟩
  | .hbm, ⟨104, _⟩ => ⟨S4x4x4096x128, .f32⟩
  | .hbm, ⟨105, _⟩ => ⟨S4x4096x4x128, .f32⟩
  | .hbm, ⟨106, _⟩ => ⟨S4x4096x512, .f32⟩
  | .hbm, ⟨107, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_10 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x9x1024 : Shape := ⟨3, ![4, 9, 1024]⟩
abbrev S1024 : Shape := ⟨1, ![1024]⟩
abbrev S2x1024x4096 : Shape := ⟨3, ![2, 1024, 4096]⟩
abbrev S6x64 : Shape := ⟨2, ![6, 64]⟩
abbrev S1x64 : Shape := ⟨2, ![1, 64]⟩
abbrev S64 : Shape := ⟨1, ![64]⟩
abbrev S8x64 : Shape := ⟨2, ![8, 64]⟩
abbrev S512 : Shape := ⟨1, ![512]⟩
abbrev S128 : Shape := ⟨1, ![128]⟩
abbrev S1x128 : Shape := ⟨2, ![1, 128]⟩
abbrev S4x128 : Shape := ⟨2, ![4, 128]⟩
abbrev S1x512 : Shape := ⟨2, ![1, 512]⟩
abbrev S4x512 : Shape := ⟨2, ![4, 512]⟩
abbrev S1x1024 : Shape := ⟨2, ![1, 1024]⟩
abbrev S4x4096x512 : Shape := ⟨3, ![4, 4096, 512]⟩
abbrev S4x512x4096 : Shape := ⟨3, ![4, 512, 4096]⟩
abbrev S1x1024x1024 : Shape := ⟨3, ![1, 1024, 1024]⟩
abbrev S1x9x1024 : Shape := ⟨3, ![1, 9, 1024]⟩
abbrev S1x1024x4096 : Shape := ⟨3, ![1, 1024, 4096]⟩
abbrev S1x1024x512 : Shape := ⟨3, ![1, 1024, 512]⟩
abbrev S1x512x1024 : Shape := ⟨3, ![1, 512, 1024]⟩
abbrev S1024x1024 : Shape := ⟨2, ![1024, 1024]⟩
abbrev S1x1x1024 : Shape := ⟨3, ![1, 1, 1024]⟩
abbrev S1024x1 : Shape := ⟨2, ![1024, 1]⟩
abbrev S1024x512 : Shape := ⟨2, ![1024, 512]⟩
abbrev S1024x128 : Shape := ⟨2, ![1024, 128]⟩
abbrev S512x1024 : Shape := ⟨2, ![512, 1024]⟩

abbrev nBuf : Space → Nat
  | .hbm => 45
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x9x1024, .f32⟩
  | .hbm, ⟨2, _⟩ => ⟨S1024, .f32⟩
  | .hbm, ⟨3, _⟩ => ⟨S2x1024x4096, .f32⟩
  | .hbm, ⟨4, _⟩ => ⟨S6x64, .f32⟩
  | .hbm, ⟨5, _⟩ => ⟨S2x1024x4096, .bf16⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S8x64, .f32⟩
  | .hbm, ⟨10, _⟩ => ⟨S512, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S128, .f32⟩
  | .hbm, ⟨21, _⟩ => ⟨S1x128, .f32⟩
  | .hbm, ⟨22, _⟩ => ⟨S4x128, .f32⟩
  | .hbm, ⟨23, _⟩ => ⟨S512, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S128, .f32⟩
  | .hbm, ⟨29, _⟩ => ⟨S1x128, .f32⟩
  | .hbm, ⟨30, _⟩ => ⟨S4x128, .f32⟩
  | .hbm, ⟨31, _⟩ => ⟨S512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S4x512, .f32⟩
  | .hbm, ⟨37, _⟩ => ⟨S1x1024, .f32⟩
  | .hbm, ⟨38, _⟩ => ⟨S4x4096x512, .bf16⟩
  | .hbm, ⟨39, _⟩ => ⟨S4x4096x512, .bf16⟩
  | .hbm, ⟨40, _⟩ => ⟨S4x4096x512, .bf16⟩
  | .hbm, ⟨41, _⟩ => ⟨S4x512x4096, .bf16⟩
  | .hbm, ⟨42, _⟩ => ⟨S4x4096x512, .bf16⟩
  | .hbm, ⟨43, _⟩ => ⟨S4x512x4096, .bf16⟩
  | .hbm, ⟨44, _⟩ => ⟨S4x4096x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024x4096, .bf16⟩
  | .local _ .vmem, ⟨6, _⟩ => ⟨S4x512, .f32⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x1024x512, .f32⟩
  | .local _ .vmem, ⟨20, _⟩ => ⟨S1x1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33_0 : Ref sig .tc := ⟨.hbm, 38, rfl⟩
abbrev main_v33_1 : Ref sig .tc := ⟨.hbm, 39, rfl⟩
abbrev main_v33_2 : Ref sig .tc := ⟨.hbm, 40, rfl⟩
abbrev main_v33_3 : Ref sig .tc := ⟨.hbm, 41, rfl⟩
abbrev main_v33_4 : Ref sig .tc := ⟨.hbm, 42, rfl⟩
abbrev main_v33_5 : Ref sig .tc := ⟨.hbm, 43, rfl⟩
abbrev main_v33_6 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S4x4096x1024 : Shape := ⟨3, ![4, 4096, 1024]⟩
abbrev S4x9x1024 : Shape := ⟨3, ![4, 9, 1024]⟩
abbrev S1024 : Shape := ⟨1, ![1024]⟩
abbrev S2x1024x4096 : Shape := ⟨3, ![2, 1024, 4096]⟩
abbrev S6x64 : Shape := ⟨2, ![6, 64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S4x4096x512 : Shape := ⟨3, ![4, 4096, 512]⟩
abbrev S4x4096x8x64 : Shape := ⟨4, ![4, 4096, 8, 64]⟩
abbrev S1x64 : Shape := ⟨2, ![1, 64]⟩
abbrev S64 : Shape := ⟨1, ![64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x4x2x64 : Shape := ⟨5, ![4, 4096, 4, 2, 64]⟩
abbrev S2x64 : Shape := ⟨2, ![2, 64]⟩
abbrev S4x4096x4x2 : Shape := ⟨4, ![4, 4096, 4, 2]⟩
abbrev S4x4096x4x2x1 : Shape := ⟨5, ![4, 4096, 4, 2, 1]⟩
abbrev S1x1x1x2x64 : Shape := ⟨5, ![1, 1, 1, 2, 64]⟩
abbrev S4x512x4096 : Shape := ⟨3, ![4, 512, 4096]⟩

abbrev nBuf : Space → Nat
  | .hbm => 146
  | .vmem => 0
  | .smem => 0
  | _ => 0

abbrev hbmTy0_0 (i : Nat) : BufTy := match i % 128 with
  | 0 => ⟨S4x4096x1024, .f32⟩
  | 1 => ⟨S4x9x1024, .f32⟩
  | 2 => ⟨S1024, .f32⟩
  | 3 => ⟨S2x1024x4096, .f32⟩
  | 4 => ⟨S6x64, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S4x1x1024, .f32⟩
  | 22 => ⟨S4x1024, .f32⟩
  | 23 => ⟨S4x1x1024, .f32⟩
  | 24 => ⟨S_, .f32⟩
  | 25 => ⟨S4x1x1024, .f32⟩
  | 26 => ⟨S4x1x1024, .f32⟩
  | 27 => ⟨S4x4096x1024, .f32⟩
  | 28 => ⟨S4x4096x1024, .f32⟩
  | 29 => ⟨S4x1x1024, .f32⟩
  | 30 => ⟨S4x1024, .f32⟩
  | 31 => ⟨S4x1x1024, .f32⟩
  | 32 => ⟨S4x4096x1024, .f32⟩
  | 33 => ⟨S4x4096x1024, .f32⟩
  | 34 => ⟨S1x1024x4096, .f32⟩
  | 35 => ⟨S1024x4096, .f32⟩
  | 36 => ⟨S4x4096x4096, .f32⟩
  | 37 => ⟨S4x4096x512, .f32⟩
  | 38 => ⟨S4x4096x512, .f32⟩
  | 39 => ⟨S4x4096x512, .f32⟩
  | 40 => ⟨S4x4096x512, .f32⟩
  | 41 => ⟨S4x4096x512, .f32⟩
  | 42 => ⟨S4x4096x512, .f32⟩
  | 43 => ⟨S4x4096x512, .f32⟩
  | 44 => ⟨S4x4096x512, .f32⟩
  | 45 => ⟨S4x4096x8x64, .f32⟩
  | 46 => ⟨S1x64, .f32⟩
  | 47 => ⟨S64, .f32⟩
  | 48 => ⟨S4x4096x8x64, .f32⟩
  | 49 => ⟨S_, .f32⟩
  | 50 => ⟨S4x4096x8, .f32⟩
  | 51 => ⟨S4x4096x8x1, .f32⟩
  | 52 => ⟨S_, .f32⟩
  | 53 => ⟨S4x4096x8x1, .f32⟩
  | 54 => ⟨S4x4096x8x1, .f32⟩
  | 55 => ⟨S_, .f32⟩
  | 56 => ⟨S4x4096x8x1, .f32⟩
  | 57 => ⟨S4x4096x8x1, .f32⟩
  | 58 => ⟨S4x4096x8x1, .f32⟩
  | 59 => ⟨S4x4096x8x64, .f32⟩
  | 60 => ⟨S4x4096x8x64, .f32⟩
  | 61 => ⟨S1x1x1x64, .f32⟩
  | 62 => ⟨S4x4096x8x64, .f32⟩
  | 63 => ⟨S4x4096x8x64, .f32⟩
  | 64 => ⟨S4x4096x8x64, .f32⟩
  | 65 => ⟨S1x64, .f32⟩
  | 66 => ⟨S64, .f32⟩
  | 67 => ⟨S4x4096x8x64, .f32⟩
  | 68 => ⟨S_, .f32⟩
  | 69 => ⟨S4x4096x8, .f32⟩
  | 70 => ⟨S4x4096x8x1, .f32⟩
  | 71 => ⟨S_, .f32⟩
  | 72 => ⟨S4x4096x8x1, .f32⟩
  | 73 => ⟨S4x4096x8x1, .f32⟩
  | 74 => ⟨S_, .f32⟩
  | 75 => ⟨S4x4096x8x1, .f32⟩
  | 76 => ⟨S4x4096x8x1, .f32⟩
  | 77 => ⟨S4x4096x8x1, .f32⟩
  | 78 => ⟨S4x4096x8x64, .f32⟩
  | 79 => ⟨S4x4096x8x64, .f32⟩
  | 80 => ⟨S1x1x1x64, .f32⟩
  | 81 => ⟨S4x4096x8x64, .f32⟩
  | 82 => ⟨S4x4096x8x64, .f32⟩
  | 83 => ⟨S4x4096x4x2x64, .f32⟩
  | 84 => ⟨S2x64, .f32⟩
  | 85 => ⟨S4x4096x4x2x64, .f32⟩
  | 86 => ⟨S_, .f32⟩
  | 87 => ⟨S4x4096x4x2, .f32⟩
  | 88 => ⟨S4x4096x4x2x1, .f32⟩
  | 89 => ⟨S_, .f32⟩
  | 90 => ⟨S4x4096x4x2x1, .f32⟩
  | 91 => ⟨S4x4096x4x2x1, .f32⟩
  | 92 => ⟨S_, .f32⟩
  | 93 => ⟨S4x4096x4x2x1, .f32⟩
  | 94 => ⟨S4x4096x4x2x1, .f32⟩
  | 95 => ⟨S4x4096x4x2x1, .f32⟩
  | 96 => ⟨S4x4096x4x2x64, .f32⟩
  | 97 => ⟨S4x4096x4x2x64, .f32⟩
  | 98 => ⟨S1x1x1x2x64, .f32⟩
  | 99 => ⟨S4x4096x4x2x64, .f32⟩
  | 100 => ⟨S4x4096x4x2x64, .f32⟩
  | 101 => ⟨S4x4096x4x2x64, .f32⟩
  | 102 => ⟨S2x64, .f32⟩
  | 103 => ⟨S4x4096x4x2x64, .f32⟩
  | 104 => ⟨S_, .f32⟩
  | 105 => ⟨S4x4096x4x2, .f32⟩
  | 106 => ⟨S4x4096x4x2x1, .f32⟩
  | 107 => ⟨S_, .f32⟩
  | 108 => ⟨S4x4096x4x2x1, .f32⟩
  | 109 => ⟨S4x4096x4x2x1, .f32⟩
  | 110 => ⟨S_, .f32⟩
  | 111 => ⟨S4x4096x4x2x1, .f32⟩
  | 112 => ⟨S4x4096x4x2x1, .f32⟩
  | 113 => ⟨S4x4096x4x2x1, .f32⟩
  | 114 => ⟨S4x4096x4x2x64, .f32⟩
  | 115 => ⟨S4x4096x4x2x64, .f32⟩
  | 116 => ⟨S1x1x1x2x64, .f32⟩
  | 117 => ⟨S4x4096x4x2x64, .f32⟩
  | 118 => ⟨S4x4096x4x2x64, .f32⟩
  | 119 => ⟨S_, .f32⟩
  | 120 => ⟨S4x4096x8x64, .f32⟩
  | 121 => ⟨S4x4096x8x64, .f32⟩
  | 122 => ⟨S_, .f32⟩
  | 123 => ⟨S4x4096x4x2x64, .f32⟩
  | 124 => ⟨S4x4096x4x2x64, .f32⟩
  | 125 => ⟨S4x4096x512, .f32⟩
  | 126 => ⟨S4x4096x512, .f32⟩
  | 127 => ⟨S4x4096x512, .f32⟩
  | _ => ⟨S4x4096x1024, .f32⟩

abbrev hbmTy0_1 (i : Nat) : BufTy := match i % 128 with
  | 0 => ⟨S4x4096x512, .f32⟩
  | 1 => ⟨S4x4096x512, .bf16⟩
  | 2 => ⟨S4x4096x512, .bf16⟩
  | 3 => ⟨S4x4096x512, .bf16⟩
  | 4 => ⟨S4x512x4096, .f32⟩
  | 5 => ⟨S4x512x4096, .bf16⟩
  | 6 => ⟨S4x4096x512, .bf16⟩
  | 7 => ⟨S4x512x4096, .f32⟩
  | 8 => ⟨S4x512x4096, .bf16⟩
  | 9 => ⟨S4x4096x512, .f32⟩
  | 10 => ⟨S4x4096x512, .f32⟩
  | 11 => ⟨S_, .f32⟩
  | 12 => ⟨S4x4096x512, .f32⟩
  | 13 => ⟨S4x4096x512, .f32⟩
  | 14 => ⟨S_, .f32⟩
  | 15 => ⟨S4x4096x512, .f32⟩
  | 16 => ⟨S4x4096x512, .f32⟩
  | 17 => ⟨S4x4096x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_9 : Ref sig .tc := ⟨.hbm, 86, rfl⟩
abbrev main_v71 : Ref sig .tc := ⟨.hbm, 87, rfl⟩
abbrev main_v72 : Ref sig .tc := ⟨.hbm, 88, rfl⟩
abbrev main_cst_10 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_12 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_cst_14 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_15 : Ref sig .tc := ⟨.hbm, 119, rfl⟩
abbrev main_v98 : Ref sig .tc := ⟨.hbm, 120, rfl⟩
abbrev main_v99 : Ref sig .tc := ⟨.hbm, 121, rfl⟩
abbrev main_cst_16 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_17 : Ref sig .tc := ⟨.hbm, 139, rfl⟩
abbrev main_v116 : Ref sig .tc := ⟨.hbm, 140, rfl⟩
abbrev main_v117 : Ref sig .tc := ⟨.hbm, 141, rfl⟩
abbrev main_cst_18 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x9x1024 : Shape := ⟨3, ![4, 9, 1024]⟩
abbrev S1024 : Shape := ⟨1, ![1024]⟩
abbrev S4x4096x512 : Shape := ⟨3, ![4, 4096, 512]⟩
abbrev S31x512 : Shape := ⟨2, ![31, 512]⟩
abbrev S512 : Shape := ⟨1, ![512]⟩
abbrev S2x1024x3072 : Shape := ⟨3, ![2, 1024, 3072]⟩
abbrev S3072 : Shape := ⟨1, ![3072]⟩
abbrev S2x3x512x1024 : Shape := ⟨4, ![2, 3, 512, 1024]⟩
abbrev S2x1024x1024 : Shape := ⟨3, ![2, 1024, 1024]⟩
abbrev S1x1024 : Shape := ⟨2, ![1, 1024]⟩
abbrev S1x512 : Shape := ⟨2, ![1, 512]⟩
abbrev S1x3072 : Shape := ⟨2, ![1, 3072]⟩
abbrev S1x512x1024 : Shape := ⟨3, ![1, 512, 1024]⟩
abbrev S1x9x1024 : Shape := ⟨3, ![1, 9, 1024]⟩
abbrev S1x512x512 : Shape := ⟨3, ![1, 512, 512]⟩
abbrev S1x32x512 : Shape := ⟨3, ![1, 32, 512]⟩
abbrev S1x1024x3072 : Shape := ⟨3, ![1, 1024, 3072]⟩
abbrev S1x3x512x1024 : Shape := ⟨4, ![1, 3, 512, 1024]⟩
abbrev S1x1024x1024 : Shape := ⟨3, ![1, 1024, 1024]⟩
abbrev S8x544x512 : Shape := ⟨3, ![8, 544, 512]⟩
abbrev S512x512 : Shape := ⟨2, ![512, 512]⟩
abbrev S512x1024 : Shape := ⟨2, ![512, 1024]⟩
abbrev S1x1x1024 : Shape := ⟨3, ![1, 1, 1024]⟩
abbrev S512x1 : Shape := ⟨2, ![512, 1]⟩
abbrev S32x512 : Shape := ⟨2, ![32, 512]⟩
abbrev S1x544x512 : Shape := ⟨3, ![1, 544, 512]⟩
abbrev S544x512 : Shape := ⟨2, ![544, 512]⟩
abbrev S128x512 : Shape := ⟨2, ![128, 512]⟩
abbrev S1x128x512 : Shape := ⟨3, ![1, 128, 512]⟩
abbrev S1024x1024 : Shape := ⟨2, ![1024, 1024]⟩
abbrev S1x1x512x1024 : Shape := ⟨4, ![1, 1, 512, 1024]⟩

abbrev nBuf : Space → Nat
  | .hbm => 23
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S4x9x1024, .f32⟩
  | .hbm, ⟨2, _⟩ => ⟨S1024, .f32⟩
  | .hbm, ⟨3, _⟩ => ⟨S4x4096x512, .bf16⟩
  | .hbm, ⟨4, _⟩ => ⟨S4x4096x512, .bf16⟩
  | .hbm, ⟨5, _⟩ => ⟨S4x4096x512, .f32⟩
  | .hbm, ⟨6, _⟩ => ⟨S31x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S2x1024x3072, .f32⟩
  | .hbm, ⟨11, _⟩ => ⟨S3072, .f32⟩
  | .hbm, ⟨12, _⟩ => ⟨S2x3x512x1024, .f32⟩
  | .hbm, ⟨13, _⟩ => ⟨S2x1024x1024, .f32⟩
  | .hbm, ⟨14, _⟩ => ⟨S2x1024x3072, .bf16⟩
  | .hbm, ⟨15, _⟩ => ⟨S2x3x512x1024, .bf16⟩
  | .hbm, ⟨16, _⟩ => ⟨S2x1024x1024, .bf16⟩
  | .hbm, ⟨17, _⟩ => ⟨S1x1024, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x3072, .f32⟩
  | .hbm, ⟨22, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x32x512, .f32⟩
  | .local _ .vmem, ⟨10, _⟩ => ⟨S1x32x512, .f32⟩
  | .local _ .vmem, ⟨11, _⟩ => ⟨S1x512x512, .f32⟩
  | .local _ .vmem, ⟨12, _⟩ => ⟨S1x512x512, .f32⟩
  | .local _ .vmem, ⟨13, _⟩ => ⟨S31x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x1024x3072, .bf16⟩
  | .local _ .vmem, ⟨18, _⟩ => ⟨S1x3072, .f32⟩
  | .local _ .vmem, ⟨19, _⟩ => ⟨S1x3x512x1024, .bf16⟩
  | .local _ .vmem, ⟨20, _⟩ => ⟨S1x1024x1024, .bf16⟩
  | .local _ .vmem, ⟨21, _⟩ => ⟨S1x512x1024, .f32⟩
  | .local _ .vmem, ⟨22, _⟩ => ⟨S1x512x1024, .f32⟩
  | .local _ .vmem, ⟨23, _⟩ => ⟨S8x544x512, .f32⟩
  | .local _ .vmem, ⟨24, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S4x4096x1024 : Shape := ⟨3, ![4, 4096, 1024]⟩
abbrev S4x9x1024 : Shape := ⟨3, ![4, 9, 1024]⟩
abbrev S1024 : Shape := ⟨1, ![1024]⟩
abbrev S4x4096x512 : Shape := ⟨3, ![4, 4096, 512]⟩
abbrev S31x512 : Shape := ⟨2, ![31, 512]⟩
abbrev S512 : Shape := ⟨1, ![512]⟩
abbrev S2x1024x3072 : Shape := ⟨3, ![2, 1024, 3072]⟩
abbrev S3072 : Shape := ⟨1, ![3072]⟩
abbrev S2x3x512x1024 : Shape := ⟨4, ![2, 3, 512, 1024]⟩
abbrev S2x1024x1024 : Shape := ⟨3, ![2, 1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x4126x512 : Shape := ⟨3, ![4, 4126, 512]⟩
abbrev S1x512 : Shape := ⟨2, ![1, 512]⟩
abbrev S1x1x512 : Shape := ⟨3, ![1, 1, 512]⟩
abbrev S1x4x4096x512 : Shape := ⟨4, ![1, 4, 4096, 512]⟩
abbrev S3x4x4096x512 : Shape := ⟨4, ![3, 4, 4096, 512]⟩
abbrev S1x3x512x1024 : Shape := ⟨4, ![1, 3, 512, 1024]⟩
abbrev S3x512x1024 : Shape := ⟨3, ![3, 512, 1024]⟩
abbrev S3x1024x4x4096 : Shape := ⟨4, ![3, 1024, 4, 4096]⟩
abbrev S4x4096x3x1024 : Shape := ⟨4, ![4, 4096, 3, 1024]⟩
abbrev S1x1024x3072 : Shape := ⟨3, ![1, 1024, 3072]⟩
abbrev S1024x3072 : Shape := ⟨2, ![1024, 3072]⟩
abbrev S4x4096x3072 : Shape := ⟨3, ![4, 4096, 3072]⟩
abbrev S1x1x3072 : Shape := ⟨3, ![1, 1, 3072]⟩
abbrev S1x1024x1024 : Shape := ⟨3, ![1, 1024, 1024]⟩
abbrev S1024x1024 : Shape := ⟨2, ![1024, 1024]⟩

abbrev nBuf : Space → Nat
  | .hbm => 343
  | .vmem => 0
  | .smem => 0
  | _ => 0

abbrev hbmTy0_0 (i : Nat) : BufTy := match i % 128 with
  | 0 => ⟨S4x4096x1024, .f32⟩
  | 1 => ⟨S4x9x1024, .f32⟩
  | 2 => ⟨S1024, .f32⟩
  | 3 => ⟨S4x4096x512, .bf16⟩
  | 4 => ⟨S4x4096x512, .bf16⟩
  | 5 => ⟨S4x4096x512, .f32⟩
  | 6 => ⟨S31x512, .f32⟩
  | 7 => ⟨S512, .f32⟩
  | 8 => ⟨S512, .f32⟩
  | 9 => ⟨S512, .f32⟩
  | 10 => ⟨S2x1024x3072, .f32⟩
  | 11 => ⟨S3072, .f32⟩
  | 12 => ⟨S2x3x512x1024, .f32⟩
  | 13 => ⟨S2x1024x1024, .f32⟩
  | 14 => ⟨S4x4096x1024, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S1x1x1024, .f32⟩
  | 28 => ⟨S4x4096x1024, .f32⟩
  | 29 => ⟨S4x4096x1024, .f32⟩
  | 30 => ⟨S4x1x1024, .f32⟩
  | 31 => ⟨S4x1024, .f32⟩
  | 32 => ⟨S4x1x1024, .f32⟩
  | 33 => ⟨S_, .f32⟩
  | 34 => ⟨S4x1x1024, .f32⟩
  | 35 => ⟨S4x1x1024, .f32⟩
  | 36 => ⟨S4x4096x1024, .f32⟩
  | 37 => ⟨S4x4096x1024, .f32⟩
  | 38 => ⟨S4x1x1024, .f32⟩
  | 39 => ⟨S4x1024, .f32⟩
  | 40 => ⟨S4x1x1024, .f32⟩
  | 41 => ⟨S4x4096x1024, .f32⟩
  | 42 => ⟨S4x4096x1024, .f32⟩
  | 43 => ⟨S_, .i32⟩
  | 44 => ⟨S_, .f32⟩
  | 45 => ⟨S4x4126x512, .f32⟩
  | 46 => ⟨S4x4096x512, .f32⟩
  | 47 => ⟨S1x512, .f32⟩
  | 48 => ⟨S512, .f32⟩
  | 49 => ⟨S1x1x512, .f32⟩
  | 50 => ⟨S4x4096x512, .f32⟩
  | 51 => ⟨S4x4096x512, .f32⟩
  | 52 => ⟨S_, .f32⟩
  | 53 => ⟨S4x4096x512, .f32⟩
  | 54 => ⟨S4x4096x512, .f32⟩
  | 55 => ⟨S4x4096x512, .f32⟩
  | 56 => ⟨S1x512, .f32⟩
  | 57 => ⟨S512, .f32⟩
  | 58 => ⟨S1x1x512, .f32⟩
  | 59 => ⟨S4x4096x512, .f32⟩
  | 60 => ⟨S4x4096x512, .f32⟩
  | 61 => ⟨S4x4096x512, .f32⟩
  | 62 => ⟨S4x4096x512, .f32⟩
  | 63 => ⟨S1x512, .f32⟩
  | 64 => ⟨S512, .f32⟩
  | 65 => ⟨S1x1x512, .f32⟩
  | 66 => ⟨S4x4096x512, .f32⟩
  | 67 => ⟨S4x4096x512, .f32⟩
  | 68 => ⟨S4x4096x512, .f32⟩
  | 69 => ⟨S4x4096x512, .f32⟩
  | 70 => ⟨S1x512, .f32⟩
  | 71 => ⟨S512, .f32⟩
  | 72 => ⟨S1x1x512, .f32⟩
  | 73 => ⟨S4x4096x512, .f32⟩
  | 74 => ⟨S4x4096x512, .f32⟩
  | 75 => ⟨S4x4096x512, .f32⟩
  | 76 => ⟨S4x4096x512, .f32⟩
  | 77 => ⟨S1x512, .f32⟩
  | 78 => ⟨S512, .f32⟩
  | 79 => ⟨S1x1x512, .f32⟩
  | 80 => ⟨S4x4096x512, .f32⟩
  | 81 => ⟨S4x4096x512, .f32⟩
  | 82 => ⟨S4x4096x512, .f32⟩
  | 83 => ⟨S4x4096x512, .f32⟩
  | 84 => ⟨S1x512, .f32⟩
  | 85 => ⟨S512, .f32⟩
  | 86 => ⟨S1x1x512, .f32⟩
  | 87 => ⟨S4x4096x512, .f32⟩
  | 88 => ⟨S4x4096x512, .f32⟩
  | 89 => ⟨S4x4096x512, .f32⟩
  | 90 => ⟨S4x4096x512, .f32⟩
  | 91 => ⟨S1x512, .f32⟩
  | 92 => ⟨S512, .f32⟩
  | 93 => ⟨S1x1x512, .f32⟩
  | 94 => ⟨S4x4096x512, .f32⟩
  | 95 => ⟨S4x4096x512, .f32⟩
  | 96 => ⟨S4x4096x512, .f32⟩
  | 97 => ⟨S4x4096x512, .f32⟩
  | 98 => ⟨S1x512, .f32⟩
  | 99 => ⟨S512, .f32⟩
  | 100 => ⟨S1x1x512, .f32⟩
  | 101 => ⟨S4x4096x512, .f32⟩
  | 102 => ⟨S4x4096x512, .f32⟩
  | 103 => ⟨S4x4096x512, .f32⟩
  | 104 => ⟨S4x4096x512, .f32⟩
  | 105 => ⟨S1x512, .f32⟩
  | 106 => ⟨S512, .f32⟩
  | 107 => ⟨S1x1x512, .f32⟩
  | 108 => ⟨S4x4096x512, .f32⟩
  | 109 => ⟨S4x4096x512, .f32⟩
  | 110 => ⟨S4x4096x512, .f32⟩
  | 111 => ⟨S4x4096x512, .f32⟩
  | 112 => ⟨S1x512, .f32⟩
  | 113 => ⟨S512, .f32⟩
  | 114 => ⟨S1x1x512, .f32⟩
  | 115 => ⟨S4x4096x512, .f32⟩
  | 116 => ⟨S4x4096x512, .f32⟩
  | 117 => ⟨S4x4096x512, .f32⟩
  | 118 => ⟨S4x4096x512, .f32⟩
  | 119 => ⟨S1x512, .f32⟩
  | 120 => ⟨S512, .f32⟩
  | 121 => ⟨S1x1x512, .f32⟩
  | 122 => ⟨S4x4096x512, .f32⟩
  | 123 => ⟨S4x4096x512, .f32⟩
  | 124 => ⟨S4x4096x512, .f32⟩
  | 125 => ⟨S4x4096x512, .f32⟩
  | 126 => ⟨S1x512, .f32⟩
  | 127 => ⟨S512, .f32⟩
  | _ => ⟨S4x4096x1024, .f32⟩

abbrev hbmTy0_1 (i : Nat) : BufTy := match i % 128 with
  | 0 => ⟨S1x1x512, .f32⟩
  | 1 => ⟨S4x4096x512, .f32⟩
  | 2 => ⟨S4x4096x512, .f32⟩
  | 3 => ⟨S4x4096x512, .f32⟩
  | 4 => ⟨S4x4096x512, .f32⟩
  | 5 => ⟨S1x512, .f32⟩
  | 6 => ⟨S512, .f32⟩
  | 7 => ⟨S1x1x512, .f32⟩
  | 8 => ⟨S4x4096x512, .f32⟩
  | 9 => ⟨S4x4096x512, .f32⟩
  | 10 => ⟨S4x4096x512, .f32⟩
  | 11 => ⟨S4x4096x512, .f32⟩
  | 12 => ⟨S1x512, .f32⟩
  | 13 => ⟨S512, .f32⟩
  | 14 => ⟨S1x1x512, .f32⟩
  | 15 => ⟨S4x4096x512, .f32⟩
  | 16 => ⟨S4x4096x512, .f32⟩
  | 17 => ⟨S4x4096x512, .f32⟩
  | 18 => ⟨S4x4096x512, .f32⟩
  | 19 => ⟨S1x512, .f32⟩
  | 20 => ⟨S512, .f32⟩
  | 21 => ⟨S1x1x512, .f32⟩
  | 22 => ⟨S4x4096x512, .f32⟩
  | 23 => ⟨S4x4096x512, .f32⟩
  | 24 => ⟨S4x4096x512, .f32⟩
  | 25 => ⟨S4x4096x512, .f32⟩
  | 26 => ⟨S1x512, .f32⟩
  | 27 => ⟨S512, .f32⟩
  | 28 => ⟨S1x1x512, .f32⟩
  | 29 => ⟨S4x4096x512, .f32⟩
  | 30 => ⟨S4x4096x512, .f32⟩
  | 31 => ⟨S4x4096x512, .f32⟩
  | 32 => ⟨S4x4096x512, .f32⟩
  | 33 => ⟨S1x512, .f32⟩
  | 34 => ⟨S512, .f32⟩
  | 35 => ⟨S1x1x512, .f32⟩
  | 36 => ⟨S4x4096x512, .f32⟩
  | 37 => ⟨S4x4096x512, .f32⟩
  | 38 => ⟨S4x4096x512, .f32⟩
  | 39 => ⟨S4x4096x512, .f32⟩
  | 40 => ⟨S1x512, .f32⟩
  | 41 => ⟨S512, .f32⟩
  | 42 => ⟨S1x1x512, .f32⟩
  | 43 => ⟨S4x4096x512, .f32⟩
  | 44 => ⟨S4x4096x512, .f32⟩
  | 45 => ⟨S4x4096x512, .f32⟩
  | 46 => ⟨S4x4096x512, .f32⟩
  | 47 => ⟨S1x512, .f32⟩
  | 48 => ⟨S512, .f32⟩
  | 49 => ⟨S1x1x512, .f32⟩
  | 50 => ⟨S4x4096x512, .f32⟩
  | 51 => ⟨S4x4096x512, .f32⟩
  | 52 => ⟨S4x4096x512, .f32⟩
  | 53 => ⟨S4x4096x512, .f32⟩
  | 54 => ⟨S1x512, .f32⟩
  | 55 => ⟨S512, .f32⟩
  | 56 => ⟨S1x1x512, .f32⟩
  | 57 => ⟨S4x4096x512, .f32⟩
  | 58 => ⟨S4x4096x512, .f32⟩
  | 59 => ⟨S4x4096x512, .f32⟩
  | 60 => ⟨S4x4096x512, .f32⟩
  | 61 => ⟨S1x512, .f32⟩
  | 62 => ⟨S512, .f32⟩
  | 63 => ⟨S1x1x512, .f32⟩
  | 64 => ⟨S4x4096x512, .f32⟩
  | 65 => ⟨S4x4096x512, .f32⟩
  | 66 => ⟨S4x4096x512, .f32⟩
  | 67 => ⟨S4x4096x512, .f32⟩
  | 68 => ⟨S1x512, .f32⟩
  | 69 => ⟨S512, .f32⟩
  | 70 => ⟨S1x1x512, .f32⟩
  | 71 => ⟨S4x4096x512, .f32⟩
  | 72 => ⟨S4x4096x512, .f32⟩
  | 73 => ⟨S4x4096x512, .f32⟩
  | 74 => ⟨S4x4096x512, .f32⟩
  | 75 => ⟨S1x512, .f32⟩
  | 76 => ⟨S512, .f32⟩
  | 77 => ⟨S1x1x512, .f32⟩
  | 78 => ⟨S4x4096x512, .f32⟩
  | 79 => ⟨S4x4096x512, .f32⟩
  | 80 => ⟨S4x4096x512, .f32⟩
  | 81 => ⟨S4x4096x512, .f32⟩
  | 82 => ⟨S1x512, .f32⟩
  | 83 => ⟨S512, .f32⟩
  | 84 => ⟨S1x1x512, .f32⟩
  | 85 => ⟨S4x4096x512, .f32⟩
  | 86 => ⟨S4x4096x512, .f32⟩
  | 87 => ⟨S4x4096x512, .f32⟩
  | 88 => ⟨S4x4096x512, .f32⟩
  | 89 => ⟨S1x512, .f32⟩
  | 90 => ⟨S512, .f32⟩
  | 91 => ⟨S1x1x512, .f32⟩
  | 92 => ⟨S4x4096x512, .f32⟩
  | 93 => ⟨S4x4096x512, .f32⟩
  | 94 => ⟨S4x4096x512, .f32⟩
  | 95 => ⟨S4x4096x512, .f32⟩
  | 96 => ⟨S1x512, .f32⟩
  | 97 => ⟨S512, .f32⟩
  | 98 => ⟨S1x1x512, .f32⟩
  | 99 => ⟨S4x4096x512, .f32⟩
  | 100 => ⟨S4x4096x512, .f32⟩
  | 101 => ⟨S4x4096x512, .f32⟩
  | 102 => ⟨S4x4096x512, .f32⟩
  | 103 => ⟨S1x512, .f32⟩
  | 104 => ⟨S512, .f32⟩
  | 105 => ⟨S1x1x512, .f32⟩
  | 106 => ⟨S4x4096x512, .f32⟩
  | 107 => ⟨S4x4096x512, .f32⟩
  | 108 => ⟨S4x4096x512, .f32⟩
  | 109 => ⟨S4x4096x512, .f32⟩
  | 110 => ⟨S1x512, .f32⟩
  | 111 => ⟨S512, .f32⟩
  | 112 => ⟨S1x1x512, .f32⟩
  | 113 => ⟨S4x4096x512, .f32⟩
  | 114 => ⟨S4x4096x512, .f32⟩
  | 115 => ⟨S4x4096x512, .f32⟩
  | 116 => ⟨S4x4096x512, .f32⟩
  | 117 => ⟨S1x512, .f32⟩
  | 118 => ⟨S512, .f32⟩
  | 119 => ⟨S1x1x512, .f32⟩
  | 120 => ⟨S4x4096x512, .f32⟩
  | 121 => ⟨S4x4096x512, .f32⟩
  | 122 => ⟨S4x4096x512, .f32⟩
  | 123 => ⟨S4x4096x512, .f32⟩
  | 124 => ⟨S1x512, .f32⟩
  | 125 => ⟨S512, .f32⟩
  | 126 => ⟨S1x1x512, .f32⟩
  | 127 => ⟨S4x4096x512, .f32⟩
  | _ => ⟨S4x4096x1024, .f32⟩

abbrev hbmTy0_2 (i : Nat) : BufTy := match i % 128 with
  | 0 => ⟨S4x4096x512, .f32⟩
  | 1 => ⟨S4x4096x512, .f32⟩
  | 2 => ⟨S4x4096x512, .f32⟩
  | 3 => ⟨S1x512, .f32⟩
  | 4 => ⟨S512, .f32⟩
  | 5 => ⟨S1x1x512, .f32⟩
  | 6 => ⟨S4x4096x512, .f32⟩
  | 7 => ⟨S4x4096x512, .f32⟩
  | 8 => ⟨S4x4096x512, .f32⟩
  | 9 => ⟨S1x1x512, .f32⟩
  | 10 => ⟨S4x4096x512, .f32⟩
  | 11 => ⟨S4x4096x512, .f32⟩
  | 12 => ⟨S_, .f32⟩
  | 13 => ⟨S4x4096, .f32⟩
  | 14 => ⟨S4x4096x1, .f32⟩
  | 15 => ⟨S_, .f32⟩
  | 16 => ⟨S4x4096x1, .f32⟩
  | 17 => ⟨S4x4096x1, .f32⟩
  | 18 => ⟨S4x4096x512, .f32⟩
  | 19 => ⟨S4x4096x512, .f32⟩
  | 20 => ⟨S4x4096x512, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S4x4096x512, .f32⟩
  | 28 => ⟨S4x4096x512, .f32⟩
  | 29 => ⟨S_, .f32⟩
  | 30 => ⟨S4x4096x1, .f32⟩
  | 31 => ⟨S4x4096x1, .f32⟩
  | 32 => ⟨S4x4096x1, .f32⟩
  | 33 => ⟨S4x4096x512, .f32⟩
  | 34 => ⟨S4x4096x512, .f32⟩
  | 35 => ⟨S1x1x512, .f32⟩
  | 36 => ⟨S4x4096x512, .f32⟩
  | 37 => ⟨S4x4096x512, .f32⟩
  | 38 => ⟨S1x1x512, .f32⟩
  | 39 => ⟨S4x4096x512, .f32⟩
  | 40 => ⟨S4x4096x512, .f32⟩
  | 41 => ⟨S4x4096x512, .f32⟩
  | 42 => ⟨S4x4096x512, .f32⟩
  | 43 => ⟨S_, .f32⟩
  | 44 => ⟨S4x4096x512, .f32⟩
  | 45 => ⟨S4x4096x512, .f32⟩
  | 46 => ⟨S_, .f32⟩
  | 47 => ⟨S4x4096x512, .f32⟩
  | 48 => ⟨S4x4096x512, .f32⟩
  | 49 => ⟨S4x4096x512, .f32⟩
  | 50 => ⟨S4x4096x512, .f32⟩
  | 51 => ⟨S4x4096x512, .f32⟩
  | 52 => ⟨S1x4x4096x512, .f32⟩
  | 53 => ⟨S1x4x4096x512, .f32⟩
  | 54 => ⟨S1x4x4096x512, .f32⟩
  | 55 => ⟨S3x4x4096x512, .f32⟩
  | 56 => ⟨S1x3x512x1024, .f32⟩
  | 57 => ⟨S3x512x1024, .f32⟩
  | 58 => ⟨S3x1024x4x4096, .f32⟩
  | 59 => ⟨S4x4096x3x1024, .f32⟩
  | 60 => ⟨S1x1024x3072, .f32⟩
  | 61 => ⟨S1024x3072, .f32⟩
  | 62 => ⟨S4x4096x3072, .f32⟩
  | 63 => ⟨S1x1x3072, .f32⟩
  | 64 => ⟨S4x4096x3072, .f32⟩
  | 65 => ⟨S4x4096x3072, .f32⟩
  | 66 => ⟨S4x4096x3072, .f32⟩
  | 67 => ⟨S4x4096x3072, .f32⟩
  | 68 => ⟨S_, .f32⟩
  | 69 => ⟨S4x4096x3072, .f32⟩
  | 70 => ⟨S4x4096x3072, .f32⟩
  | 71 => ⟨S_, .f32⟩
  | 72 => ⟨S4x4096x3072, .f32⟩
  | 73 => ⟨S4x4096x3072, .f32⟩
  | 74 => ⟨S4x4096x3x1024, .f32⟩
  | 75 => ⟨S4x1x1024, .f32⟩
  | 76 => ⟨S4x1024, .f32⟩
  | 77 => ⟨S4x1x1024, .f32⟩
  | 78 => ⟨S4x4096x3x1024, .f32⟩
  | 79 => ⟨S_, .f32⟩
  | 80 => ⟨S4x4096x1024, .f32⟩
  | 81 => ⟨S1x1024x1024, .f32⟩
  | 82 => ⟨S1024x1024, .f32⟩
  | 83 => ⟨S4x4096x1024, .f32⟩
  | 84 => ⟨S4x4096x1024, .f32⟩
  | 85 => ⟨S4x4096x1024, .f32⟩
  | 86 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_call0_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_cst_4 : Ref sig .tc := ⟨.hbm, 268, rfl⟩
abbrev main_v247 : Ref sig .tc := ⟨.hbm, 269, rfl⟩
abbrev main_v248 : Ref sig .tc := ⟨.hbm, 270, rfl⟩
abbrev main_cst_5 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_cst_6 : Ref sig .tc := ⟨.hbm, 277, rfl⟩
abbrev main_v254 : Ref sig .tc := ⟨.hbm, 278, rfl⟩
abbrev main_v255 : Ref sig .tc := ⟨.hbm, 279, rfl⟩
abbrev main_cst_7 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_cst_8 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_cst_9 : Ref sig .tc := ⟨.hbm, 299, rfl⟩
abbrev main_v273 : Ref sig .tc := ⟨.hbm, 300, rfl⟩
abbrev main_v274 : Ref sig .tc := ⟨.hbm, 301, rfl⟩
abbrev main_cst_10 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_cst_11 : Ref sig .tc := ⟨.hbm, 324, rfl⟩
abbrev main_v296 : Ref sig .tc := ⟨.hbm, 325, rfl⟩
abbrev main_v297 : Ref sig .tc := ⟨.hbm, 326, rfl⟩
abbrev main_cst_12 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_cst_13 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩
abbrev main_v309 : Ref sig .tc := ⟨.hbm, 340, rfl⟩
abbrev main_v310 : Ref sig .tc := ⟨.hbm, 341, rfl⟩
abbrev main_v311 : Ref sig .tc := ⟨.hbm, 342, rfl⟩

abbrev nD : Nat := 1
abbrev τ : Topo := Topo.v7x

variable {F : FTy → Type} [FloatOps F]
-- ==== Kernel5.lean ====
abbrev S4x1024 : Shape := ⟨2, ![4, 1024]⟩
abbrev S2x1024x9216 : Shape := ⟨3, ![2, 1024, 9216]⟩
abbrev S2x9216 : Shape := ⟨2, ![2, 9216]⟩
abbrev S_ : Shape := ⟨0, ![]⟩
abbrev S8x1024 : Shape := ⟨2, ![8, 1024]⟩
abbrev S2x1x9216 : Shape := ⟨3, ![2, 1, 9216]⟩
abbrev S2x8x9216 : Shape := ⟨3, ![2, 8, 9216]⟩
abbrev S1x1024x2304 : Shape := ⟨3, ![1, 1024, 2304]⟩
abbrev S1x1x2304 : Shape := ⟨3, ![1, 1, 2304]⟩
abbrev S1x8x2304 : Shape := ⟨3, ![1, 8, 2304]⟩
abbrev S1024x2304 : Shape := ⟨2, ![1024, 2304]⟩
abbrev S8x2304 : Shape := ⟨2, ![8, 2304]⟩
abbrev S1x2304 : Shape := ⟨2, ![1, 2304]⟩
abbrev S2x4x9216 : Shape := ⟨3, ![2, 4, 9216]⟩
abbrev S2x4x9x1024 : Shape := ⟨4, ![2, 4, 9, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x9216, .f32⟩
  | .hbm, ⟨2, _⟩ => ⟨S2x9216, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S2x1x9216, .f32⟩
  | .hbm, ⟨7, _⟩ => ⟨S2x8x9216, .f32⟩
  | .hbm, ⟨8, _⟩ => ⟨S2x4x9216, .f32⟩
  | .hbm, ⟨9, _⟩ => ⟨S2x4x9x1024, .f32⟩
  | .local _ .vmem, ⟨0, _⟩ => ⟨S8x1024, .f32⟩
  | .local _ .vmem, ⟨1, _⟩ => ⟨S1x1024x2304, .f32⟩
  | .local _ .vmem, ⟨2, _⟩ => ⟨S1x1024x2304, .f32⟩
  | .local _ .vmem, ⟨3, _⟩ => ⟨S1x1x2304, .f32⟩
  | .local _ .vmem, ⟨4, _⟩ => ⟨S1x1x2304, .f32⟩
  | .local _ .vmem, ⟨5, _⟩ => ⟨S1x8x2304, .f32⟩
  | .local _ .vmem, ⟨6, _⟩ => ⟨S1x8x2304, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x1024 : Shape := ⟨2, ![4, 1024]⟩
abbrev S2x1024x9216 : Shape := ⟨3, ![2, 1024, 9216]⟩
abbrev S2x9216 : Shape := ⟨2, ![2, 9216]⟩
abbrev S_ : Shape := ⟨0, ![]⟩
abbrev S2x9216x4 : Shape := ⟨3, ![2, 9216, 4]⟩
abbrev S2x4x9216 : Shape := ⟨3, ![2, 4, 9216]⟩
abbrev S2x1x9216 : Shape := ⟨3, ![2, 1, 9216]⟩
abbrev S2x4x9x1024 : Shape := ⟨4, ![2, 4, 9, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x9216, .f32⟩
  | .hbm, ⟨2, _⟩ => ⟨S2x9216, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S2x9216x4, .f32⟩
  | .hbm, ⟨13, _⟩ => ⟨S2x4x9216, .f32⟩
  | .hbm, ⟨14, _⟩ => ⟨S2x1x9216, .f32⟩
  | .hbm, ⟨15, _⟩ => ⟨S2x4x9216, .f32⟩
  | .hbm, ⟨16, _⟩ => ⟨S2x4x9216, .f32⟩
  | .hbm, ⟨17, _⟩ => ⟨S2x4x9x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.FfnModel.lean ====
/-
  The macaron feed-forward half step as a function of one row, over the extended reals. The kernel's blocks and the
  reference are both read as this function.
-/
module

public import Idealize.ShloMosaic.PureOps.Ideal
public import Idealize.ShloMosaic.Lib.ValueIdx

@[expose] public section

noncomputable section

namespace Cert.Ffn

open Idealize.ShloMosaic

/-- A row scaled to mean square one, times the gain, then modulated. -/
def normMod (x g shift scale : Fin 1024 → EReal) (k : Fin 1024) : EReal :=
  x k * Ideal.rsqrt (Ideal.div (∑ j, x j * x j) (Ideal.ofBits .f32 0x44800000#32) + Ideal.ofBits .f32 0x358637BD#32) * g k
    * (1 + scale k) + shift k

/-- One hidden unit: the gate's `t / (1 + exp (-t))` times the up-projection. -/
def unit (h wg wu : Fin 1024 → EReal) : EReal :=
  (∑ k, h k * wg k) * Ideal.div 1 (1 + Ideal.exp (0 - ∑ k, h k * wg k)) * ∑ k, h k * wu k

/-- One element of the half step's result. -/
def out (x : Fin 1024 → EReal) (md : Fin 9 → Fin 1024 → EReal) (g : Fin 1024 → EReal)
    (wu : Fin 1024 → Fin 5632 → EReal) (wd : Fin 2816 → Fin 1024 → EReal) (c : Fin 1024) : EReal :=
  x c + Ideal.ofBits .f32 0x3F000000#32 * md 2 c *
    ∑ f : Fin 2816, unit (normMod x g (md 0) (md 1)) (fun k => wu k ⟨f.val, by omega⟩) (fun k => wu k ⟨2816 + f.val, by omega⟩) * wd f c

end Cert.Ffn

end
-- ==== Proof.FfnKernel.lean ====
/-
  The feed-forward call: what one grid point computes, index by index, and the array that the grid leaves.
-/
module

public import proofs.«01_k».proof.Defs
public import proofs.«01_k».proof.Proof.Gen.KernelIdeal.Value
public import proofs.«01_k».proof.Proof.FfnModel
public import Idealize.ShloMosaic.Lib.Pointwise
public import Idealize.ShloMosaic.Lib.MatmulPlain
public import Idealize.ShloMosaic.Lib.Pipeline.ValueKit

@[expose] public section

set_option maxRecDepth 16384

noncomputable section

namespace Cert.FfnKernel

open Cert.KernelIdeal Cert.KernelIdeal.Gen Idealize.ShloMosaic Idealize.ShloMosaic.TcCoe Idealize.SL.Sem
open Idealize.ShloMosaic.Pipeline (Dat)

/-- A tile of hidden units, at one index. -/
theorem tile_apply (h : FVec Ideal S1024x1024 .bf16) (wg wu : Vec Ideal S1x1x1024x256 .bf16) (r : Fin 1024) (c : Fin 256) :
    k0_pay8 (F := Ideal) h wg wu (ix2 r c) = Ffn.unit (fun k => h (ix2 r k)) (fun k => wg (ix4 0 0 k c)) (fun k => wu (ix4 0 0 k c)) := by
  pointwise [k0_pay8, Ffn.unit]

/-- The normed and modulated rows, at one index. -/
theorem rows_apply (x : Vec Ideal S1x1024x1024 .f32) (g : Vec Ideal S1x1024 .f32) (a b : Vec Ideal S1x1x1024 .f32) (r c : Fin 1024) :
    k0_pay4 (F := Ideal) x g a b (ix2 r c)
      = Ffn.normMod (fun k => x (ix3 0 r k)) (fun k => g (ix2 0 k)) (fun k => a (ix3 0 0 k)) (fun k => b (ix3 0 0 k)) c := by
  pointwise [k0_pay4, k0_pay3, Ffn.normMod]

/-- The second product, gated and added to the rows, at one index. -/
theorem last_apply (x : FVec Ideal S1024x1024 .f32) (v : Vec Ideal S1024x2816 .bf16) (w : Vec Ideal S1x1x2816x1024 .bf16)
    (g : Vec Ideal S1x1x1024 .f32) (r c : Fin 1024) :
    k0_pay2 (F := Ideal) x v w g (ix3 0 r c)
      = x (ix2 r c) + Ideal.ofBits .f32 0x3F000000#32 * g (ix3 0 0 c) * ∑ f, v (ix2 r f) * w (ix4 0 0 f c) := by
  pointwise [k0_pay2]

/-- The hidden units of a block of rows. -/
def hidden (x : Vec Ideal S1x1024x1024 .f32) (md : Vec Ideal S1x9x1024 .f32) (g : Vec Ideal S1x1024 .f32)
    (wu : Vec Ideal S1x1x1024x5632 .bf16) (r : Fin 1024) (f : ℕ) (hf : f < 2816) : EReal :=
  Ffn.unit (Ffn.normMod (fun k => x (ix3 0 r k)) (fun k => g (ix2 0 k)) (fun k => md (ix3 0 0 k)) (fun k => md (ix3 0 1 k)))
    (fun k => wu (ix4 0 0 k ⟨f, by omega⟩)) (fun k => wu (ix4 0 0 k ⟨2816 + f, by omega⟩))

/-- A tile stored at lane `o`, whose weights were loaded at lanes `o` and `2816 + o`, holds the hidden units of those lanes. -/
theorem tile_at (x : Vec Ideal S1x1024x1024 .f32) (md : Vec Ideal S1x9x1024 .f32) (g : Vec Ideal S1x1024 .f32)
    (wu : Vec Ideal S1x1x1024x5632 .bf16) (o o' : ℕ) (inb inb') (ho : o' = 2816 + o) (hlt : o + 256 ≤ 2816) (r : Fin 1024) (f : Fin 2816)
    (a0 a1) :
    View.TileAt (Val := Elt Ideal) (e := .bf16) (S := S1024x2816) (ix2 r f) ![0, o] ![1024, 256]
      (k0_pay8 (F := Ideal) (k0_pay4 x g (View.ld md (Rect.unit ![0, 0, 0] ![1, 1, 1024] a0)) (View.ld md (Rect.unit ![0, 1, 0] ![1, 1, 1024] a1)))
        (View.ld wu (Rect.unit ![0, 0, 0, o] ![1, 1, 1024, 256] inb)) (View.ld wu (Rect.unit ![0, 0, 0, o'] ![1, 1, 1024, 256] inb')))
      (hidden x md g wu r f.val f.isLt) := by
  intro z hz
  have h0 : (z 0).val = r.val := by have := hz 0; simpa using this.symm
  have h1 : f.val = o + (z 1).val := by have := hz 1; simpa using this
  have hz' : z = ix2 r (z 1) := by
    funext a
    match a with
    | ⟨0, _⟩ => exact Fin.ext h0
    | ⟨1, _⟩ => rfl
  rw [hz']
  generalize hc : z 1 = c at h1 ⊢
  refine (tile_apply _ _ _ r c).trans ?_
  unfold hidden
  congr 1
  · funext k
    refine (rows_apply _ _ _ _ r k).trans ?_
    congr 1
    · funext j; exact View.ld_unit_apply_of md _ _ a0 _ _ fun a => by match a with | ⟨0, _⟩ => rfl | ⟨1, _⟩ => rfl | ⟨2, _⟩ => exact (Nat.zero_add _).symm
    · funext j; exact View.ld_unit_apply_of md _ _ a1 _ _ fun a => by match a with | ⟨0, _⟩ => rfl | ⟨1, _⟩ => rfl | ⟨2, _⟩ => exact (Nat.zero_add _).symm
  · funext k; exact View.ld_unit_apply_of wu _ _ inb _ _ fun a => by match a with | ⟨0, _⟩ => rfl | ⟨1, _⟩ => rfl | ⟨2, _⟩ => exact (Nat.zero_add _).symm | ⟨3, _⟩ => exact h1
  · funext k; exact View.ld_unit_apply_of wu _ _ inb' _ _ fun a => by match a with | ⟨0, _⟩ => rfl | ⟨1, _⟩ => rfl | ⟨2, _⟩ => exact (Nat.zero_add _).symm | ⟨3, _⟩ => show 2816 + f.val = o' + c.val; omega

set_option maxHeartbeats 1000000 in
/-- What a grid point leaves in its output block, at one index: the half step of that row. -/
theorem block_apply (c : Dev nD) (i : grid0.Coords) (arg2 : Memref sig .tc .vmem S1x1024x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1x1x1024x5632 .bf16) (harg5 : arg5.IsWhole) (arg6 : Memref sig .tc .vmem S1x1x2816x1024 .bf16) (harg6 : arg6.IsWhole) (arg7 : Memref sig .tc .vmem S1x1024x1024 .f32) (harg7 : arg7.IsWhole) (arg8 : Memref sig .tc .vmem S1024x2816 .bf16) (harg8 : arg8.IsWhole)
    (x0 : Vec Ideal S1x1024x1024 .f32) (x1 : Vec Ideal S1x9x1024 .f32) (x2 : Vec Ideal S1x1024 .f32) (x3 : Vec Ideal S1x1x1024x5632 .bf16) (x4 : Vec Ideal S1x1x2816x1024 .bf16) (r j : Fin 1024) :
    out0_A_5 (F := Ideal) c i arg2 harg2 arg3 harg3 arg4 harg4 arg5 harg5 arg6 harg6 arg7 harg7 arg8 harg8 x0 x1 x2 x3 x4 (ix3 0 r j)
      = Ffn.out (fun k => x0 (ix3 0 r k)) (fun a k => x1 (ix3 0 a k)) (fun k => x2 (ix2 0 k)) (fun k f => x3 (ix4 0 0 k f)) (fun f k => x4 (ix4 0 0 f k)) j := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  sl_unfold_words
  rw [View.canon_cons_unit_lit _ _ _ (by decide)]
  simp only [View.readAt_eq_ld, harg2.read_unread, harg3.read_unread, harg4.read_unread, harg5.read_unread, harg6.read_unread]
  have hx : View.ld x0 (Rect.unit ![0, 0, 0] S1x1024x1024.size inb_S1x1024x1024_S1x1024x1024_0_0_0) = x0 := View.ld_unit_lit _ _ (by decide)
  have hg : View.ld x2 (Rect.unit ![0, 0] S1x1024.size inb_S1x1024_S1x1024_0_0) = x2 := View.ld_unit_lit _ _ (by decide)
  have hw : View.ld x4 (Rect.unit ![0, 0, 0, 0] ![1, 1, 2816, 1024] inb_S1x1x2816x1024_S1x1x2816x1024_0_0_0_0) = x4 := View.ld_unit_lit (S := S1x1x2816x1024) _ _ (by decide)
  simp only [hx, hg, hw]
  refine (last_apply _ _ _ _ r j).trans ?_
  unfold Ffn.out
  refine congr_arg₂ (· + ·) ?_ (congr_arg₂ (· * ·) (congrArg _ ?_) (Finset.sum_congr rfl fun f _ => congrArg (· * _) ?_))
  · pointwise [k0_pay3]
  · exact View.ld_unit_apply_of x1 _ _ _ _ _ fun a => by match a with | ⟨0, _⟩ => rfl | ⟨1, _⟩ => rfl | ⟨2, _⟩ => exact (Nat.zero_add _).symm
  · rw [View.readCov_eq_canon']
    refine (congrArg (View.canon _) (?_ : _ = ix2 r f)).trans ?_
    · funext a; apply Fin.ext
      match a with
      | ⟨0, _⟩ => show 0 + 1 * r.val = r.val; omega
      | ⟨1, _⟩ => show 0 + 1 * f.val = f.val; omega
    refine View.canon_eq_of_allAt (Val := Elt Ideal) (e := .bf16) (S := S1024x2816) _ (ix2 r f) (hidden x0 x1 x2 x3 r f.val f.isLt) (View.cover_of_tiled_head _ _ _ (by sl_kernel_rfl) _) ?_
    refine View.allAt_cons_unit _ _ _ _ _ (tile_at x0 x1 x2 x3 2560 5376 (by decide) (by decide) rfl (by decide) r f (by decide) (by decide)) ?_
    refine View.allAt_cons_unit _ _ _ _ _ (tile_at x0 x1 x2 x3 2304 5120 (by decide) (by decide) rfl (by decide) r f (by decide) (by decide)) ?_
    refine View.allAt_cons_unit _ _ _ _ _ (tile_at x0 x1 x2 x3 2048 4864 (by decide) (by decide) rfl (by decide) r f (by decide) (by decide)) ?_
    refine View.allAt_cons_unit _ _ _ _ _ (tile_at x0 x1 x2 x3 1792 4608 (by decide) (by decide) rfl (by decide) r f (by decide) (by decide)) ?_
    refine View.allAt_cons_unit _ _ _ _ _ (tile_at x0 x1 x2 x3 1536 4352 (by decide) (by decide) rfl (by decide) r f (by decide) (by decide)) ?_
    refine View.allAt_cons_unit _ _ _ _ _ (tile_at x0 x1 x2 x3 1280 4096 (by decide) (by decide) rfl (by decide) r f (by decide) (by decide)) ?_
    refine View.allAt_cons_unit _ _ _ _ _ (tile_at x0 x1 x2 x3 1024 3840 (by decide) (by decide) rfl (by decide) r f (by decide) (by decide)) ?_
    refine View.allAt_cons_unit _ _ _ _ _ (tile_at x0 x1 x2 x3 768 3584 (by decide) (by decide) rfl (by decide) r f (by decide) (by decide)) ?_
    refine View.allAt_cons_unit _ _ _ _ _ (tile_at x0 x1 x2 x3 512 3328 (by decide) (by decide) rfl (by decide) r f (by decide) (by decide)) ?_
    refine View.allAt_cons_unit _ _ _ _ _ (tile_at x0 x1 x2 x3 256 3072 (by decide) (by decide) rfl (by decide) r f (by decide) (by decide)) ?_
    refine View.allAt_cons_unit _ _ _ _ _ (tile_at x0 x1 x2 x3 0 2816 (by decide) (by decide) rfl (by decide) r f (by decide) (by decide)) ?_
    exact View.allAt_nil _ _

end Cert.FfnKernel
-- ==== Proof.FfnArray.lean ====
/-
  The feed-forward call's blocks placed in the arrays: what the grid leaves in the result, as a function of the arguments.
-/
module

public import proofs.«01_k».proof.Proof.FfnKernel

@[expose] public section

set_option maxRecDepth 16384

noncomputable section

namespace Cert.FfnArray

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The half step of every row of every batch. -/
def result (x0 : FVec Ideal S4x4096x1024 .f32) (x1 : FVec Ideal S4x9x1024 .f32) (x2 : FVec Ideal S1024 .f32)
    (x3 : FVec Ideal S2x2x1024x5632 .f32) (x4 : FVec Ideal S2x2x2816x1024 .f32) : FVec Ideal S4x4096x1024 .f32 :=
  fun i => Ffn.out (fun k => x0 (ix3 (i 0) (i 1) k)) (fun a k => x1 (ix3 (i 0) a k)) (fun k => x2 (ix1 k))
    (fun k f => x3 (ix4 0 0 k f)) (fun f k => x4 (ix4 0 0 f k)) (i 2)

/-- The gain as the region finds it: the argument as one row. -/
theorem gain_eq (c : Dev nD) : V m c main_v2 = shapeCast (s := S1024) S1x1024 (m ((c : Thread nD τ).loc main_arg2)) shapeCasts_S1024_S1x1024 := by
  rfl

/-- The weights as the region finds them: the arguments, cast. -/
theorem up_eq (c : Dev nD) : V m c main_v0 = truncf (F := Ideal) (s := S2x2x1024x5632) (φ := .f32) .bf16 (m ((c : Thread nD τ).loc main_arg3)) bitsLt_bf16_f32 := by
  rfl

theorem down_eq (c : Dev nD) : V m c main_v1 = truncf (F := Ideal) (s := S2x2x2816x1024) (φ := .f32) .bf16 (m ((c : Thread nD τ).loc main_arg4)) bitsLt_bf16_f32 := by
  rfl

/-- The block indices of the row windows at each grid point. -/
theorem rows_index : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

theorem mod_index : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

theorem gain_index : ∀ t : Fin cfg0.N, win0_2.index t 0 = 0 ∧ win0_2.index t 1 = 0 :=
  (by decide +kernel : ∀ t : Fin grid0.N, win0_2.index t 0 = 0 ∧ win0_2.index t 1 = 0)

theorem up_index : ∀ t : Fin cfg0.N, win0_3.index t 0 = 0 ∧ win0_3.index t 1 = 0 ∧ win0_3.index t 2 = 0 ∧ win0_3.index t 3 = 0 :=
  (by decide +kernel : ∀ t : Fin grid0.N, win0_3.index t 0 = 0 ∧ win0_3.index t 1 = 0 ∧ win0_3.index t 2 = 0 ∧ win0_3.index t 3 = 0)

theorem down_index : ∀ t : Fin cfg0.N, win0_4.index t 0 = 0 ∧ win0_4.index t 1 = 0 ∧ win0_4.index t 2 = 0 ∧ win0_4.index t 3 = 0 :=
  (by decide +kernel : ∀ t : Fin grid0.N, win0_4.index t 0 = 0 ∧ win0_4.index t 1 = 0 ∧ win0_4.index t 2 = 0 ∧ win0_4.index t 3 = 0)

theorem out_index : ∀ t : Fin cfg0.N, win0_5.index t 0 = t.val / 4 ∧ win0_5.index t 1 = t.val % 4 ∧ win0_5.index t 2 = 0 :=
  (by decide +kernel : ∀ t : Fin grid0.N, win0_5.index t 0 = t.val / 4 ∧ win0_5.index t 1 = t.val % 4 ∧ win0_5.index t 2 = 0)

/-- The batch a grid point works on. -/
def bat (t : Fin cfg0.N) : Fin 4 := ⟨t.val / 4, by have h : t.val < 16 := t.isLt; omega⟩

/-- The array row of a block's row. -/
def row (t : Fin cfg0.N) (r : Fin 1024) : Fin 4096 := ⟨t.val % 4 * 1024 + r.val, by omega⟩

theorem rows_block (c : Dev nD) (t : Fin cfg0.N) (r k : Fin 1024) :
    iblk m c 0 t (ix3 0 r k) = m ((c : Thread nD τ).loc main_arg0) (ix3 (bat t) (row t r) k) := by
  unfold iblk
  rw [View.read_apply]
  show V m c main_arg0 _ = _
  rw [V_main_arg0]
  refine congrArg _ (funext fun a => Fin.ext ?_)
  have h := rows_index t
  match a with
  | ⟨0, _⟩ => show win0_0.index t 0 * 1 + 1 * 0 = t.val / 4; rw [h.1]; omega
  | ⟨1, _⟩ => show win0_0.index t 1 * 1024 + 1 * r.val = t.val % 4 * 1024 + r.val; rw [h.2.1]; omega
  | ⟨2, _⟩ => show win0_0.index t 2 * 1024 + 1 * k.val = k.val; rw [h.2.2]; omega

theorem mod_block (c : Dev nD) (t : Fin cfg0.N) (r : Fin 9) (k : Fin 1024) :
    iblk m c 1 t (ix3 0 r k) = m ((c : Thread nD τ).loc main_arg1) (ix3 (bat t) r k) := by
  unfold iblk
  rw [View.read_apply]
  show V m c main_arg1 _ = _
  rw [V_main_arg1]
  refine congrArg _ (funext fun a => Fin.ext ?_)
  have h := mod_index t
  match a with
  | ⟨0, _⟩ => show win0_1.index t 0 * 1 + 1 * 0 = t.val / 4; rw [h.1]; omega
  | ⟨1, _⟩ => show win0_1.index t 1 * 9 + 1 * r.val = r.val; rw [h.2.1]; omega
  | ⟨2, _⟩ => show win0_1.index t 2 * 1024 + 1 * k.val = k.val; rw [h.2.2]; omega

theorem gain_block (c : Dev nD) (t : Fin cfg0.N) (k : Fin 1024) :
    iblk m c 2 t (ix2 0 k) = m ((c : Thread nD τ).loc main_arg2) (ix1 k) := by
  unfold iblk
  rw [View.read_apply]
  show V m c main_v2 _ = _
  rw [gain_eq]
  have hi : (((cfg0.win 2).blk t).view.emb (ix2 0 k) : S1x1024.Idx) = ix2 0 k := by
    funext a
    apply Fin.ext
    have h := gain_index t
    match a with
    | ⟨0, _⟩ => show win0_2.index t 0 * 1 + 1 * 0 = 0; rw [h.1]
    | ⟨1, _⟩ => show win0_2.index t 1 * 1024 + 1 * k.val = k.val; rw [h.2]; omega
  refine (congrArg _ hi).trans ?_
  pointwise

theorem up_block (c : Dev nD) (t : Fin cfg0.N) (k : Fin 1024) (f : Fin 5632) :
    iblk m c 3 t (ix4 0 0 k f) = m ((c : Thread nD τ).loc main_arg3) (ix4 0 0 k f) := by
  unfold iblk
  rw [View.read_apply]
  show V m c main_v0 _ = _
  rw [up_eq]
  refine congrArg (m ((c : Thread nD τ).loc main_arg3)) (funext fun a => Fin.ext ?_)
  have h := up_index t
  match a with
  | ⟨0, _⟩ => show win0_3.index t 0 * 1 + 1 * 0 = 0; rw [h.1]
  | ⟨1, _⟩ => show win0_3.index t 1 * 1 + 1 * 0 = 0; rw [h.2.1]
  | ⟨2, _⟩ => show win0_3.index t 2 * 1024 + 1 * k.val = k.val; rw [h.2.2.1]; omega
  | ⟨3, _⟩ => show win0_3.index t 3 * 5632 + 1 * f.val = f.val; rw [h.2.2.2]; omega

theorem down_block (c : Dev nD) (t : Fin cfg0.N) (f : Fin 2816) (k : Fin 1024) :
    iblk m c 4 t (ix4 0 0 f k) = m ((c : Thread nD τ).loc main_arg4) (ix4 0 0 f k) := by
  unfold iblk
  rw [View.read_apply]
  show V m c main_v1 _ = _
  rw [down_eq]
  refine congrArg (m ((c : Thread nD τ).loc main_arg4)) (funext fun a => Fin.ext ?_)
  have h := down_index t
  match a with
  | ⟨0, _⟩ => show win0_4.index t 0 * 1 + 1 * 0 = 0; rw [h.1]
  | ⟨1, _⟩ => show win0_4.index t 1 * 1 + 1 * 0 = 0; rw [h.2.1]
  | ⟨2, _⟩ => show win0_4.index t 2 * 2816 + 1 * f.val = f.val; rw [h.2.2.1]; omega
  | ⟨3, _⟩ => show win0_4.index t 3 * 1024 + 1 * k.val = k.val; rw [h.2.2.2]; omega

/-- What the grid leaves in the result array. -/
theorem array_eq (c : Dev nD) :
    (dats m 0 c).arrAt 5 cfg0.N = result (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_cover 5 _ ?_ ?_
  · intro t _
    rw [Value.flushed5_A]
    funext z
    obtain ⟨z0, r, j, rfl⟩ : ∃ (z0 : Fin 1) (r j : Fin 1024), z = ix3 z0 r j := ⟨z 0, z 1, z 2, by
      funext a; match a with | ⟨0, _⟩ => rfl | ⟨1, _⟩ => rfl | ⟨2, _⟩ => rfl⟩
    obtain rfl : z0 = 0 := Subsingleton.elim _ _
    show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
        (iblk m c 0 t) (iblk m c 1 t) (iblk m c 2 t) (iblk m c 3 t) (iblk m c 4 t) (ix3 0 r j) = _
    refine (FfnKernel.block_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
        (iblk m c 0 t) (iblk m c 1 t) (iblk m c 2 t) (iblk m c 3 t) (iblk m c 4 t) r j).trans ?_
    simp only [rows_block, mod_block, gain_block, up_block, down_block]
    rw [View.read_apply]
    have hi : (((cfg0.win 5).blk t).view.emb (ix3 0 r j) : S4x4096x1024.Idx) = ix3 (bat t) (row t r) j := by
      funext a
      apply Fin.ext
      have h := out_index t
      match a with
      | ⟨0, _⟩ => show win0_5.index t 0 * 1 + 1 * 0 = t.val / 4; rw [h.1]; omega
      | ⟨1, _⟩ => show win0_5.index t 1 * 1024 + 1 * r.val = t.val % 4 * 1024 + r.val; rw [h.2.1]; omega
      | ⟨2, _⟩ => show win0_5.index t 2 * 1024 + 1 * j.val = j.val; rw [h.2.2]; omega
    exact (congrArg (result _ _ _ _ _) hi).symm
  · intro i
    have h0 : (i 0).val < 4 := (i 0).isLt
    have h1 : (i 1).val < 4096 := (i 1).isLt
    have h2 : (i 2).val < 1024 := (i 2).isLt
    let t : Fin cfg0.N := ⟨(i 0).val * 4 + (i 1).val / 1024, (by omega : (i 0).val * 4 + (i 1).val / 1024 < 16)⟩
    have h := out_index t
    have ht : t.val = (i 0).val * 4 + (i 1).val / 1024 := rfl
    refine ⟨t, flush0_5 t, ?_⟩
    show i ∈ ((View.whole main_v3).slice (win0_5.rect t)).set
    rw [View.set_slice_whole, Rect.mem_set_unit]
    intro a
    match a with
    | ⟨0, _⟩ => show win0_5.index t 0 * 1 ≤ (i 0).val ∧ (i 0).val < win0_5.index t 0 * 1 + 1; rw [h.1]; omega
    | ⟨1, _⟩ => show win0_5.index t 1 * 1024 ≤ (i 1).val ∧ (i 1).val < win0_5.index t 1 * 1024 + 1024; rw [h.2.1]; omega
    | ⟨2, _⟩ => show win0_5.index t 2 * 1024 ≤ (i 2).val ∧ (i 2).val < win0_5.index t 2 * 1024 + 1024; rw [h.2.2]; omega

end Cert.FfnArray

end
-- ==== Proof.FfnRef.lean ====
/-
  The reference's feed-forward half step, read index by index as the function of one row.
-/
module

public import proofs.«01_k».proof.Defs
public import proofs.«01_k».proof.Proof.Gen.ReferenceIdeal.Read
public import proofs.«01_k».proof.Proof.FfnModel
public import Idealize.ShloMosaic.Lib.Pointwise

@[expose] public section

set_option maxRecDepth 16384

noncomputable section

namespace Cert.FfnRef

open Cert.ReferenceIdeal Cert.ReferenceIdeal.Read Idealize.ShloMosaic Idealize.ShloMosaic.TcCoe Idealize.SL.Sem

/-- The reference's result at one index: the half step of that row. -/
theorem result_apply (x0 : (⟨S4x4096x1024, .f32⟩ : BufTy).Contents (Elt Ideal)) (x1 : (⟨S4x9x1024, .f32⟩ : BufTy).Contents (Elt Ideal))
    (x2 : (⟨S1024, .f32⟩ : BufTy).Contents (Elt Ideal)) (x3 : (⟨S2x2x1024x5632, .f32⟩ : BufTy).Contents (Elt Ideal))
    (x4 : (⟨S2x2x2816x1024, .f32⟩ : BufTy).Contents (Elt Ideal)) (b : Fin 4) (s : Fin 4096) (j : Fin 1024) :
    val_main_v42 (F := Ideal) x0 x1 x2 x3 x4 (ix3 b s j)
      = Ffn.out (fun k => x0 (ix3 b s k)) (fun a k => x1 (ix3 b a k)) (fun k => x2 (ix1 k))
          (fun k f => x3 (ix4 0 0 k f)) (fun f k => x4 (ix4 0 0 f k)) j := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_cst_2, val_main_v16, val_main_v17, val_main_v18, val_main_v19, val_main_v20, val_main_v21, val_main_v22, val_main_v23, val_main_v24, val_main_v25, val_main_v26, val_main_v27, val_main_v28, val_main_v29, val_main_v30, val_main_call0_v0, val_main_call0_v1, val_main_call0_cst, val_main_call0_v2, val_main_call0_v3, val_main_call0_cst_0, val_main_call0_v4, val_main_call0_v5, val_main_v31, val_main_v32, val_main_v33, val_main_v34, val_main_v35, val_main_v36, val_main_v37, val_main_v38, val_main_v39, val_main_cst_3, val_main_v40, val_main_v41, val_main_v42, Ffn.out, Ffn.unit, Ffn.normMod]
  simp only [fun y : EReal => show 0 - y = -y by rw [sub_eq_add_neg, zero_add]]

end Cert.FfnRef

end
-- ==== Proof.DiffSoft.lean ====
/- The arithmetic of a softmax taken block by block: a running maximum, and sums of weighted values scaled to it. -/
module

public import Idealize.ShloMosaic.PureOps.Ideal
public import Mathlib.Analysis.SpecialFunctions.Exp

@[expose] public section

noncomputable section

namespace Cert.Diff

open Idealize.ShloMosaic

/-- The weight `exp l` of a logit; a masked key, whose logit is `⊥`, weighs nothing. -/
def wt (l : EReal) : ℝ := if l = ⊥ then 0 else Real.exp l.toReal

theorem wt_bot : wt ⊥ = 0 := if_pos rfl

theorem wt_coe (r : ℝ) : wt (r : EReal) = Real.exp r := by
  simp [wt]

theorem wt_nonneg (l : EReal) : 0 ≤ wt l := by
  unfold wt; split
  · exact le_rfl
  · exact (Real.exp_pos _).le

theorem wt_pos {l : EReal} (h : l ≠ ⊥) : 0 < wt l := by
  unfold wt; rw [if_neg h]; exact Real.exp_pos _

/-- The exponential of a logit less a number: its weight scaled. -/
theorem exp_sub (l : EReal) (hl : l ≠ ⊤) (r : ℝ) :
    Ideal.exp (l - (r : EReal)) = ((wt l * Real.exp (-r) : ℝ) : EReal) := by
  induction l with
  | bot => rw [wt_bot, zero_mul]; rfl
  | top => exact absurd rfl hl
  | coe x =>
    rw [← EReal.coe_sub, Ideal.exp_coe, wt_coe, sub_eq_add_neg, Real.exp_add]

/-- The maximum `m` and the accumulator `a` stand for the sum `S` of the weighted values so far: before any key both
    are at their start; after, `a` is `S` scaled by `exp (-m)`. -/
def Holds (m a : EReal) (S : ℝ) : Prop :=
  (m = ⊥ ∧ a = 0 ∧ S = 0) ∨ ∃ r : ℝ, m = (r : EReal) ∧ a = ((Real.exp (-r) * S : ℝ) : EReal)

theorem Holds.start : Holds ⊥ 0 0 := .inl ⟨rfl, rfl, rfl⟩

theorem Holds.ne_top {m a : EReal} {S : ℝ} (h : Holds m a S) : m ≠ ⊤ := by
  rcases h with ⟨rfl, -, -⟩ | ⟨r, rfl, -⟩
  · exact bot_ne_top
  · exact EReal.coe_ne_top r

/-- A running maximum, not `⊤`, and a number: their maximum is a number. -/
theorem max_real {m b : EReal} (hm : m ≠ ⊤) (hb : b ≠ ⊤) (hb' : b ≠ ⊥) : ∃ r : ℝ, max m b = (r : EReal) := by
  have h1 : max m b ≠ ⊤ := by
    rcases max_choice m b with h | h <;> rw [h] <;> assumption
  have h2 : max m b ≠ ⊥ := fun h => hb' (le_bot_iff.mp (h ▸ le_max_right m b))
  exact ⟨(max m b).toReal, (EReal.coe_toReal h1 h2).symm⟩

theorem coe_sum {ι : Type*} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-- One block of keys taken in: the accumulator rescaled to the new maximum, and the block's weighted values added. -/
theorem Holds.step {ι : Type*} [Fintype ι] {m a : EReal} {S : ℝ} (h : Holds m a S) (l : ι → EReal) (v : ι → ℝ) (b : EReal)
    (hl : ∀ j, l j ≠ ⊤) (hb : b ≠ ⊤) (hb' : b ≠ ⊥) :
    Holds (max m b) (Ideal.exp (m - max m b) * a + ∑ j, Ideal.exp (l j - max m b) * (v j : EReal))
      (S + ∑ j, wt (l j) * v j) := by
  obtain ⟨r, hr⟩ := max_real h.ne_top hb hb'
  refine .inr ⟨r, hr, ?_⟩
  rw [hr]
  have hsum : (∑ j, Ideal.exp (l j - (r : EReal)) * (v j : EReal))
      = ((Real.exp (-r) * ∑ j, wt (l j) * v j : ℝ) : EReal) := by
    simp only [exp_sub _ (hl _), ← EReal.coe_mul]
    rw [coe_sum, Finset.mul_sum]
    congr 1
    exact Finset.sum_congr rfl fun j _ => by ring
  rw [hsum]
  rcases h with ⟨rfl, rfl, rfl⟩ | ⟨q, rfl, rfl⟩
  · rw [mul_zero, zero_add, zero_add]
  · rw [exp_sub _ (EReal.coe_ne_top q), wt_coe, ← EReal.coe_mul, ← EReal.coe_add]
    congr 1
    have : Real.exp q * Real.exp (-q) = 1 := by
      rw [← Real.exp_add, add_neg_cancel, Real.exp_zero]
    calc Real.exp q * Real.exp (-r) * (Real.exp (-q) * S) + Real.exp (-r) * ∑ j, wt (l j) * v j
        = (Real.exp q * Real.exp (-q)) * (Real.exp (-r) * S) + Real.exp (-r) * ∑ j, wt (l j) * v j := by ring
      _ = _ := by rw [this]; ring

/-- The same step of the sum of the weights alone. -/
theorem Holds.step_one {ι : Type*} [Fintype ι] {m a : EReal} {S : ℝ} (h : Holds m a S) (l : ι → EReal) (b : EReal)
    (hl : ∀ j, l j ≠ ⊤) (hb : b ≠ ⊤) (hb' : b ≠ ⊥) :
    Holds (max m b) (Ideal.exp (m - max m b) * a + ∑ j, Ideal.exp (l j - max m b)) (S + ∑ j, wt (l j)) := by
  have := h.step l (fun _ => 1) b hl hb hb'
  simpa only [EReal.coe_one, mul_one] using this

/-- The quotient at the end: the scale cancels. -/
theorem Holds.div {m a d : EReal} {S D : ℝ} (h : Holds m a S) (h' : Holds m d D) (hD : 0 < D) :
    Ideal.div a d = ((S / D : ℝ) : EReal) := by
  rcases h' with ⟨-, -, h0⟩ | ⟨r, rfl, rfl⟩
  · exact absurd h0 hD.ne'
  · rcases h with ⟨h1, -, -⟩ | ⟨r', h1, rfl⟩
    · exact absurd h1 (EReal.coe_ne_bot r)
    · obtain rfl : r = r' := EReal.coe_injective h1
      have he : Real.exp (-r) ≠ 0 := (Real.exp_pos _).ne'
      have h2 : Real.exp (-r) * D ≠ 0 := mul_ne_zero he hD.ne'
      rw [Ideal.div_coe h2, ← EReal.coe_mul, mul_one_div, mul_div_mul_left _ _ he]

/-- The greatest of finitely many logits, as the fold of `max` over them from `⊥`. -/
theorem fold_max_eq_sup {ι : Type*} (s : Finset ι) (l : ι → EReal) : s.fold max ⊥ l = s.sup l := by
  classical
  induction s using Finset.induction_on with
  | empty => simp
  | insert i s hi ih => rw [Finset.fold_insert hi, Finset.sup_insert, ih]

/-- It is a number when no logit is `⊤` and one of them is a number. -/
theorem fold_max_real {ι : Type*} [Fintype ι] (l : ι → EReal) (hl : ∀ j, l j ≠ ⊤) (i : ι) (hi : l i ≠ ⊥) :
    Finset.univ.fold max ⊥ l ≠ ⊤ ∧ Finset.univ.fold max ⊥ l ≠ ⊥ := by
  rw [fold_max_eq_sup]
  refine ⟨?_, fun h => hi (le_bot_iff.mp (h ▸ Finset.le_sup (Finset.mem_univ i)))⟩
  refine ne_of_lt ((Finset.sup_lt_iff bot_lt_top).mpr fun j _ => lt_top_iff_ne_top.mpr (hl j))

/-- A softmax taken at once: each weight is the key's share of all the weights. -/
theorem softmax_eq {ι : Type*} [Fintype ι] (l : ι → EReal) (hl : ∀ j, l j ≠ ⊤) (i : ι) (hi : l i ≠ ⊥) (j : ι) :
    Ideal.div (Ideal.exp (l j - Finset.univ.fold max ⊥ l)) (∑ j, Ideal.exp (l j - Finset.univ.fold max ⊥ l))
      = ((wt (l j) / ∑ j, wt (l j) : ℝ) : EReal) := by
  obtain ⟨h1, h2⟩ := fold_max_real l hl i hi
  obtain ⟨r, hr⟩ : ∃ r : ℝ, Finset.univ.fold max ⊥ l = (r : EReal) := ⟨_, (EReal.coe_toReal h1 h2).symm⟩
  rw [hr]
  simp only [exp_sub _ (hl _)]
  rw [coe_sum, ← Finset.sum_mul]
  have he : Real.exp (-r) ≠ 0 := (Real.exp_pos _).ne'
  have hD : 0 < ∑ j, wt (l j) := Finset.sum_pos' (fun j _ => wt_nonneg _) ⟨i, Finset.mem_univ i, wt_pos hi⟩
  rw [Ideal.div_coe (mul_ne_zero hD.ne' he), ← EReal.coe_mul, mul_one_div, mul_div_mul_right _ _ he]

end Cert.Diff

end
-- ==== Proof.DiffModel.lean ====
/- One query row's attention as numbers: the pass over the tiles of keys, and what it comes to. -/
module

public import proofs.«01_k».proof.Proof.DiffSoft
public import Idealize.ShloMosaic.Lib.Pointwise
public import Idealize.ShloMosaic.Lib.WordCmp

@[expose] public section

set_option maxRecDepth 16384

noncomputable section

namespace Cert.Diff

open Idealize.ShloMosaic

/-- The products of one component's half of the lanes, summed: the other half of the query is masked to zero. -/
def dot (c : Fin 2) (q k : Fin 128 → EReal) : EReal :=
  match c with
  | 0 => ∑ d : Fin 128, Scalar.select (IntOp.cmpi CmpIPredicate.slt (BitVec.ofNat 32 d.val) 64#32) (q d * k d) 0
  | 1 => ∑ d : Fin 128, Scalar.select (IntOp.cmpi CmpIPredicate.slt (BitVec.ofNat 32 d.val) 64#32) 0 (q d * k d)

/-- The running maximum after a tile of logits. -/
def newMax (m : EReal) (l : Fin 256 → EReal) : EReal :=
  max m (Finset.univ.fold max (Ideal.ofBits FTy.f32 4286578688#32) l)

/-- The running sum of weights after a tile. -/
def newSum (m a : EReal) (l : Fin 256 → EReal) : EReal :=
  Ideal.exp (m - newMax m l) * a + ∑ j, Ideal.exp (l j - newMax m l)

/-- The running sum of weighted values after a tile. -/
def newAcc (m a : EReal) (l v : Fin 256 → EReal) : EReal :=
  Ideal.exp (m - newMax m l) * a + ∑ j, Ideal.exp (l j - newMax m l) * v j

/-- A row's maximum, sum and accumulator after a tile, from those before it. -/
structure After (lg : Fin 256 → EReal) (v : Fin 256 → Fin 128 → EReal) (m l : EReal) (a : Fin 128 → EReal)
    (m' l' : EReal) (a' : Fin 128 → EReal) : Prop where
  max_eq : m' = newMax m lg
  sum_eq : l' = newSum m l lg
  acc_eq : ∀ d, a' d = newAcc m (a d) lg fun j => v j d

/-- The `j`-th key of tile `t`. -/
def key (t : ℕ) (j : Fin 256) : Fin 4096 := ⟨(256 * t + j.val) % 4096, Nat.mod_lt _ (by decide)⟩

theorem key_val {t : ℕ} (ht : t < 16) (j : Fin 256) : (key t j).val = 256 * t + j.val :=
  Nat.mod_eq_of_lt (by have := j.isLt; omega)

/-- The row's maximum, sum and accumulator stand for the weights `w` of the keys of the first `n` tiles. -/
def State (l : Fin 4096 → EReal) (v : Fin 4096 → Fin 128 → ℝ) (n : ℕ) (m s : EReal) (a : Fin 128 → EReal) : Prop :=
  Holds m s (∑ t ∈ Finset.range n, ∑ j, wt (l (key t j)))
    ∧ ∀ d, Holds m (a d) (∑ t ∈ Finset.range n, ∑ j, wt (l (key t j)) * v (key t j) d)

theorem ofBits_negInf : Ideal.ofBits FTy.f32 4286578688#32 = ⊥ := by
  simp [Ideal.ofBits, Ideal.ieee]

theorem State.start (l : Fin 4096 → EReal) (v : Fin 4096 → Fin 128 → ℝ) : State l v 0 ⊥ 0 fun _ => 0 := by
  refine ⟨?_, fun d => ?_⟩ <;> rw [Finset.range_zero, Finset.sum_empty] <;> exact Holds.start

/-- One more tile, one of whose logits is a number. -/
theorem State.next {l : Fin 4096 → EReal} {v : Fin 4096 → Fin 128 → ℝ} {n : ℕ} {m s : EReal} {a : Fin 128 → EReal}
    (h : State l v n m s a) {m' s' : EReal} {a' : Fin 128 → EReal}
    (hA : After (fun j => l (key n j)) (fun j d => (v (key n j) d : EReal)) m s a m' s' a')
    (hl : ∀ j, l j ≠ ⊤) (j : Fin 256) (hj : l (key n j) ≠ ⊥) : State l v (n + 1) m' s' a' := by
  obtain ⟨h1, h2⟩ := fold_max_real (fun j => l (key n j)) (fun j => hl _) j hj
  rw [State, hA.max_eq, hA.sum_eq]
  simp only [hA.acc_eq, Finset.sum_range_succ]
  unfold newSum newAcc newMax
  rw [ofBits_negInf]
  exact ⟨h.1.step_one _ _ (fun j => hl _) h1 h2, fun d => (h.2 d).step _ _ _ (fun j => hl _) h1 h2⟩

/-- A sum over all keys, tile by tile, when the keys after tile `q` add nothing. -/
theorem sum_tiles (f : Fin 4096 → ℝ) (q : ℕ) (hq : q < 16) (h0 : ∀ s : Fin 4096, 256 * (q + 1) ≤ s.val → f s = 0) :
    ∑ t ∈ Finset.range (q + 1), ∑ j, f (key t j) = ∑ s, f s := by
  have h16 : ∑ s : Fin 4096, f s = ∑ t ∈ Finset.range 16, ∑ j, f (key t j) := by
    rw [Finset.sum_range, ← Finset.sum_product', Finset.univ_product_univ]
    refine (Fintype.sum_equiv (finProdFinEquiv (m := 16) (n := 256)) _ _ fun x => ?_).symm
    refine congrArg f (Fin.ext ?_)
    rw [key_val x.1.isLt, finProdFinEquiv_apply_val]
    omega
  rw [h16]
  refine Finset.sum_subset (Finset.range_mono (by omega)) fun t ht hn => ?_
  rw [Finset.mem_range] at ht hn
  exact Finset.sum_eq_zero fun j _ => h0 _ (by rw [key_val ht]; omega)

/-- The quotient the pass ends with: the share-weighted sum of the values over all keys. -/
theorem State.quotient {l : Fin 4096 → EReal} {v : Fin 4096 → Fin 128 → ℝ} {q : ℕ} {m s : EReal} {a : Fin 128 → EReal}
    (h : State l v (q + 1) m s a) (hq : q < 16) (h0 : ∀ s : Fin 4096, 256 * (q + 1) ≤ s.val → l s = ⊥)
    (i : Fin 4096) (hi : l i ≠ ⊥) (d : Fin 128) :
    Ideal.div (a d) s = (((∑ s, wt (l s) * v s d) / ∑ s, wt (l s) : ℝ) : EReal) := by
  have hw : ∀ s : Fin 4096, 256 * (q + 1) ≤ s.val → wt (l s) = 0 := fun s hs => by rw [h0 s hs, wt_bot]
  have h1 := h.1
  have h2 := h.2 d
  rw [sum_tiles (fun s => wt (l s)) q hq hw] at h1
  rw [sum_tiles (fun s => wt (l s) * v s d) q hq fun s hs => by rw [hw s hs, zero_mul]] at h2
  exact h2.div h1 (Finset.sum_pos' (fun j _ => wt_nonneg _) ⟨i, Finset.mem_univ i, wt_pos hi⟩)

/-- A number: neither infinity. -/
def Num (x : EReal) : Prop := ∃ r : ℝ, x = (r : EReal)

theorem Num.add {x y : EReal} : Num x → Num y → Num (x + y) := fun ⟨a, ha⟩ ⟨b, hb⟩ => ⟨a + b, by rw [ha, hb, EReal.coe_add]⟩

theorem Num.sub {x y : EReal} : Num x → Num y → Num (x - y) := fun ⟨a, ha⟩ ⟨b, hb⟩ => ⟨a - b, by rw [ha, hb, EReal.coe_sub]⟩

theorem Num.mul {x y : EReal} : Num x → Num y → Num (x * y) := fun ⟨a, ha⟩ ⟨b, hb⟩ => ⟨a * b, by rw [ha, hb, EReal.coe_mul]⟩

theorem Num.sum {ι : Type*} (s : Finset ι) {f : ι → EReal} (h : ∀ i, Num (f i)) : Num (∑ i ∈ s, f i) := by
  choose g hg using h
  exact ⟨∑ i ∈ s, g i, by simp only [hg]; exact coe_sum s g⟩

theorem Num.exp {x : EReal} : Num x → Num (Ideal.exp x) := fun ⟨a, ha⟩ => ⟨Real.exp a, by rw [ha, Ideal.exp_coe]⟩

theorem Num.ne_top {x : EReal} : Num x → x ≠ ⊤ := fun ⟨a, ha⟩ => ha ▸ EReal.coe_ne_top a

theorem Num.ne_bot {x : EReal} : Num x → x ≠ ⊥ := fun ⟨a, ha⟩ => ha ▸ EReal.coe_ne_bot a

theorem Num.coe_toReal {x : EReal} (h : Num x) : ((x.toReal : ℝ) : EReal) = x := EReal.coe_toReal h.ne_top h.ne_bot

theorem num_of_ne {x : EReal} (h : x ≠ ⊤) (h' : x ≠ ⊥) : Num x := ⟨x.toReal, (EReal.coe_toReal h h').symm⟩

theorem select_ofBool {α : Type} (p : Prop) [Decidable p] (a b : α) : Scalar.select (BitVec.ofBool (decide p)) a b = if p then a else b := by
  by_cases h : p <;> simp [h, Scalar.select]

theorem slt_64 : ∀ d : Fin 128, IntOp.cmpi CmpIPredicate.slt (BitVec.ofNat 32 d.val) 64#32 = BitVec.ofBool (decide (d.val < 64)) := by
  decide +kernel

/-- The causal mask's comparison of two positions. -/
theorem select_sge {α : Type} (a b : ℕ) (ha : a < 65536) (hb : b < 65536) (x y : α) :
    Scalar.select (IntOp.cmpi CmpIPredicate.sge (BitVec.ofNat 32 a) (BitVec.ofNat 32 b)) x y = if b ≤ a then x else y := by
  have e (n : ℕ) (h : n < 65536) : (BitVec.ofNat 32 n).toInt = (n : ℤ) := WordCmp.toInt_ofNat_of_lt (by omega)
  rw [WordCmp.cmpi_sge_eq, e a ha, e b hb, select_ofBool]
  exact if_congr Int.ofNat_le rfl rfl

/-- The lane of a component's half. -/
def lane (c : Fin 2) (e : Fin 64) : Fin 128 := ⟨c.val * 64 + e.val, by omega⟩

/-- The masked half's products vanish: what is left is the other half's sum. -/
theorem dot_eq (c : Fin 2) (q k : Fin 128 → EReal) : dot c q k = ∑ e : Fin 64, q (lane c e) * k (lane c e) := by
  have hs (f : Fin 128 → EReal) : ∑ d, f d = ∑ e : Fin 64, f (lane 0 e) + ∑ e : Fin 64, f (lane 1 e) := by
    refine (Fin.sum_univ_add (a := 64) (b := 64) f).trans (congrArg₂ _ ?_ ?_)
    · exact Finset.sum_congr rfl fun e _ => congrArg f (Fin.ext (by show e.val = 0 * 64 + e.val; omega))
    · exact Finset.sum_congr rfl fun e _ => congrArg f (Fin.ext (by show 64 + e.val = 1 * 64 + e.val; omega))
  have h0 (e : Fin 64) : (lane 0 e).val < 64 := by show 0 * 64 + e.val < 64; omega
  have h1 (e : Fin 64) : ¬ (lane 1 e).val < 64 := by show ¬ 1 * 64 + e.val < 64; omega
  match c with
  | 0 =>
    show ∑ d : Fin 128, Scalar.select _ _ _ = _
    rw [hs]
    simp only [slt_64, select_ofBool, if_pos (h0 _), if_neg (h1 _), Finset.sum_const_zero, add_zero]
  | 1 =>
    show ∑ d : Fin 128, Scalar.select _ _ _ = _
    rw [hs]
    simp only [slt_64, select_ofBool, if_pos (h0 _), if_neg (h1 _), Finset.sum_const_zero, zero_add]

theorem dot_num (c : Fin 2) {q k : Fin 128 → EReal} (hq : ∀ d, Num (q d)) (hk : ∀ d, Num (k d)) : Num (dot c q k) := by
  rw [dot_eq]
  exact Num.sum _ fun e => (hq _).mul (hk _)

/-- How far a key's tile lies before the query's. -/
def ahead (qi : Fin 16) (n : ℕ) : Fin 16 := ⟨qi.val - n, by omega⟩

/-- The logit of key `s` for row `r` of query tile `qi`: the product and the bias, and `⊥` at a later key. -/
def lgt (c : Fin 2) (q : Fin 128 → EReal) (k : Fin 4096 → Fin 128 → EReal) (b : Fin 16 → Fin 256 → EReal) (qi : Fin 16) (r : Fin 256)
    (s : Fin 4096) : EReal :=
  if s.val ≤ 256 * qi.val + r.val then dot c q (k s) + b (ahead qi (s.val / 256)) ⟨s.val % 256, Nat.mod_lt _ (by decide)⟩ else ⊥

section
variable (c : Fin 2) (q : Fin 128 → EReal) (k : Fin 4096 → Fin 128 → EReal) (b : Fin 16 → Fin 256 → EReal) (qi : Fin 16) (r : Fin 256)

theorem lgt_before {t : ℕ} (ht : t < qi.val) (j : Fin 256) :
    lgt c q k b qi r (key t j) = dot c q (k (key t j)) + b (ahead qi t) j := by
  have h := key_val (ht.trans qi.isLt) j
  unfold lgt
  rw [if_pos (by omega)]
  congr 2
  · congr 1; omega
  · exact Fin.ext (by show (key t j).val % 256 = j.val; omega)

theorem lgt_diag (j : Fin 256) :
    lgt c q k b qi r (key qi.val j) = if j.val ≤ r.val then dot c q (k (key qi.val j)) + b 0 j else ⊥ := by
  have h := key_val qi.isLt j
  unfold lgt
  refine if_ctx_congr (by omega) (fun _ => ?_) fun _ => rfl
  congr 2
  · exact Fin.ext (by show qi.val - (key qi.val j).val / 256 = 0; omega)
  · exact Fin.ext (by show (key qi.val j).val % 256 = j.val; omega)

theorem lgt_after {s : Fin 4096} (h : 256 * (qi.val + 1) ≤ s.val) : lgt c q k b qi r s = ⊥ :=
  if_neg (by omega)

variable {q k b}

theorem lgt_ne_top (hq : ∀ d, Num (q d)) (hk : ∀ s d, Num (k s d)) (hb : ∀ t j, Num (b t j)) (s : Fin 4096) : lgt c q k b qi r s ≠ ⊤ := by
  unfold lgt
  split
  · exact ((dot_num c hq (hk s)).add (hb _ _)).ne_top
  · exact bot_ne_top

theorem lgt_ne_bot (hq : ∀ d, Num (q d)) (hk : ∀ s d, Num (k s d)) (hb : ∀ t j, Num (b t j)) {s : Fin 4096}
    (h : s.val ≤ 256 * qi.val + r.val) : lgt c q k b qi r s ≠ ⊥ := by
  unfold lgt
  rw [if_pos h]
  exact ((dot_num c hq (hk s)).add (hb _ _)).ne_bot

end

/-- The attention of one component: the values weighted by each key's share. -/
def att (l : Fin 4096 → EReal) (v : Fin 4096 → Fin 128 → EReal) (d : Fin 128) : ℝ :=
  (∑ s, wt (l s) * (v s d).toReal) / ∑ s, wt (l s)

/-- The scalar that weighs the second component. -/
def lam (w : Fin 4 → Fin 64 → EReal) : EReal :=
  Ideal.exp (∑ x, w 0 x * w 1 x) - Ideal.exp (∑ x, w 2 x * w 3 x) + Ideal.ofBits FTy.f32 1045220557#32

/-- A head's row normalised by its mean square, with the gain and the last factor. -/
def normed (o : Fin 128 → EReal) (g : Fin 128 → EReal) (d : Fin 128) : EReal :=
  o d * Ideal.rsqrt (Ideal.div (∑ x, o x * o x) (Ideal.ofBits FTy.f32 1124073472#32) + Ideal.ofBits FTy.f32 897988541#32) * g d
    * Ideal.ofBits FTy.f32 1061997773#32

/-- One row of one head. -/
def out (q : Fin 128 → EReal) (k v : Fin 4096 → Fin 128 → EReal) (b : Fin 16 → Fin 256 → EReal) (w : Fin 4 → Fin 64 → EReal)
    (g : Fin 128 → EReal) (qi : Fin 16) (r : Fin 256) (d : Fin 128) : EReal :=
  normed (fun d => (att (lgt 0 q k b qi r) v d : EReal) - lam w * (att (lgt 1 q k b qi r) v d : EReal)) g d

theorem lam_num {w : Fin 4 → Fin 64 → EReal} (h : ∀ a x, Num (w a x)) : Num (lam w) := by
  refine (((Num.sum _ fun x => (h _ _).mul (h _ _)).exp).sub ((Num.sum _ fun x => (h _ _).mul (h _ _)).exp)).add ?_
  exact ⟨_, by simp [Ideal.ofBits, Ideal.ieee]; rfl⟩

/-- The difference of the two softmaxes taken first and then the values, or the values first: the same number. -/
theorem difference_eq {l0 l1 : Fin 4096 → EReal} {v : Fin 4096 → Fin 128 → EReal} {w : EReal} (hw : Num w) (hv : ∀ s d, Num (v s d)) (d : Fin 128) :
    (∑ s, (((wt (l0 s) / ∑ s, wt (l0 s) : ℝ) : EReal) - w * ((wt (l1 s) / ∑ s, wt (l1 s) : ℝ) : EReal)) * v s d)
      = (att l0 v d : EReal) - w * (att l1 v d : EReal) := by
  obtain ⟨a, rfl⟩ := hw
  have h (s : Fin 4096) : (((wt (l0 s) / ∑ s, wt (l0 s) : ℝ) : EReal) - (a : EReal) * ((wt (l1 s) / ∑ s, wt (l1 s) : ℝ) : EReal)) * v s d
      = (((wt (l0 s) / ∑ s, wt (l0 s) - a * (wt (l1 s) / ∑ s, wt (l1 s))) * (v s d).toReal : ℝ) : EReal) := by
    rw [EReal.coe_mul, (hv s d).coe_toReal, EReal.coe_sub, EReal.coe_mul]
  simp only [h]
  rw [coe_sum, ← EReal.coe_mul, ← EReal.coe_sub]
  congr 1
  unfold att
  rw [Finset.sum_div, Finset.sum_div, Finset.mul_sum, ← Finset.sum_sub_distrib]
  exact Finset.sum_congr rfl fun s _ => by ring

end Cert.Diff

end
-- ==== Proof.DiffRef.lean ====
/- The reference's attention, read index by index. -/
module

public import proofs.«01_k».proof.Defs
public import proofs.«01_k».proof.Proof.Gen.Reference2Ideal.Read
public import proofs.«01_k».proof.Proof.DiffModel
public import Idealize.ShloMosaic.Lib.Pointwise

@[expose] public section

set_option maxRecDepth 16384

noncomputable section

namespace Cert.DiffRef

open Cert.Reference2Ideal Cert.Reference2Ideal.Read Idealize.ShloMosaic Idealize.ShloMosaic.TcCoe Idealize.SL.Sem
open Cert.Diff (Num lgt wt)

theorem start_zero {s si t : Shape} (d : GatherDims s si t) {w : ℕ} (j : t.Idx) (idx : IVec si w) (a : Fin s.rank) (h : a ∉ d.startIndexMap) :
    d.start j idx a = 0 := by
  unfold GatherDims.start
  rw [dif_neg h]

theorem start_read {s si t : Shape} (d : GatherDims s si t) {w : ℕ} (j : t.Idx) (idx : IVec si w) (a : Fin s.rank) (h : a ∈ d.startIndexMap) :
    d.start j idx a = min (idx (d.siIdx j ⟨d.startIndexMap.idxOf a, List.idxOf_lt_length_iff.2 h⟩)).toInt.toNat (s.size a - d.sliceSizes a) := by
  unfold GatherDims.start
  rw [dif_pos h]

/-- The table's tile at the start index read for the two blocks. -/
theorem tiles_gather {α : Type} (x : S4x16x256x256.Idx → α) (idx : IVec S16x16x1 32) (h : Fin 4) (a b : Fin 16) (r j : Fin 256) :
    Host.gather gather_S4x16x256x256_S16x16x1_S4x16x16x256x256_034_1_n_n_1_2_41256256 x idx (ix5 h a b r j)
      = x (ix4 h ⟨min (idx (ix3 a b 0)).toInt.toNat 15, by omega⟩ r j) := by
  unfold Host.gather
  congr 1
  funext e
  refine Fin.ext ?_
  show GatherDims.start _ _ idx e + GatherDims.batchCoord _ _ e + GatherDims.offCoord _ _ e = _
  rw [GatherDims.batchCoord_eq_zero _ _ _ List.not_mem_nil]
  match e with
  | ⟨0, _⟩ =>
    rw [start_zero _ _ _ _ (show ¬ (0 : Fin 4) ∈ ([1] : List (Fin 4)) by decide), Nat.zero_add]
    rfl
  | ⟨1, _⟩ =>
    rw [GatherDims.offCoord_eq_zero _ _ _ (fun h => ((GatherDims.mem_sKept _ _).mp h).1 (List.mem_singleton.mpr rfl))]
    rw [start_read _ _ _ _ (show (1 : Fin 4) ∈ ([1] : List (Fin 4)) from List.mem_singleton.mpr rfl)]
    simp only [Nat.add_zero]
    refine congrArg (fun i => min (idx i).toInt.toNat 15) (funext fun b => Fin.ext ?_)
    match b with
    | ⟨0, _⟩ => rfl
    | ⟨1, _⟩ => rfl
    | ⟨2, _⟩ => rfl
  | ⟨2, _⟩ =>
    rw [start_zero _ _ _ _ (show ¬ (2 : Fin 4) ∈ ([1] : List (Fin 4)) by decide), Nat.zero_add]
    rfl
  | ⟨3, _⟩ =>
    rw [start_zero _ _ _ _ (show ¬ (3 : Fin 4) ∈ ([1] : List (Fin 4)) by decide), Nat.zero_add]
    rfl

/-- How far one block lies before the other. -/
theorem ahead_word : ∀ a b : Fin 16,
    (let v := IntOp.maxsi (IntOp.subi (BitVec.ofNat 32 a.val) (BitVec.ofNat 32 b.val)) 0#32;
     min (Scalar.select (IntOp.cmpi CmpIPredicate.slt v 0#32) (IntOp.addi v 16#32) v).toInt.toNat 15) = a.val - b.val := by
  decide +kernel

theorem ahead_apply (a b : Fin 16) : min (val_main_v20 (F := Ideal) (ix3 a b 0)).toInt.toNat 15 = a.val - b.val := by
  refine Eq.trans ?_ (ahead_word a b)
  pointwise [val_main_v20, val_main_v19, val_main_v18, val_main_v17, val_main_c_1, val_main_v16, val_main_v15, val_main_c_0, val_main_v14, val_main_v13, val_main_c, val_main_v12, val_main_v11, val_main_v10, val_main_v9, val_main_v8, val_main_v7, val_main_v6]

/-- The bias of a query and a key. -/
theorem bias_apply (x3 : (⟨S4x16x256x256, .f32⟩ : BufTy).Contents (Elt Ideal)) (h : Fin 4) (q s : Fin 4096) :
    val_main_v23 (F := Ideal) x3 (ix3 h q s)
      = x3 (ix4 h (Diff.ahead ⟨q.val / 256, by omega⟩ (s.val / 256)) ⟨q.val % 256, by omega⟩ ⟨s.val % 256, by omega⟩) := by
  have e : val_main_v23 (F := Ideal) x3 (ix3 h q s) = val_main_v21 (F := Ideal) x3 (ix5 h ⟨q.val / 256, by omega⟩ ⟨s.val / 256, by omega⟩ ⟨q.val % 256, by omega⟩ ⟨s.val % 256, by omega⟩) := by
    pointwise [val_main_v23, val_main_v22]
  rw [e]
  unfold val_main_v21
  rw [tiles_gather]
  congr 2
  exact Fin.ext (ahead_apply _ _)

variable (x0 x1 x2 : (⟨S4x4096x512, .bf16⟩ : BufTy).Contents (Elt Ideal)) (x3 : (⟨S4x16x256x256, .f32⟩ : BufTy).Contents (Elt Ideal))
  (x4 : (⟨S4x64, .f32⟩ : BufTy).Contents (Elt Ideal)) (x5 : (⟨S128, .f32⟩ : BufTy).Contents (Elt Ideal))

/-- The lane of a head in an array's row. -/
def lane (h : Fin 4) (d : Fin 128) : Fin 512 := ⟨h.val * 128 + d.val, by omega⟩

/-- The masked logits are the row's. -/
theorem logit_apply (b h : Fin 4) (c : Fin 2) (q s : Fin 4096) :
    val_main_v34 (F := Ideal) x0 x1 x3 (ix5 b h c q s)
      = lgt c (fun d => x0 (ix3 b q (lane h d))) (fun s d => x1 (ix3 b s (lane h d))) (fun t j => x3 (ix4 h t ⟨q.val % 256, by omega⟩ j)) ⟨q.val / 256, by omega⟩ ⟨q.val % 256, by omega⟩ s := by
  have e : val_main_v34 (F := Ideal) x0 x1 x3 (ix5 b h c q s)
      = Scalar.select (IntOp.cmpi CmpIPredicate.sge (BitVec.ofNat 32 q.val) (BitVec.ofNat 32 s.val))
        (∑ x : Fin 64, x0 (ix3 b q (lane h (Diff.lane c x))) * x1 (ix3 b s (lane h (Diff.lane c x))) + val_main_v23 (F := Ideal) x3 (ix3 h q s)) (Ideal.ofBits FTy.f32 4286578688#32) := by
    pointwise [val_main_v34, val_main_call0_v2, val_main_call0_v1, val_main_call0_v0, val_main_cst, val_main_v33, val_main_v32, val_main_v31, val_main_v30, val_main_v29, val_main_v28, val_main_v27, val_main_v26, val_main_v25, val_main_v24, val_main_v3, val_main_v2, val_main_v1, val_main_v0]
    simp only [lane, Diff.lane, ← Nat.add_assoc]
    rfl
  rw [e, Diff.select_sge _ _ (q.isLt.trans (by decide)) (s.isLt.trans (by decide)), Diff.ofBits_negInf, bias_apply]
  unfold lgt
  rw [Diff.dot_eq]
  exact if_congr (by show s.val ≤ q.val ↔ s.val ≤ 256 * (q.val / 256) + q.val % 256; omega) rfl rfl

end Cert.DiffRef

end
-- ==== Proof.DiffWeight.lean ====
/- The reference's attention, read index by index. -/
module

public import proofs.«01_k».proof.Defs
public import proofs.«01_k».proof.Proof.Gen.Reference2Ideal.Read
public import proofs.«01_k».proof.Proof.DiffModel
public import proofs.«01_k».proof.Proof.DiffRef
public import Idealize.ShloMosaic.Lib.Pointwise

@[expose] public section

set_option maxRecDepth 16384

noncomputable section

namespace Cert.DiffRef

open Cert.Reference2Ideal Cert.Reference2Ideal.Read Idealize.ShloMosaic Idealize.ShloMosaic.TcCoe Idealize.SL.Sem
open Cert.Diff (Num lgt wt)

variable (x0 x1 x2 : (⟨S4x4096x512, .bf16⟩ : BufTy).Contents (Elt Ideal)) (x3 : (⟨S4x16x256x256, .f32⟩ : BufTy).Contents (Elt Ideal))
  (x4 : (⟨S4x64, .f32⟩ : BufTy).Contents (Elt Ideal)) (x5 : (⟨S128, .f32⟩ : BufTy).Contents (Elt Ideal))

/-- The softmax over a query's row. -/
theorem weight_apply (h0 : ∀ i, Num (x0 i)) (h1 : ∀ i, Num (x1 i)) (h3 : ∀ i, Num (x3 i)) (b h : Fin 4) (c : Fin 2) (q s : Fin 4096) (l : Fin 4096 → EReal)
    (hl : l = lgt c (fun d => x0 (ix3 b q (lane h d))) (fun s d => x1 (ix3 b s (lane h d))) (fun t j => x3 (ix4 h t ⟨q.val % 256, by omega⟩ j)) ⟨q.val / 256, by omega⟩ ⟨q.val % 256, by omega⟩) :
    val_main_v43 (F := Ideal) x0 x1 x3 (ix5 b h c q s) = ((wt (l s) / ∑ j, wt (l j) : ℝ) : EReal) := by
  have hs : ∀ s, val_main_v34 (F := Ideal) x0 x1 x3 (ix5 b h c q s) = l s := fun s => by
    rw [hl]
    exact logit_apply x0 x1 x3 b h c q s
  have e : val_main_v43 (F := Ideal) x0 x1 x3 (ix5 b h c q s)
      = Ideal.div (Ideal.exp (val_main_v34 (F := Ideal) x0 x1 x3 (ix5 b h c q s) - Finset.univ.fold max (Ideal.ofBits FTy.f32 4286578688#32) fun s => val_main_v34 (F := Ideal) x0 x1 x3 (ix5 b h c q s)))
        (∑ s, Ideal.exp (val_main_v34 (F := Ideal) x0 x1 x3 (ix5 b h c q s) - Finset.univ.fold max (Ideal.ofBits FTy.f32 4286578688#32) fun s => val_main_v34 (F := Ideal) x0 x1 x3 (ix5 b h c q s))) := by
    pointwise [val_main_v43, val_main_v42, val_main_v41, val_main_v40, val_main_cst_3, val_main_v39, val_main_v38, val_main_v37, val_main_v36, val_main_v35, val_main_cst_2]
  rw [e, Diff.ofBits_negInf]
  simp only [hs]
  refine Diff.softmax_eq l (fun s => ?_) q ?_ s
  · rw [hl]
    exact Diff.lgt_ne_top c _ _ (fun d => h0 _) (fun s d => h1 _) (fun t j => h3 _) s
  · rw [hl]
    exact Diff.lgt_ne_bot c _ _ (fun d => h0 _) (fun s d => h1 _) (fun t j => h3 _) (by show q.val ≤ 256 * (q.val / 256) + q.val % 256; omega)

end Cert.DiffRef

end
-- ==== Proof.DiffLam.lean ====
/- The reference's attention, read index by index. -/
module

public import proofs.«01_k».proof.Defs
public import proofs.«01_k».proof.Proof.Gen.Reference2Ideal.Read
public import proofs.«01_k».proof.Proof.DiffModel
public import proofs.«01_k».proof.Proof.DiffRef
public import Idealize.ShloMosaic.Lib.Pointwise

@[expose] public section

set_option maxRecDepth 16384

noncomputable section

namespace Cert.DiffRef

open Cert.Reference2Ideal Cert.Reference2Ideal.Read Idealize.ShloMosaic Idealize.ShloMosaic.TcCoe Idealize.SL.Sem
open Cert.Diff (Num lgt wt)

variable (x0 x1 x2 : (⟨S4x4096x512, .bf16⟩ : BufTy).Contents (Elt Ideal)) (x3 : (⟨S4x16x256x256, .f32⟩ : BufTy).Contents (Elt Ideal))
  (x4 : (⟨S4x64, .f32⟩ : BufTy).Contents (Elt Ideal)) (x5 : (⟨S128, .f32⟩ : BufTy).Contents (Elt Ideal))

/-- The mixing weight. -/
theorem lam_apply (i : S_.Idx) : val_main_v59 (F := Ideal) x4 i = Diff.lam fun a x => x4 (ix2 a x) := by
  obtain rfl : i = ix0 := funext fun a => a.elim0
  unfold Diff.lam
  pointwise [val_main_v59, val_main_cst_6, val_main_v58, val_main_v57, val_main_v56, val_main_cst_5, val_main_v55, val_main_v54, val_main_v53, val_main_v52, val_main_v51, val_main_v50, val_main_v49, val_main_cst_4, val_main_v48, val_main_v47, val_main_v46, val_main_v45, val_main_v44]

end Cert.DiffRef

end
-- ==== Proof.DiffMixed.lean ====
/- The reference's attention, read index by index. -/
module

public import proofs.«01_k».proof.Defs
public import proofs.«01_k».proof.Proof.Gen.Reference2Ideal.Read
public import proofs.«01_k».proof.Proof.DiffModel
public import proofs.«01_k».proof.Proof.DiffRef
public import Idealize.ShloMosaic.Lib.Pointwise

@[expose] public section

set_option maxRecDepth 16384

noncomputable section

namespace Cert.DiffRef

open Cert.Reference2Ideal Cert.Reference2Ideal.Read Idealize.ShloMosaic Idealize.ShloMosaic.TcCoe Idealize.SL.Sem
open Cert.Diff (Num lgt wt)

variable (x0 x1 x2 : (⟨S4x4096x512, .bf16⟩ : BufTy).Contents (Elt Ideal)) (x3 : (⟨S4x16x256x256, .f32⟩ : BufTy).Contents (Elt Ideal))
  (x4 : (⟨S4x64, .f32⟩ : BufTy).Contents (Elt Ideal)) (x5 : (⟨S128, .f32⟩ : BufTy).Contents (Elt Ideal))

theorem slot0 (b h : Fin 4) (q s : Fin 4096) : idx_main_v60 (idx_main_v61 (ix4 b h q s)) = ix5 b h 0 q s := by
  have hb := b.isLt; have hh := h.isLt; have hq := q.isLt; have hs := s.isLt
  funext a
  match a with
  | ⟨0, _⟩ => exact Fin.ext (by show (((b.val * 4 + h.val) * 4096 + q.val) * 4096 + s.val) / 67108864 = b.val; omega)
  | ⟨1, _⟩ => exact Fin.ext (by show (((b.val * 4 + h.val) * 4096 + q.val) * 4096 + s.val) / 16777216 % 4 = h.val; omega)
  | ⟨2, _⟩ => rfl
  | ⟨3, _⟩ => exact Fin.ext (by show (((b.val * 4 + h.val) * 4096 + q.val) * 4096 + s.val) / 4096 % 4096 = q.val; omega)
  | ⟨4, _⟩ => exact Fin.ext (by show (((b.val * 4 + h.val) * 4096 + q.val) * 4096 + s.val) % 4096 = s.val; omega)

theorem slot1 (b h : Fin 4) (q s : Fin 4096) : idx_main_v62 (idx_main_v63 (ix4 b h q s)) = ix5 b h 1 q s := by
  have hb := b.isLt; have hh := h.isLt; have hq := q.isLt; have hs := s.isLt
  funext a
  match a with
  | ⟨0, _⟩ => exact Fin.ext (by show (((b.val * 4 + h.val) * 4096 + q.val) * 4096 + s.val) / 67108864 = b.val; omega)
  | ⟨1, _⟩ => exact Fin.ext (by show (((b.val * 4 + h.val) * 4096 + q.val) * 4096 + s.val) / 16777216 % 4 = h.val; omega)
  | ⟨2, _⟩ => rfl
  | ⟨3, _⟩ => exact Fin.ext (by show (((b.val * 4 + h.val) * 4096 + q.val) * 4096 + s.val) / 4096 % 4096 = q.val; omega)
  | ⟨4, _⟩ => exact Fin.ext (by show (((b.val * 4 + h.val) * 4096 + q.val) * 4096 + s.val) % 4096 = s.val; omega)

/-- The difference of the two softmaxes. -/
theorem mixed_apply (b h : Fin 4) (q s : Fin 4096) :
    val_main_v66 (F := Ideal) x0 x1 x3 x4 (ix4 b h q s)
      = val_main_v43 (F := Ideal) x0 x1 x3 (ix5 b h 0 q s) - val_main_v59 (F := Ideal) x4 ix0 * val_main_v43 (F := Ideal) x0 x1 x3 (ix5 b h 1 q s) := by
  rw [val_main_v66_apply, val_main_v65_apply, val_main_v64_apply, val_main_v61_apply, val_main_v63_apply, val_main_v60_apply, val_main_v62_apply, slot0, slot1,
    show idx_main_v64 (ix4 b h q s) = ix0 from funext fun a => a.elim0]
  rfl

theorem place (b h : Fin 4) (q : Fin 4096) (d : Fin 128) : idx_main_v83 (idx_main_v84 (ix3 b q (lane h d))) = ix4 b h q d := by
  have hb := b.isLt; have hh := h.isLt; have hq := q.isLt; have hd := d.isLt
  funext a
  match a with
  | ⟨0, _⟩ => exact Fin.ext (by show ((b.val * 4096 + q.val) * 512 + (h.val * 128 + d.val)) / 2097152 = b.val; omega)
  | ⟨1, _⟩ => exact Fin.ext (by show ((b.val * 4096 + q.val) * 512 + (h.val * 128 + d.val)) / 128 % 4 = h.val; omega)
  | ⟨2, _⟩ => exact Fin.ext (by show ((b.val * 4096 + q.val) * 512 + (h.val * 128 + d.val)) / 512 % 4096 = q.val; omega)
  | ⟨3, _⟩ => exact Fin.ext (by show ((b.val * 4096 + q.val) * 512 + (h.val * 128 + d.val)) % 128 = d.val; omega)

theorem place_apply (b h : Fin 4) (q : Fin 4096) (d : Fin 128) :
    val_main_v85 (F := Ideal) x0 x1 x2 x3 x4 x5 (ix3 b q (lane h d)) = val_main_v82 (F := Ideal) x0 x1 x2 x3 x4 x5 (ix4 b h q d) := by
  rw [val_main_v85_apply, val_main_v84_apply, val_main_v83_apply, place]
  rfl

end Cert.DiffRef

end
-- ==== Proof.DiffSum.lean ====
/- The reference's attention, read index by index. -/
module

public import proofs.«01_k».proof.Defs
public import proofs.«01_k».proof.Proof.Gen.Reference2Ideal.Read
public import proofs.«01_k».proof.Proof.DiffModel
public import proofs.«01_k».proof.Proof.DiffRef
public import Idealize.ShloMosaic.Lib.Pointwise

@[expose] public section

set_option maxRecDepth 16384

noncomputable section

namespace Cert.DiffRef

open Cert.Reference2Ideal Cert.Reference2Ideal.Read Idealize.ShloMosaic Idealize.ShloMosaic.TcCoe Idealize.SL.Sem
open Cert.Diff (Num lgt wt)

variable (x0 x1 x2 : (⟨S4x4096x512, .bf16⟩ : BufTy).Contents (Elt Ideal)) (x3 : (⟨S4x16x256x256, .f32⟩ : BufTy).Contents (Elt Ideal))
  (x4 : (⟨S4x64, .f32⟩ : BufTy).Contents (Elt Ideal)) (x5 : (⟨S128, .f32⟩ : BufTy).Contents (Elt Ideal))

theorem value_apply (b h : Fin 4) (s : Fin 4096) (d : Fin 128) : val_main_v5 (F := Ideal) x2 (ix4 b s h d) = x2 (ix3 b s (lane h d)) := by
  pointwise [val_main_v5, val_main_v4]
  rfl

theorem sum_apply (b h : Fin 4) (q : Fin 4096) (d : Fin 128) :
    val_main_v67 (F := Ideal) x0 x1 x2 x3 x4 (ix4 b h q d)
      = ∑ s : Fin 4096, val_main_v66 (F := Ideal) x0 x1 x3 x4 (ix4 b h q s) * val_main_v5 (F := Ideal) x2 (ix4 b s h d) := by
  pointwise [val_main_v67]

end Cert.DiffRef

end
-- ==== Proof.DiffNorm.lean ====
/- The reference's attention, read index by index. -/
module

public import proofs.«01_k».proof.Defs
public import proofs.«01_k».proof.Proof.Gen.Reference2Ideal.Read
public import proofs.«01_k».proof.Proof.DiffModel
public import proofs.«01_k».proof.Proof.DiffRef
public import Idealize.ShloMosaic.Lib.Pointwise

@[expose] public section

set_option maxRecDepth 16384

noncomputable section

namespace Cert.DiffRef

open Cert.Reference2Ideal Cert.Reference2Ideal.Read Idealize.ShloMosaic Idealize.ShloMosaic.TcCoe Idealize.SL.Sem
open Cert.Diff (Num lgt wt)

variable (x0 x1 x2 : (⟨S4x4096x512, .bf16⟩ : BufTy).Contents (Elt Ideal)) (x3 : (⟨S4x16x256x256, .f32⟩ : BufTy).Contents (Elt Ideal))
  (x4 : (⟨S4x64, .f32⟩ : BufTy).Contents (Elt Ideal)) (x5 : (⟨S128, .f32⟩ : BufTy).Contents (Elt Ideal))

/-- The squares' sum. -/
theorem squares_apply (b h : Fin 4) (q : Fin 4096) :
    val_main_v69 (F := Ideal) x0 x1 x2 x3 x4 (ix3 b h q)
      = ∑ d : Fin 128, val_main_v67 (F := Ideal) x0 x1 x2 x3 x4 (ix4 b h q d) * val_main_v67 (F := Ideal) x0 x1 x2 x3 x4 (ix4 b h q d) := by
  rw [val_main_v69_apply, val_main_cst_7_apply]
  refine (congrArg (· + _) (Ideal.ofBits_zero FTy.f32)).trans ((zero_add _).trans (Finset.sum_congr rfl fun d _ => ?_))
  have e : idx_main_v69 (ix3 b h q) d = ix4 b h q d := by
    funext a
    match a with
    | ⟨0, _⟩ => rfl
    | ⟨1, _⟩ => rfl
    | ⟨2, _⟩ => rfl
    | ⟨3, _⟩ => rfl
  rw [e, val_main_v68_apply]
  rfl

/-- The row's factor. -/
theorem factor_apply (b h : Fin 4) (q : Fin 4096) :
    val_main_v75 (F := Ideal) x0 x1 x2 x3 x4 (ix4 b h q 0)
      = Ideal.rsqrt (Ideal.div (val_main_v69 (F := Ideal) x0 x1 x2 x3 x4 (ix3 b h q)) (Ideal.ofBits FTy.f32 1124073472#32) + Ideal.ofBits FTy.f32 897988541#32) := by
  have e : idx_main_v70 (ix4 b h q 0) = ix3 b h q := by
    funext a
    match a with
    | ⟨0, _⟩ => rfl
    | ⟨1, _⟩ => rfl
    | ⟨2, _⟩ => rfl
  rw [val_main_v75_apply, val_main_v74_apply, val_main_v72_apply, val_main_v73_apply, val_main_v70_apply, val_main_v71_apply, val_main_cst_8_apply, val_main_cst_9_apply, e]
  rfl

/-- The gain of a lane. -/
theorem gain_apply (b h : Fin 4) (q : Fin 4096) (d : Fin 128) : val_main_v79 (F := Ideal) x5 (ix4 b h q d) = x5 (ix1 d) := by
  rw [val_main_v79_apply, val_main_v78_apply]
  refine congrArg x5 (funext fun a => ?_)
  match a with
  | ⟨0, _⟩ => rfl

/-- The normalised difference, from the row it normalises. -/
theorem normed_apply (b h : Fin 4) (q : Fin 4096) (d : Fin 128) :
    val_main_v82 (F := Ideal) x0 x1 x2 x3 x4 x5 (ix4 b h q d)
      = Diff.normed (fun d => val_main_v67 (F := Ideal) x0 x1 x2 x3 x4 (ix4 b h q d)) (fun d => x5 (ix1 d)) d := by
  have e : idx_main_v76 (ix4 b h q d) = ix4 b h q 0 := by
    funext a
    match a with
    | ⟨0, _⟩ => rfl
    | ⟨1, _⟩ => rfl
    | ⟨2, _⟩ => rfl
    | ⟨3, _⟩ => rfl
  rw [val_main_v82_apply, val_main_v81_apply, val_main_cst_10_apply, val_main_v80_apply, val_main_v77_apply, val_main_v76_apply, e, factor_apply, gain_apply, squares_apply]
  rfl

end Cert.DiffRef

end
-- ==== Proof.DiffTrip.lean ====
/- One trip of the attention's loop over the tiles of keys, read entry by entry. -/
module

public import proofs.«01_k».proof.Defs
public import proofs.«01_k».proof.Proof.Gen.Kernel2Ideal.Value
public import proofs.«01_k».proof.Proof.DiffModel
public import Idealize.ShloMosaic.Lib.Pointwise
public import Idealize.ShloMosaic.Lib.WritesUnit
public import Idealize.ShloMosaic.Lib.Pipeline.ValueKit

@[expose] public section

set_option maxRecDepth 16384

noncomputable section

namespace Cert.DiffTrip

open Cert.Kernel2Ideal Cert.Kernel2Ideal.Gen Idealize.ShloMosaic Idealize.ShloMosaic.TcCoe Idealize.SL.Sem
open Cert.Diff (After key key_val)

/-- The query tile of a grid point. -/
def qt (i : grid0.Coords) : Fin 16 := i 2

/-- How far a tile of keys lies before the query tile. -/
def tile (i : grid0.Coords) (n : ℕ) : Fin 16 := ⟨(qt i).val - n, by have := (qt i).isLt; omega⟩

/-- The loop runs once for each tile of keys before the query tile. -/
theorem trips_eq (i : grid0.Coords) : (k0_t1_loop i).trips = (qt i).val :=
  (by decide +kernel : ∀ q : Fin 16, (Scf.Loop.trips ⟨0#32, Scalar.addi 0#32 (Scalar.muli (Scalar.divsi (Scalar.subi (BitVec.ofNat 32 q.val) 0#32) 1#32) 1#32), 1#32⟩) = q.val) (qt i)

theorem key_off : ∀ n : Fin 16, BitVec.toNat (Scalar.indexCast (Scalar.muli (Scf.iv 0#32 1#32 n.val) 256#32)) = 256 * n.val := by
  decide +kernel

theorem tile_off : ∀ q n : Fin 16, n.val ≤ q.val → BitVec.toNat (Scalar.indexCast (Scalar.subi (BitVec.ofNat 32 q.val) (Scf.iv 0#32 1#32 n.val))) = q.val - n.val := by
  decide +kernel

/-- A tile of keys, or of values, as the loop reads it. -/
theorem keys_leaf (M : Memref sig .tc .vmem S1x4096x128 .bf16) (X : BufTy.Contents (Elt Ideal) M.view.ty) {o n : ℕ} (hn : n < 16) (ho : o = 256 * n) (inb)
    (j : Fin 256) (d : Fin 128) :
    View.readAt (Elt Ideal) M.view (Rect.unit (s := S1x4096x128) ![0, o, 0] S1x256x128.size inb).toLoadRect X (ix3 0 j d) = M.view.read (Elt Ideal) X (ix3 0 (key n j) d) := by
  rw [View.readAt_eq_ld]
  exact View.ld_unit_apply_of _ _ _ _ _ _ fun a => by
    match a with
    | ⟨0, _⟩ => rfl
    | ⟨1, _⟩ => exact (key_val hn j).trans (by rw [← ho]; rfl)
    | ⟨2, _⟩ => exact (Nat.zero_add _).symm

theorem key_leaf16 (M : Memref sig .tc .vmem S1x4096x128 .bf16) (X : BufTy.Contents (Elt Ideal) M.view.ty) {n : ℕ} (hn : n < 16) (inb)
    (j : Fin 256) (d : Fin 128) :
    View.readAt (Elt Ideal) M.view (Rect.unit (s := S1x4096x128) ![0, BitVec.toNat (Scalar.indexCast (Scalar.muli (Scf.iv 0#32 1#32 n) 256#32)), 0] S1x256x128.size inb).toLoadRect X (ix3 0 j d)
      = M.view.read (Elt Ideal) X (ix3 0 (key n j) d) :=
  keys_leaf M X hn (key_off ⟨n, hn⟩) inb j d

/-- A tile of the bias as the loop reads it. -/
theorem bias_leaf (M : Memref sig .tc .vmem S1x16x256x256 .f32) (X : BufTy.Contents (Elt Ideal) M.view.ty) {i : grid0.Coords} (n : ℕ) (hn : n < (qt i).val) (inb)
    (r j : Fin 256) :
    View.readAt (Elt Ideal) M.view (Rect.unit (s := S1x16x256x256) ![0, BitVec.toNat (Scalar.indexCast (Scalar.subi (BitVec.ofNat 32 (i 2).val) (Scf.iv 0#32 1#32 n))), 0, 0] S1x1x256x256.size inb).toLoadRect X (ix4 0 0 r j)
      = M.view.read (Elt Ideal) X (ix4 0 (tile i n) r j) := by
  rw [View.readAt_eq_ld]
  exact View.ld_unit_apply_of _ _ _ _ _ _ fun a => by
    match a with
    | ⟨0, _⟩ => rfl
    | ⟨1, _⟩ => exact (tile_off (qt i) ⟨n, hn.trans (qt i).isLt⟩ hn.le).symm
    | ⟨2, _⟩ => exact (Nat.zero_add _).symm
    | ⟨3, _⟩ => exact (Nat.zero_add _).symm

theorem head_leaf (M : Memref sig .tc .vmem S2x256x1 .f32) (X : BufTy.Contents (Elt Ideal) M.view.ty) (inb) (r : Fin 256) :
    View.readAt (Elt Ideal) M.view (Rect.unit (s := S2x256x1) ![0, 0, 0] S1x256x1.size inb).toLoadRect X (ix3 0 r 0) = M.view.read (Elt Ideal) X (ix3 0 r 0) := by
  rw [View.readAt_eq_ld]
  exact View.ld_unit_apply_of _ _ _ _ _ _ fun a => by match a with | ⟨0, _⟩ => rfl | ⟨1, _⟩ => exact (Nat.zero_add _).symm | ⟨2, _⟩ => rfl

theorem tail_leaf (M : Memref sig .tc .vmem S2x256x1 .f32) (X : BufTy.Contents (Elt Ideal) M.view.ty) (inb) (r : Fin 256) :
    View.readAt (Elt Ideal) M.view (Rect.unit (s := S2x256x1) ![1, 0, 0] S1x256x1.size inb).toLoadRect X (ix3 0 r 0) = M.view.read (Elt Ideal) X (ix3 1 r 0) := by
  rw [View.readAt_eq_ld]
  exact View.ld_unit_apply_of _ _ _ _ _ _ fun a => by match a with | ⟨0, _⟩ => rfl | ⟨1, _⟩ => exact (Nat.zero_add _).symm | ⟨2, _⟩ => rfl

theorem headAcc_leaf (M : Memref sig .tc .vmem S2x256x128 .f32) (X : BufTy.Contents (Elt Ideal) M.view.ty) (inb) (r : Fin 256) (d : Fin 128) :
    View.readAt (Elt Ideal) M.view (Rect.unit (s := S2x256x128) ![0, 0, 0] S1x256x128.size inb).toLoadRect X (ix3 0 r d) = M.view.read (Elt Ideal) X (ix3 0 r d) := by
  rw [View.readAt_eq_ld]
  exact View.ld_unit_apply_of _ _ _ _ _ _ fun a => by match a with | ⟨0, _⟩ => rfl | ⟨1, _⟩ => exact (Nat.zero_add _).symm | ⟨2, _⟩ => exact (Nat.zero_add _).symm

theorem tailAcc_leaf (M : Memref sig .tc .vmem S2x256x128 .f32) (X : BufTy.Contents (Elt Ideal) M.view.ty) (inb) (r : Fin 256) (d : Fin 128) :
    View.readAt (Elt Ideal) M.view (Rect.unit (s := S2x256x128) ![1, 0, 0] S1x256x128.size inb).toLoadRect X (ix3 0 r d) = M.view.read (Elt Ideal) X (ix3 1 r d) := by
  rw [View.readAt_eq_ld]
  exact View.ld_unit_apply_of _ _ _ _ _ _ fun a => by match a with | ⟨0, _⟩ => rfl | ⟨1, _⟩ => exact (Nat.zero_add _).symm | ⟨2, _⟩ => exact (Nat.zero_add _).symm

/- The words of a trip that are loads, entry by entry. -/
theorem keys_word (i : grid0.Coords) (M : Memref sig .tc .vmem S1x4096x128 .bf16) (X : BufTy.Contents (Elt Ideal) M.view.ty) (k : Fin (k0_t1_loop i).trips) (j : Fin 256) (d : Fin 128) :
    trip_k0_t1.sl.v172 i M X k (ix2 j d) = M.view.read (Elt Ideal) X (ix3 0 (key k.val j) d) := by
  have hk : k.val < 16 := ((trips_eq i) ▸ k.isLt : k.val < (qt i).val).trans (qt i).isLt
  unfold trip_k0_t1.sl.v172
  pointwise []
  exact keys_leaf M X hk (key_off ⟨k.val, hk⟩) _ j d

theorem vals_word (i : grid0.Coords) (M : Memref sig .tc .vmem S1x4096x128 .bf16) (X : BufTy.Contents (Elt Ideal) M.view.ty) (k : Fin (k0_t1_loop i).trips) (j : Fin 256) (d : Fin 128) :
    trip_k0_t1.sl.v175 i M X k (ix2 j d) = M.view.read (Elt Ideal) X (ix3 0 (key k.val j) d) := by
  have hk : k.val < 16 := ((trips_eq i) ▸ k.isLt : k.val < (qt i).val).trans (qt i).isLt
  unfold trip_k0_t1.sl.v175
  pointwise []
  exact keys_leaf M X hk (key_off ⟨k.val, hk⟩) _ j d

theorem bias_word (i : grid0.Coords) (M : Memref sig .tc .vmem S1x16x256x256 .f32) (X : BufTy.Contents (Elt Ideal) M.view.ty) (k : Fin (k0_t1_loop i).trips) (r j : Fin 256) :
    trip_k0_t1.sl.v167 i M X k (ix2 r j) = M.view.read (Elt Ideal) X (ix4 0 (tile i k.val) r j) := by
  unfold trip_k0_t1.sl.v167
  pointwise []
  exact bias_leaf M X k.val ((trips_eq i) ▸ k.isLt) _ r j

theorem head_word179 (M : Memref sig .tc .vmem S2x256x1 .f32) (X : BufTy.Contents (Elt Ideal) M.view.ty) (r : Fin 256) :
    trip_k0_t1.sl.v179 M X (ix2 r 0) = M.view.read (Elt Ideal) X (ix3 0 r 0) := by
  unfold trip_k0_t1.sl.v179
  pointwise []
  exact head_leaf M X _ r

theorem head_word189 (M : Memref sig .tc .vmem S2x256x1 .f32) (X : BufTy.Contents (Elt Ideal) M.view.ty) (r : Fin 256) :
    trip_k0_t1.sl.v189 M X (ix2 r 0) = M.view.read (Elt Ideal) X (ix3 0 r 0) := by
  unfold trip_k0_t1.sl.v189
  pointwise []
  exact head_leaf M X _ r

theorem head_word198 (M : Memref sig .tc .vmem S2x256x128 .f32) (X : BufTy.Contents (Elt Ideal) M.view.ty) (r : Fin 256) (d : Fin 128) :
    trip_k0_t1.sl.v198 M X (ix2 r d) = M.view.read (Elt Ideal) X (ix3 0 r d) := by
  unfold trip_k0_t1.sl.v198
  pointwise []
  exact headAcc_leaf M X _ r d

theorem tail_word213 (M : Memref sig .tc .vmem S2x256x1 .f32) (X : BufTy.Contents (Elt Ideal) M.view.ty) (r : Fin 256) :
    trip_k0_t1.sl.v213 M X (ix2 r 0) = M.view.read (Elt Ideal) X (ix3 1 r 0) := by
  unfold trip_k0_t1.sl.v213 trip_k0_t1.sl.v212
  pointwise []
  exact tail_leaf M X _ r

theorem tail_word223 (M : Memref sig .tc .vmem S2x256x1 .f32) (X : BufTy.Contents (Elt Ideal) M.view.ty) (r : Fin 256) :
    trip_k0_t1.sl.v223 M X (ix2 r 0) = M.view.read (Elt Ideal) X (ix3 1 r 0) := by
  unfold trip_k0_t1.sl.v223 trip_k0_t1.sl.v222
  pointwise []
  exact tail_leaf M X _ r

theorem tail_word232 (M : Memref sig .tc .vmem S2x256x128 .f32) (X : BufTy.Contents (Elt Ideal) M.view.ty) (r : Fin 256) (d : Fin 128) :
    trip_k0_t1.sl.v232 M X (ix2 r d) = M.view.read (Elt Ideal) X (ix3 1 r d) := by
  unfold trip_k0_t1.sl.v232 trip_k0_t1.sl.v231
  pointwise []
  exact tailAcc_leaf M X _ r d

/-- One trip takes one tile of keys in, for both components of every row. -/
theorem trip_after (𝒱 : Variants) (c : Dev nD) (bd : Option 𝒱.V) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x16x256x256 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x256x128 .bf16) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S2x256x128 .f32) (harg12 : arg12.IsWhole) (arg2 : BitVec 32) (v0 : Vec Ideal S1x256x128 .bf16) (X4 : BufTy.Contents (Elt Ideal) arg4.view.ty) (X5 : BufTy.Contents (Elt Ideal) arg5.view.ty) (X6 : BufTy.Contents (Elt Ideal) arg6.view.ty) (k : Fin (k0_t1_loop i).trips)
    (f10 : BufTy.Contents (Elt Ideal) arg10.view.ty) (f11 : BufTy.Contents (Elt Ideal) arg11.view.ty) (f12 : BufTy.Contents (Elt Ideal) arg12.view.ty) (r : Fin 256) :
    let L := tripL_k0_t1 (F := Ideal) 𝒱 c bd i arg3 harg3 arg4 harg4 arg5 harg5 arg6 harg6 arg7 harg7 arg8 harg8 arg9 harg9 arg10 harg10 arg11 harg11 arg12 harg12 arg2 v0 X4 X5 X6 k f10 f11 f12
    After (fun j => Diff.dot 0 (fun d => v0 (ix3 0 r d)) (fun d => arg4.view.read (Elt Ideal) X4 (ix3 0 (key k j) d)) + arg6.view.read (Elt Ideal) X6 (ix4 0 (tile i k) r j))
        (fun j d => arg5.view.read (Elt Ideal) X5 (ix3 0 (key k j) d))
        (arg10.view.read (Elt Ideal) f10 (ix3 0 r 0)) (arg11.view.read (Elt Ideal) f11 (ix3 0 r 0)) (fun d => arg12.view.read (Elt Ideal) f12 (ix3 0 r d))
        (arg10.view.read (Elt Ideal) (arg10.view.writes (Elt Ideal) f10 L.1) (ix3 0 r 0)) (arg11.view.read (Elt Ideal) (arg11.view.writes (Elt Ideal) f11 L.2.1) (ix3 0 r 0))
        (fun d => arg12.view.read (Elt Ideal) (arg12.view.writes (Elt Ideal) f12 L.2.2) (ix3 0 r d))
    ∧ After (fun j => Diff.dot 1 (fun d => v0 (ix3 0 r d)) (fun d => arg4.view.read (Elt Ideal) X4 (ix3 0 (key k j) d)) + arg6.view.read (Elt Ideal) X6 (ix4 0 (tile i k) r j))
        (fun j d => arg5.view.read (Elt Ideal) X5 (ix3 0 (key k j) d))
        (arg10.view.read (Elt Ideal) f10 (ix3 1 r 0)) (arg11.view.read (Elt Ideal) f11 (ix3 1 r 0)) (fun d => arg12.view.read (Elt Ideal) f12 (ix3 1 r d))
        (arg10.view.read (Elt Ideal) (arg10.view.writes (Elt Ideal) f10 L.1) (ix3 1 r 0)) (arg11.view.read (Elt Ideal) (arg11.view.writes (Elt Ideal) f11 L.2.1) (ix3 1 r 0))
        (fun d => arg12.view.read (Elt Ideal) (arg12.view.writes (Elt Ideal) f12 L.2.2) (ix3 1 r d)) := by
  intro L
  have hkq : k.val < (qt i).val := (trips_eq i) ▸ k.isLt
  have hk : k.val < 16 := hkq.trans (qt i).isLt
  unfold L tripL_k0_t1 trip_k0_t1
  dsimp only
  refine ⟨?_, ?_⟩
  · refine ⟨?_, ?_, fun d => ?_⟩
    · refine (View.read_writes_cons_unit_of_not_mem _ _ _ _ _ _ rfl 0 (Or.inl Nat.zero_lt_one)).trans ?_
      refine (View.read_writes_cons_unit_of_mem _ _ _ _ _ _ (ix3 0 r 0) rfl fun a => by match a with | ⟨0, _⟩ => rfl | ⟨1, _⟩ => exact (Nat.zero_add _).symm | ⟨2, _⟩ => rfl).trans ?_
      pointwise [trip_k0_t1.sl.v176, trip_k0_t1.sl.v177, trip_k0_t1.sl.v180, trip_k0_t1.sl.v181, trip_k0_t1.sl.v182, trip_k0_t1.sl.v183, trip_k0_t1.sl.v184, trip_k0_t1.sl.v185, trip_k0_t1.sl.v186, trip_k0_t1.sl.v187, trip_k0_t1.sl.v190, trip_k0_t1.sl.v191, trip_k0_t1.sl.v192, trip_k0_t1.sl.v193, trip_k0_t1.sl.v196, trip_k0_t1.sl.v199, trip_k0_t1.sl.v200, trip_k0_t1.sl.v201, trip_k0_t1.sl.v202, trip_k0_t1.sl.v203, trip_k0_t1.sl.v206, trip_k0_t1.sl.v209, trip_k0_t1.sl.v210, trip_k0_t1.sl.v211, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v224, trip_k0_t1.sl.v225, trip_k0_t1.sl.v226, trip_k0_t1.sl.v227, trip_k0_t1.sl.v230, trip_k0_t1.sl.v233, trip_k0_t1.sl.cst_104, trip_k0_t1.sl.cst_108, trip_k0_t1.sl.cst_112, trip_k0_t1.sl.cst_119, k0_pay45, k0_pay46, k0_pay42, k0_pay43, k0_pay44, k0_pay50, k0_pay51]
      simp only [keys_word, vals_word, bias_word, head_word179, head_word189, head_word198, tail_word213, tail_word223, tail_word232]
      rfl
    · refine (View.read_writes_cons_unit_of_not_mem _ _ _ _ _ _ rfl 0 (Or.inl Nat.zero_lt_one)).trans ?_
      refine (View.read_writes_cons_unit_of_mem _ _ _ _ _ _ (ix3 0 r 0) rfl fun a => by match a with | ⟨0, _⟩ => rfl | ⟨1, _⟩ => exact (Nat.zero_add _).symm | ⟨2, _⟩ => rfl).trans ?_
      pointwise [trip_k0_t1.sl.v176, trip_k0_t1.sl.v177, trip_k0_t1.sl.v180, trip_k0_t1.sl.v181, trip_k0_t1.sl.v182, trip_k0_t1.sl.v183, trip_k0_t1.sl.v184, trip_k0_t1.sl.v185, trip_k0_t1.sl.v186, trip_k0_t1.sl.v187, trip_k0_t1.sl.v190, trip_k0_t1.sl.v191, trip_k0_t1.sl.v192, trip_k0_t1.sl.v193, trip_k0_t1.sl.v196, trip_k0_t1.sl.v199, trip_k0_t1.sl.v200, trip_k0_t1.sl.v201, trip_k0_t1.sl.v202, trip_k0_t1.sl.v203, trip_k0_t1.sl.v206, trip_k0_t1.sl.v209, trip_k0_t1.sl.v210, trip_k0_t1.sl.v211, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v224, trip_k0_t1.sl.v225, trip_k0_t1.sl.v226, trip_k0_t1.sl.v227, trip_k0_t1.sl.v230, trip_k0_t1.sl.v233, trip_k0_t1.sl.cst_104, trip_k0_t1.sl.cst_108, trip_k0_t1.sl.cst_112, trip_k0_t1.sl.cst_119, k0_pay45, k0_pay46, k0_pay42, k0_pay43, k0_pay44, k0_pay50, k0_pay51]
      simp only [keys_word, vals_word, bias_word, head_word179, head_word189, head_word198, tail_word213, tail_word223, tail_word232]
      rfl
    · refine (View.read_writes_cons_unit_of_not_mem _ _ _ _ _ _ rfl 0 (Or.inl Nat.zero_lt_one)).trans ?_
      refine (View.read_writes_cons_unit_of_mem _ _ _ _ _ _ (ix3 0 r d) rfl fun a => by match a with | ⟨0, _⟩ => rfl | ⟨1, _⟩ => exact (Nat.zero_add _).symm | ⟨2, _⟩ => exact (Nat.zero_add _).symm).trans ?_
      pointwise [trip_k0_t1.sl.v176, trip_k0_t1.sl.v177, trip_k0_t1.sl.v180, trip_k0_t1.sl.v181, trip_k0_t1.sl.v182, trip_k0_t1.sl.v183, trip_k0_t1.sl.v184, trip_k0_t1.sl.v185, trip_k0_t1.sl.v186, trip_k0_t1.sl.v187, trip_k0_t1.sl.v190, trip_k0_t1.sl.v191, trip_k0_t1.sl.v192, trip_k0_t1.sl.v193, trip_k0_t1.sl.v196, trip_k0_t1.sl.v199, trip_k0_t1.sl.v200, trip_k0_t1.sl.v201, trip_k0_t1.sl.v202, trip_k0_t1.sl.v203, trip_k0_t1.sl.v206, trip_k0_t1.sl.v209, trip_k0_t1.sl.v210, trip_k0_t1.sl.v211, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v224, trip_k0_t1.sl.v225, trip_k0_t1.sl.v226, trip_k0_t1.sl.v227, trip_k0_t1.sl.v230, trip_k0_t1.sl.v233, trip_k0_t1.sl.cst_104, trip_k0_t1.sl.cst_108, trip_k0_t1.sl.cst_112, trip_k0_t1.sl.cst_119, k0_pay45, k0_pay46, k0_pay42, k0_pay43, k0_pay44, k0_pay50, k0_pay51]
      simp only [keys_word, vals_word, bias_word, head_word179, head_word189, head_word198, tail_word213, tail_word223, tail_word232]
      rfl
  · refine ⟨?_, ?_, fun d => ?_⟩
    · refine (View.read_writes_cons_unit_of_mem _ _ _ _ _ _ (ix3 0 r 0) rfl fun a => by match a with | ⟨0, _⟩ => rfl | ⟨1, _⟩ => exact (Nat.zero_add _).symm | ⟨2, _⟩ => rfl).trans ?_
      pointwise [trip_k0_t1.sl.v176, trip_k0_t1.sl.v177, trip_k0_t1.sl.v180, trip_k0_t1.sl.v181, trip_k0_t1.sl.v182, trip_k0_t1.sl.v183, trip_k0_t1.sl.v184, trip_k0_t1.sl.v185, trip_k0_t1.sl.v186, trip_k0_t1.sl.v187, trip_k0_t1.sl.v190, trip_k0_t1.sl.v191, trip_k0_t1.sl.v192, trip_k0_t1.sl.v193, trip_k0_t1.sl.v196, trip_k0_t1.sl.v199, trip_k0_t1.sl.v200, trip_k0_t1.sl.v201, trip_k0_t1.sl.v202, trip_k0_t1.sl.v203, trip_k0_t1.sl.v206, trip_k0_t1.sl.v209, trip_k0_t1.sl.v210, trip_k0_t1.sl.v211, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v224, trip_k0_t1.sl.v225, trip_k0_t1.sl.v226, trip_k0_t1.sl.v227, trip_k0_t1.sl.v230, trip_k0_t1.sl.v233, trip_k0_t1.sl.cst_104, trip_k0_t1.sl.cst_108, trip_k0_t1.sl.cst_112, trip_k0_t1.sl.cst_119, k0_pay45, k0_pay46, k0_pay42, k0_pay43, k0_pay44, k0_pay50, k0_pay51]
      simp only [keys_word, vals_word, bias_word, head_word179, head_word189, head_word198, tail_word213, tail_word223, tail_word232]
      rfl
    · refine (View.read_writes_cons_unit_of_mem _ _ _ _ _ _ (ix3 0 r 0) rfl fun a => by match a with | ⟨0, _⟩ => rfl | ⟨1, _⟩ => exact (Nat.zero_add _).symm | ⟨2, _⟩ => rfl).trans ?_
      pointwise [trip_k0_t1.sl.v176, trip_k0_t1.sl.v177, trip_k0_t1.sl.v180, trip_k0_t1.sl.v181, trip_k0_t1.sl.v182, trip_k0_t1.sl.v183, trip_k0_t1.sl.v184, trip_k0_t1.sl.v185, trip_k0_t1.sl.v186, trip_k0_t1.sl.v187, trip_k0_t1.sl.v190, trip_k0_t1.sl.v191, trip_k0_t1.sl.v192, trip_k0_t1.sl.v193, trip_k0_t1.sl.v196, trip_k0_t1.sl.v199, trip_k0_t1.sl.v200, trip_k0_t1.sl.v201, trip_k0_t1.sl.v202, trip_k0_t1.sl.v203, trip_k0_t1.sl.v206, trip_k0_t1.sl.v209, trip_k0_t1.sl.v210, trip_k0_t1.sl.v211, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v224, trip_k0_t1.sl.v225, trip_k0_t1.sl.v226, trip_k0_t1.sl.v227, trip_k0_t1.sl.v230, trip_k0_t1.sl.v233, trip_k0_t1.sl.cst_104, trip_k0_t1.sl.cst_108, trip_k0_t1.sl.cst_112, trip_k0_t1.sl.cst_119, k0_pay45, k0_pay46, k0_pay42, k0_pay43, k0_pay44, k0_pay50, k0_pay51]
      simp only [keys_word, vals_word, bias_word, head_word179, head_word189, head_word198, tail_word213, tail_word223, tail_word232]
      rfl
    · refine (View.read_writes_cons_unit_of_mem _ _ _ _ _ _ (ix3 0 r d) rfl fun a => by match a with | ⟨0, _⟩ => rfl | ⟨1, _⟩ => exact (Nat.zero_add _).symm | ⟨2, _⟩ => exact (Nat.zero_add _).symm).trans ?_
      pointwise [trip_k0_t1.sl.v176, trip_k0_t1.sl.v177, trip_k0_t1.sl.v180, trip_k0_t1.sl.v181, trip_k0_t1.sl.v182, trip_k0_t1.sl.v183, trip_k0_t1.sl.v184, trip_k0_t1.sl.v185, trip_k0_t1.sl.v186, trip_k0_t1.sl.v187, trip_k0_t1.sl.v190, trip_k0_t1.sl.v191, trip_k0_t1.sl.v192, trip_k0_t1.sl.v193, trip_k0_t1.sl.v196, trip_k0_t1.sl.v199, trip_k0_t1.sl.v200, trip_k0_t1.sl.v201, trip_k0_t1.sl.v202, trip_k0_t1.sl.v203, trip_k0_t1.sl.v206, trip_k0_t1.sl.v209, trip_k0_t1.sl.v210, trip_k0_t1.sl.v211, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v224, trip_k0_t1.sl.v225, trip_k0_t1.sl.v226, trip_k0_t1.sl.v227, trip_k0_t1.sl.v230, trip_k0_t1.sl.v233, trip_k0_t1.sl.cst_104, trip_k0_t1.sl.cst_108, trip_k0_t1.sl.cst_112, trip_k0_t1.sl.cst_119, k0_pay45, k0_pay46, k0_pay42, k0_pay43, k0_pay44, k0_pay50, k0_pay51]
      simp only [keys_word, vals_word, bias_word, head_word179, head_word189, head_word198, tail_word213, tail_word223, tail_word232]
      rfl

end Cert.DiffTrip

end
-- ==== Proof.DiffLoop.lean ====
/- The attention's loop over the tiles of keys. -/
module

public import proofs.«01_k».proof.Defs
public import proofs.«01_k».proof.Proof.Gen.Kernel2Ideal.Value
public import proofs.«01_k».proof.Proof.DiffModel
public import proofs.«01_k».proof.Proof.DiffTrip
public import Idealize.ShloMosaic.Lib.Pointwise
public import Idealize.ShloMosaic.Lib.WritesUnit
public import Idealize.ShloMosaic.Lib.Pipeline.ValueKit

@[expose] public section

set_option maxRecDepth 16384

noncomputable section

namespace Cert.DiffLoop

open Cert.Kernel2Ideal Cert.Kernel2Ideal.Gen Idealize.ShloMosaic Idealize.ShloMosaic.TcCoe Idealize.SL.Sem
open Cert.Diff (After key key_val Num lgt State)
open Cert.DiffTrip

variable (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x16x256x256 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x256x128 .bf16) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S2x256x128 .f32) (harg12 : arg12.IsWhole) (x0 : Vec Ideal S1x256x128 .bf16) (x1 x2 : Vec Ideal S1x4096x128 .bf16) (x3 : Vec Ideal S1x16x256x256 .f32)

/-- The query tile as the body loads it. -/
def qv : Vec Ideal S1x256x128 .bf16 :=
  View.readAt (Elt Ideal) arg3.view (Rect.unit ![0, 0, 0] S1x256x128.size inb_S1x256x128_S1x256x128_0_0_0).toLoadRect (harg3.unread x0)

theorem qv_eq : qv arg3 harg3 x0 = x0 := by
  unfold qv
  rw [View.readAt_eq_ld, harg3.read_unread, View.ld_unit_lit _ _ (by decide)]

/-- The pieces the first `n` trips write. -/
def trips (n : ℕ) :=
  pb_k0_t1 (F := Ideal) Variants.none c none i arg3 harg3 arg4 harg4 arg5 harg5 arg6 harg6 arg7 harg7 arg8 harg8 arg9 harg9 arg10 harg10 arg11 harg11 arg12 harg12 (BitVec.ofNat 32 (i 2).val) (qv arg3 harg3 x0) (harg4.unread x1) (harg5.unread x2) (harg6.unread x3)
    (arg10.view.writes (Elt Ideal) arg10.view.junk kernelRun0_A.sl.HS0_1) (arg11.view.writes (Elt Ideal) arg11.view.junk kernelRun0_A.sl.HS1_1) (arg12.view.writes (Elt Ideal) arg12.view.junk kernelRun0_A.sl.HS2_1) n

/-- The running maxima after `n` trips. -/
def maxAt (n : ℕ) : Vec Ideal S2x256x1 .f32 :=
  arg10.view.read (Elt Ideal) (arg10.view.writes (Elt Ideal) (arg10.view.writes (Elt Ideal) arg10.view.junk kernelRun0_A.sl.HS0_1) (trips c i arg3 harg3 arg4 harg4 arg5 harg5 arg6 harg6 arg7 harg7 arg8 harg8 arg9 harg9 arg10 harg10 arg11 harg11 arg12 harg12 x0 x1 x2 x3 n).1)

/-- The running sums after `n` trips. -/
def sumAt (n : ℕ) : Vec Ideal S2x256x1 .f32 :=
  arg11.view.read (Elt Ideal) (arg11.view.writes (Elt Ideal) (arg11.view.writes (Elt Ideal) arg11.view.junk kernelRun0_A.sl.HS1_1) (trips c i arg3 harg3 arg4 harg4 arg5 harg5 arg6 harg6 arg7 harg7 arg8 harg8 arg9 harg9 arg10 harg10 arg11 harg11 arg12 harg12 x0 x1 x2 x3 n).2.1)

/-- The running accumulators after `n` trips. -/
def accAt (n : ℕ) : Vec Ideal S2x256x128 .f32 :=
  arg12.view.read (Elt Ideal) (arg12.view.writes (Elt Ideal) (arg12.view.writes (Elt Ideal) arg12.view.junk kernelRun0_A.sl.HS2_1) (trips c i arg3 harg3 arg4 harg4 arg5 harg5 arg6 harg6 arg7 harg7 arg8 harg8 arg9 harg9 arg10 harg10 arg11 harg11 arg12 harg12 x0 x1 x2 x3 n).2.2)

theorem maxAt_zero (p : Fin 2) (r : Fin 256) : maxAt c i arg3 harg3 arg4 harg4 arg5 harg5 arg6 harg6 arg7 harg7 arg8 harg8 arg9 harg9 arg10 harg10 arg11 harg11 arg12 harg12 x0 x1 x2 x3 0 (ix3 p r 0) = ⊥ := by
  show arg10.view.read (Elt Ideal) (arg10.view.writes (Elt Ideal) arg10.view.junk kernelRun0_A.sl.HS0_1) (ix3 p r 0) = ⊥
  unfold kernelRun0_A.sl.HS0_1
  refine (View.read_writes_cons_unit_of_mem _ _ _ _ _ _ (ix3 p r 0) rfl fun a => by match a with | ⟨0, _⟩ => exact (Nat.zero_add _).symm | ⟨1, _⟩ => exact (Nat.zero_add _).symm | ⟨2, _⟩ => rfl).trans ?_
  pointwise [k0_pay47]
  rfl

theorem sumAt_zero (p : Fin 2) (r : Fin 256) : sumAt c i arg3 harg3 arg4 harg4 arg5 harg5 arg6 harg6 arg7 harg7 arg8 harg8 arg9 harg9 arg10 harg10 arg11 harg11 arg12 harg12 x0 x1 x2 x3 0 (ix3 p r 0) = 0 := by
  show arg11.view.read (Elt Ideal) (arg11.view.writes (Elt Ideal) arg11.view.junk kernelRun0_A.sl.HS1_1) (ix3 p r 0) = 0
  unfold kernelRun0_A.sl.HS1_1
  refine (View.read_writes_cons_unit_of_mem _ _ _ _ _ _ (ix3 p r 0) rfl fun a => by match a with | ⟨0, _⟩ => exact (Nat.zero_add _).symm | ⟨1, _⟩ => exact (Nat.zero_add _).symm | ⟨2, _⟩ => rfl).trans ?_
  pointwise [k0_pay48]

theorem accAt_zero (p : Fin 2) (r : Fin 256) (d : Fin 128) : accAt c i arg3 harg3 arg4 harg4 arg5 harg5 arg6 harg6 arg7 harg7 arg8 harg8 arg9 harg9 arg10 harg10 arg11 harg11 arg12 harg12 x0 x1 x2 x3 0 (ix3 p r d) = 0 := by
  show arg12.view.read (Elt Ideal) (arg12.view.writes (Elt Ideal) arg12.view.junk kernelRun0_A.sl.HS2_1) (ix3 p r d) = 0
  unfold kernelRun0_A.sl.HS2_1
  refine (View.read_writes_cons_unit_of_mem _ _ _ _ _ _ (ix3 p r d) rfl fun a => by match a with | ⟨0, _⟩ => exact (Nat.zero_add _).symm | ⟨1, _⟩ => exact (Nat.zero_add _).symm | ⟨2, _⟩ => exact (Nat.zero_add _).symm).trans ?_
  pointwise [k0_pay49]

/-- The logits of one row, read off the windows. -/
def row (p : Fin 2) (r : Fin 256) : Fin 4096 → EReal :=
  lgt p (fun d => x0 (ix3 0 r d)) (fun s d => x1 (ix3 0 s d)) (fun t j => x3 (ix4 0 t r j)) (qt i) r

/-- The values, as numbers. -/
def val (s : Fin 4096) (d : Fin 128) : ℝ := (x2 (ix3 0 s d) : EReal).toReal

/-- Trip `n` as a step of the model. -/
theorem step_after (h2 : ∀ s d, Num (x2 (ix3 0 s d))) (n : ℕ) (hn : n < (qt i).val) (p : Fin 2) (r : Fin 256) :
    After (fun j => row i x0 x1 x3 p r (key n j)) (fun j d => (val x2 (key n j) d : EReal))
      (maxAt c i arg3 harg3 arg4 harg4 arg5 harg5 arg6 harg6 arg7 harg7 arg8 harg8 arg9 harg9 arg10 harg10 arg11 harg11 arg12 harg12 x0 x1 x2 x3 n (ix3 p r 0)) (sumAt c i arg3 harg3 arg4 harg4 arg5 harg5 arg6 harg6 arg7 harg7 arg8 harg8 arg9 harg9 arg10 harg10 arg11 harg11 arg12 harg12 x0 x1 x2 x3 n (ix3 p r 0)) (fun d => accAt c i arg3 harg3 arg4 harg4 arg5 harg5 arg6 harg6 arg7 harg7 arg8 harg8 arg9 harg9 arg10 harg10 arg11 harg11 arg12 harg12 x0 x1 x2 x3 n (ix3 p r d))
      (maxAt c i arg3 harg3 arg4 harg4 arg5 harg5 arg6 harg6 arg7 harg7 arg8 harg8 arg9 harg9 arg10 harg10 arg11 harg11 arg12 harg12 x0 x1 x2 x3 (n + 1) (ix3 p r 0)) (sumAt c i arg3 harg3 arg4 harg4 arg5 harg5 arg6 harg6 arg7 harg7 arg8 harg8 arg9 harg9 arg10 harg10 arg11 harg11 arg12 harg12 x0 x1 x2 x3 (n + 1) (ix3 p r 0)) (fun d => accAt c i arg3 harg3 arg4 harg4 arg5 harg5 arg6 harg6 arg7 harg7 arg8 harg8 arg9 harg9 arg10 harg10 arg11 harg11 arg12 harg12 x0 x1 x2 x3 (n + 1) (ix3 p r d)) := by
  have hk : n < (k0_t1_loop i).trips := (trips_eq i).symm ▸ hn
  have hs : trips c i arg3 harg3 arg4 harg4 arg5 harg5 arg6 harg6 arg7 harg7 arg8 harg8 arg9 harg9 arg10 harg10 arg11 harg11 arg12 harg12 x0 x1 x2 x3 (n + 1) = _ :=
    pb_k0_t1_succ (F := Ideal) Variants.none c none i arg3 harg3 arg4 harg4 arg5 harg5 arg6 harg6 arg7 harg7 arg8 harg8 arg9 harg9 arg10 harg10 arg11 harg11 arg12 harg12 (BitVec.ofNat 32 (i 2).val) (qv arg3 harg3 x0) (harg4.unread x1) (harg5.unread x2) (harg6.unread x3)
      (arg10.view.writes (Elt Ideal) arg10.view.junk kernelRun0_A.sl.HS0_1) (arg11.view.writes (Elt Ideal) arg11.view.junk kernelRun0_A.sl.HS1_1) (arg12.view.writes (Elt Ideal) arg12.view.junk kernelRun0_A.sl.HS2_1) ⟨n, hk⟩
  have hT := trip_after Variants.none c none i arg3 harg3 arg4 harg4 arg5 harg5 arg6 harg6 arg7 harg7 arg8 harg8 arg9 harg9 arg10 harg10 arg11 harg11 arg12 harg12 (BitVec.ofNat 32 (i 2).val) (qv arg3 harg3 x0) (harg4.unread x1) (harg5.unread x2) (harg6.unread x3) ⟨n, hk⟩
    (arg10.view.writes (Elt Ideal) (arg10.view.writes (Elt Ideal) arg10.view.junk kernelRun0_A.sl.HS0_1) (trips c i arg3 harg3 arg4 harg4 arg5 harg5 arg6 harg6 arg7 harg7 arg8 harg8 arg9 harg9 arg10 harg10 arg11 harg11 arg12 harg12 x0 x1 x2 x3 n).1)
    (arg11.view.writes (Elt Ideal) (arg11.view.writes (Elt Ideal) arg11.view.junk kernelRun0_A.sl.HS1_1) (trips c i arg3 harg3 arg4 harg4 arg5 harg5 arg6 harg6 arg7 harg7 arg8 harg8 arg9 harg9 arg10 harg10 arg11 harg11 arg12 harg12 x0 x1 x2 x3 n).2.1)
    (arg12.view.writes (Elt Ideal) (arg12.view.writes (Elt Ideal) arg12.view.junk kernelRun0_A.sl.HS2_1) (trips c i arg3 harg3 arg4 harg4 arg5 harg5 arg6 harg6 arg7 harg7 arg8 harg8 arg9 harg9 arg10 harg10 arg11 harg11 arg12 harg12 x0 x1 x2 x3 n).2.2) r
  have e0 := (congrArg (fun L => arg10.view.read (Elt Ideal) (arg10.view.writes (Elt Ideal) (arg10.view.writes (Elt Ideal) arg10.view.junk kernelRun0_A.sl.HS0_1) L.1)) hs).trans
    (congrArg (arg10.view.read (Elt Ideal)) (View.writes_append _ _ _ _))
  have e1 := (congrArg (fun L => arg11.view.read (Elt Ideal) (arg11.view.writes (Elt Ideal) (arg11.view.writes (Elt Ideal) arg11.view.junk kernelRun0_A.sl.HS1_1) L.2.1)) hs).trans
    (congrArg (arg11.view.read (Elt Ideal)) (View.writes_append _ _ _ _))
  have e2 := (congrArg (fun L => arg12.view.read (Elt Ideal) (arg12.view.writes (Elt Ideal) (arg12.view.writes (Elt Ideal) arg12.view.junk kernelRun0_A.sl.HS2_1) L.2.2)) hs).trans
    (congrArg (arg12.view.read (Elt Ideal)) (View.writes_append _ _ _ _))
  have hv : (fun (j : Fin 256) (d : Fin 128) => (val x2 (key n j) d : EReal)) = fun j d => arg5.view.read (Elt Ideal) (harg5.unread x2) (ix3 0 (key n j) d) := by
    rw [harg5.read_unread]
    exact funext fun j => funext fun d => (h2 _ _).coe_toReal
  have hl : (fun j => row i x0 x1 x3 p r (key n j)) = fun j => Diff.dot p (fun d => qv arg3 harg3 x0 (ix3 0 r d)) (fun d => arg4.view.read (Elt Ideal) (harg4.unread x1) (ix3 0 (key n j) d))
      + arg6.view.read (Elt Ideal) (harg6.unread x3) (ix4 0 (tile i n) r j) := by
    rw [harg4.read_unread, harg6.read_unread, qv_eq]
    exact funext fun j => Diff.lgt_before p _ _ _ _ _ hn j
  rw [hv, hl]
  unfold maxAt sumAt accAt
  rw [e0, e1, e2]
  match p with
  | 0 => exact hT.1
  | 1 => exact hT.2

/-- What the running row stands for before trip `n`. -/
theorem loop_state (h0 : ∀ r d, Num (x0 (ix3 0 r d))) (h1 : ∀ s d, Num (x1 (ix3 0 s d))) (h2 : ∀ s d, Num (x2 (ix3 0 s d)))
    (h3 : ∀ t r j, Num (x3 (ix4 0 t r j))) (p : Fin 2) (r : Fin 256) (n : ℕ) (hn : n ≤ (qt i).val) :
    State (row i x0 x1 x3 p r) (val x2) n (maxAt c i arg3 harg3 arg4 harg4 arg5 harg5 arg6 harg6 arg7 harg7 arg8 harg8 arg9 harg9 arg10 harg10 arg11 harg11 arg12 harg12 x0 x1 x2 x3 n (ix3 p r 0)) (sumAt c i arg3 harg3 arg4 harg4 arg5 harg5 arg6 harg6 arg7 harg7 arg8 harg8 arg9 harg9 arg10 harg10 arg11 harg11 arg12 harg12 x0 x1 x2 x3 n (ix3 p r 0)) (fun d => accAt c i arg3 harg3 arg4 harg4 arg5 harg5 arg6 harg6 arg7 harg7 arg8 harg8 arg9 harg9 arg10 harg10 arg11 harg11 arg12 harg12 x0 x1 x2 x3 n (ix3 p r d)) := by
  induction n with
  | zero =>
    simp only [maxAt_zero, sumAt_zero, accAt_zero]
    exact State.start _ _
  | succ n ih =>
    refine (ih (Nat.le_of_succ_le hn)).next (step_after c i arg3 harg3 arg4 harg4 arg5 harg5 arg6 harg6 arg7 harg7 arg8 harg8 arg9 harg9 arg10 harg10 arg11 harg11 arg12 harg12 x0 x1 x2 x3 h2 n hn p r) (Diff.lgt_ne_top _ _ _ (h0 r) h1 fun t j => h3 t r j) 0 ?_
    refine Diff.lgt_ne_bot _ _ _ (h0 r) h1 (fun t j => h3 t r j) ?_
    rw [key_val (hn.trans (qt i).isLt.le)]
    show 256 * n + 0 ≤ _
    omega

/-- The second loop is the remainder of an unrolling by one: it never runs. -/
theorem rest_trips (i : grid0.Coords) : Scf.trips (k0_t2_loop i).lb (k0_t2_loop i).ub (k0_t2_loop i).st = 0 :=
  (by decide +kernel : ∀ q : Fin 16, (let t : BitVec 32 := Scalar.divsi (Scalar.subi (BitVec.ofNat 32 q.val) 0#32) 1#32; Scf.trips (Scalar.addi 0#32 (Scalar.muli t 1#32)) (Scalar.addi 0#32 (Scalar.subi (BitVec.ofNat 32 q.val) 0#32)) 1#32) = 0) (qt i)

end Cert.DiffLoop

end
-- ==== Proof.DiffDiag.lean ====
/- The attention's diagonal tile and its last step, read entry by entry. -/
module

public import proofs.«01_k».proof.Defs
public import proofs.«01_k».proof.Proof.Gen.Kernel2Ideal.Value
public import proofs.«01_k».proof.Proof.DiffModel
public import proofs.«01_k».proof.Proof.DiffTrip
public import Idealize.ShloMosaic.Lib.Pointwise
public import Idealize.ShloMosaic.Lib.WritesUnit
public import Idealize.ShloMosaic.Lib.Pipeline.ValueKit

@[expose] public section

set_option maxRecDepth 16384

noncomputable section

namespace Cert.DiffDiag

open Cert.Kernel2Ideal Cert.Kernel2Ideal.Gen Idealize.ShloMosaic Idealize.ShloMosaic.TcCoe Idealize.SL.Sem
open Cert.Diff (After key key_val Num lgt State)
open Cert.DiffTrip

/-- The mask's comparison of two rows of a tile. -/
theorem select_rows (a b : Fin 256) (x y : EReal) :
    Scalar.select (IntOp.cmpi CmpIPredicate.sge (BitVec.ofNat 32 a.val) (BitVec.ofNat 32 b.val)) x y = if b.val ≤ a.val then x else y :=
  Diff.select_sge _ _ (a.isLt.trans (by decide)) (b.isLt.trans (by decide)) x y

theorem mask_bot : (Named.named (F := Ideal) (φ := FTy.f32) Kernel2Ideal.κ "mask" 4048155338#32) = (⊥ : EReal) := rfl

/-- The diagonal tile's logits, read off its windows. -/
def near (p : Fin 2) (Q K : Vec Ideal S1x256x128 .bf16) (B : Vec Ideal S1x1x256x256 .f32) (r j : Fin 256) : EReal :=
  if j.val ≤ r.val then Diff.dot p (fun d => Q (ix3 0 r d)) (fun d => K (ix3 0 j d)) + B (ix4 0 0 r j) else ⊥

variable (Q K V : Vec Ideal S1x256x128 .bf16) (B : Vec Ideal S1x1x256x256 .f32) (m l : Vec Ideal S1x256x1 .f32) (a : Vec Ideal S1x256x128 .f32) (r : Fin 256)

theorem sum_head : k0_pay62 (k0_pay45 Q) B K m l (ix3 0 r 0) = Diff.newSum (m (ix3 0 r 0)) (l (ix3 0 r 0)) (near 0 Q K B r) := by
  pointwise [k0_pay42, k0_pay43, k0_pay44, k0_pay45, k0_pay46, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
  simp only [mask_bot, select_rows]
  rfl

theorem acc_head (d : Fin 128) : k0_pay65 (k0_pay56 V) (k0_pay61 (k0_pay45 Q) B K m) (k0_pay63 a) (k0_pay64 (k0_pay45 Q) B K m) (ix3 0 r d)
    = Diff.newAcc (m (ix3 0 r 0)) (a (ix3 0 r d)) (near 0 Q K B r) fun j => V (ix3 0 j d) := by
  pointwise [k0_pay42, k0_pay43, k0_pay44, k0_pay45, k0_pay46, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
  simp only [mask_bot, select_rows]
  rfl

theorem sum_tail : k0_pay72 (k0_pay46 Q) (k0_pay54 B) (k0_pay55 K) m l (ix3 0 r 0) = Diff.newSum (m (ix3 0 r 0)) (l (ix3 0 r 0)) (near 1 Q K B r) := by
  pointwise [k0_pay42, k0_pay43, k0_pay44, k0_pay45, k0_pay46, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
  simp only [mask_bot, select_rows]
  rfl

theorem acc_tail (d : Fin 128) : k0_pay73 (k0_pay56 V) (k0_pay70 (k0_pay46 Q) (k0_pay54 B) (k0_pay55 K) m) (k0_pay71 (k0_pay46 Q) (k0_pay54 B) (k0_pay55 K) m) a (ix3 0 r d)
    = Diff.newAcc (m (ix3 0 r 0)) (a (ix3 0 r d)) (near 1 Q K B r) fun j => V (ix3 0 j d) := by
  pointwise [k0_pay42, k0_pay43, k0_pay44, k0_pay45, k0_pay46, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
  simp only [mask_bot, select_rows]
  rfl

/-- The last step of the body: the two quotients, their difference and its normalisation. -/
theorem tail_apply (W : Vec Ideal S4x64 .f32) (a0 a1 : Vec Ideal S1x256x128 .f32) (l0 l1 : Vec Ideal S1x256x1 .f32) (G : Vec Ideal S1x128 .f32) (d : Fin 128) :
    k0_pay1 (k0_pay75 W) (k0_pay76 a0 l0) a1 l1 G (ix3 0 r d)
      = Diff.normed (fun d => Ideal.div (a0 (ix3 0 r d)) (l0 (ix3 0 r 0)) - Diff.lam (fun a x => W (ix2 a x)) * Ideal.div (a1 (ix3 0 r d)) (l1 (ix3 0 r 0)))
        (fun d => G (ix2 0 d)) d := by
  pointwise [k0_pay1, k0_pay75, k0_pay76]
  rfl

end Cert.DiffDiag

end
-- ==== Proof.DiffRun.lean ====
/- What the attention's body leaves in its output window. -/
module

public import proofs.«01_k».proof.Defs
public import proofs.«01_k».proof.Proof.Gen.Kernel2Ideal.Value
public import proofs.«01_k».proof.Proof.DiffModel
public import proofs.«01_k».proof.Proof.DiffTrip
public import proofs.«01_k».proof.Proof.DiffLoop
public import proofs.«01_k».proof.Proof.DiffDiag
public import Idealize.ShloMosaic.Lib.Pointwise
public import Idealize.ShloMosaic.Lib.WritesUnit
public import Idealize.ShloMosaic.Lib.Pipeline.ValueKit

@[expose] public section

set_option maxRecDepth 16384

noncomputable section

namespace Cert.DiffRun

open Cert.Kernel2Ideal Cert.Kernel2Ideal.Gen Idealize.ShloMosaic Idealize.ShloMosaic.TcCoe Idealize.SL.Sem
open Cert.Diff (After key key_val Num lgt State)
open Cert.DiffTrip Cert.DiffLoop

variable (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x16x256x256 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x256x128 .bf16) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S2x256x128 .f32) (harg12 : arg12.IsWhole) (x0 : Vec Ideal S1x256x128 .bf16) (x1 x2 : Vec Ideal S1x4096x128 .bf16) (x3 : Vec Ideal S1x16x256x256 .f32) (x4 : Vec Ideal S4x64 .f32) (x5 : Vec Ideal S1x128 .f32)

/-- What has been written over the maxima when the loops are done. -/
def list0 : List (View.Piece (Elt Ideal) S2x256x1 .f32) := (pb_k0_t2 (F := Ideal) Variants.none c none i arg3 harg3 arg4 harg4 arg5 harg5 arg6 harg6 arg7 harg7 arg8 harg8 arg9 harg9 arg10 harg10 arg11 harg11 arg12 harg12 (BitVec.ofNat 32 (i 2).val) (qv arg3 harg3 x0) (kernelRun0_A.sl.v24 i) (harg4.unread x1) (harg5.unread x2) (harg6.unread x3)
    (arg10.view.writes (Elt Ideal) arg10.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).1 ++ kernelRun0_A.sl.HS0_1)) (arg11.view.writes (Elt Ideal) arg11.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).2.1 ++ kernelRun0_A.sl.HS1_1)) (arg12.view.writes (Elt Ideal) arg12.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).2.2 ++ kernelRun0_A.sl.HS2_1)) (Scf.trips (k0_t2_loop i).lb (k0_t2_loop i).ub (k0_t2_loop i).st)).1 ++ ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).1 ++ kernelRun0_A.sl.HS0_1)

theorem list0_read : arg10.view.read (Elt Ideal) (arg10.view.writes (Elt Ideal) arg10.view.junk (list0 c i arg3 harg3 arg4 harg4 arg5 harg5 arg6 harg6 arg7 harg7 arg8 harg8 arg9 harg9 arg10 harg10 arg11 harg11 arg12 harg12 x0 x1 x2 x3)) = maxAt c i arg3 harg3 arg4 harg4 arg5 harg5 arg6 harg6 arg7 harg7 arg8 harg8 arg9 harg9 arg10 harg10 arg11 harg11 arg12 harg12 x0 x1 x2 x3 (qt i).val := by
  unfold list0
  rw [rest_trips]
  show arg10.view.read (Elt Ideal) (arg10.view.writes (Elt Ideal) arg10.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).1 ++ kernelRun0_A.sl.HS0_1)) = _
  rw [show (Scf.trips (k0_t1_loop i).lb (k0_t1_loop i).ub (k0_t1_loop i).st) = (qt i).val from trips_eq i, View.writes_append]
  rfl

/-- What has been written over the sums when the loops are done. -/
def list1 : List (View.Piece (Elt Ideal) S2x256x1 .f32) := (pb_k0_t2 (F := Ideal) Variants.none c none i arg3 harg3 arg4 harg4 arg5 harg5 arg6 harg6 arg7 harg7 arg8 harg8 arg9 harg9 arg10 harg10 arg11 harg11 arg12 harg12 (BitVec.ofNat 32 (i 2).val) (qv arg3 harg3 x0) (kernelRun0_A.sl.v24 i) (harg4.unread x1) (harg5.unread x2) (harg6.unread x3)
    (arg10.view.writes (Elt Ideal) arg10.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).1 ++ kernelRun0_A.sl.HS0_1)) (arg11.view.writes (Elt Ideal) arg11.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).2.1 ++ kernelRun0_A.sl.HS1_1)) (arg12.view.writes (Elt Ideal) arg12.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).2.2 ++ kernelRun0_A.sl.HS2_1)) (Scf.trips (k0_t2_loop i).lb (k0_t2_loop i).ub (k0_t2_loop i).st)).2.1 ++ ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).2.1 ++ kernelRun0_A.sl.HS1_1)

theorem list1_read : arg11.view.read (Elt Ideal) (arg11.view.writes (Elt Ideal) arg11.view.junk (list1 c i arg3 harg3 arg4 harg4 arg5 harg5 arg6 harg6 arg7 harg7 arg8 harg8 arg9 harg9 arg10 harg10 arg11 harg11 arg12 harg12 x0 x1 x2 x3)) = sumAt c i arg3 harg3 arg4 harg4 arg5 harg5 arg6 harg6 arg7 harg7 arg8 harg8 arg9 harg9 arg10 harg10 arg11 harg11 arg12 harg12 x0 x1 x2 x3 (qt i).val := by
  unfold list1
  rw [rest_trips]
  show arg11.view.read (Elt Ideal) (arg11.view.writes (Elt Ideal) arg11.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).2.1 ++ kernelRun0_A.sl.HS1_1)) = _
  rw [show (Scf.trips (k0_t1_loop i).lb (k0_t1_loop i).ub (k0_t1_loop i).st) = (qt i).val from trips_eq i, View.writes_append]
  rfl

/-- What has been written over the accumulators when the loops are done. -/
def list2 : List (View.Piece (Elt Ideal) S2x256x128 .f32) := (pb_k0_t2 (F := Ideal) Variants.none c none i arg3 harg3 arg4 harg4 arg5 harg5 arg6 harg6 arg7 harg7 arg8 harg8 arg9 harg9 arg10 harg10 arg11 harg11 arg12 harg12 (BitVec.ofNat 32 (i 2).val) (qv arg3 harg3 x0) (kernelRun0_A.sl.v24 i) (harg4.unread x1) (harg5.unread x2) (harg6.unread x3)
    (arg10.view.writes (Elt Ideal) arg10.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).1 ++ kernelRun0_A.sl.HS0_1)) (arg11.view.writes (Elt Ideal) arg11.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).2.1 ++ kernelRun0_A.sl.HS1_1)) (arg12.view.writes (Elt Ideal) arg12.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).2.2 ++ kernelRun0_A.sl.HS2_1)) (Scf.trips (k0_t2_loop i).lb (k0_t2_loop i).ub (k0_t2_loop i).st)).2.2 ++ ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).2.2 ++ kernelRun0_A.sl.HS2_1)

theorem list2_read : arg12.view.read (Elt Ideal) (arg12.view.writes (Elt Ideal) arg12.view.junk (list2 c i arg3 harg3 arg4 harg4 arg5 harg5 arg6 harg6 arg7 harg7 arg8 harg8 arg9 harg9 arg10 harg10 arg11 harg11 arg12 harg12 x0 x1 x2 x3)) = accAt c i arg3 harg3 arg4 harg4 arg5 harg5 arg6 harg6 arg7 harg7 arg8 harg8 arg9 harg9 arg10 harg10 arg11 harg11 arg12 harg12 x0 x1 x2 x3 (qt i).val := by
  unfold list2
  rw [rest_trips]
  show arg12.view.read (Elt Ideal) (arg12.view.writes (Elt Ideal) arg12.view.junk ((trips c i arg3 harg3 arg4 harg4 arg5 harg5 arg6 harg6 arg7 harg7 arg8 harg8 arg9 harg9 arg10 harg10 arg11 harg11 arg12 harg12 x0 x1 x2 x3 (Scf.trips (k0_t1_loop i).lb (k0_t1_loop i).ub (k0_t1_loop i).st)).2.2 ++ kernelRun0_A.sl.HS2_1)) = _
  rw [show (Scf.trips (k0_t1_loop i).lb (k0_t1_loop i).ub (k0_t1_loop i).st) = (qt i).val from trips_eq i, View.writes_append]
  rfl

theorem head_max (r : Fin 256) : kernelRun0_A.sl.v42 (F := Ideal) c i arg3 harg3 arg4 harg4 arg5 harg5 arg6 harg6 arg7 harg7 arg8 harg8 arg9 harg9 arg10 harg10 arg11 harg11 arg12 harg12 x0 x1 x2 x3 (ix3 0 r 0) = maxAt c i arg3 harg3 arg4 harg4 arg5 harg5 arg6 harg6 arg7 harg7 arg8 harg8 arg9 harg9 arg10 harg10 arg11 harg11 arg12 harg12 x0 x1 x2 x3 (qt i).val (ix3 0 r 0) :=
  (head_leaf arg10 (arg10.view.writes (Elt Ideal) arg10.view.junk (list0 c i arg3 harg3 arg4 harg4 arg5 harg5 arg6 harg6 arg7 harg7 arg8 harg8 arg9 harg9 arg10 harg10 arg11 harg11 arg12 harg12 x0 x1 x2 x3)) _ r).trans (congrFun (list0_read c i arg3 harg3 arg4 harg4 arg5 harg5 arg6 harg6 arg7 harg7 arg8 harg8 arg9 harg9 arg10 harg10 arg11 harg11 arg12 harg12 x0 x1 x2 x3) _)

theorem head_sum (r : Fin 256) : kernelRun0_A.sl.v52 (F := Ideal) c i arg3 harg3 arg4 harg4 arg5 harg5 arg6 harg6 arg7 harg7 arg8 harg8 arg9 harg9 arg10 harg10 arg11 harg11 arg12 harg12 x0 x1 x2 x3 (ix3 0 r 0) = sumAt c i arg3 harg3 arg4 harg4 arg5 harg5 arg6 harg6 arg7 harg7 arg8 harg8 arg9 harg9 arg10 harg10 arg11 harg11 arg12 harg12 x0 x1 x2 x3 (qt i).val (ix3 0 r 0) :=
  (head_leaf arg11 (arg11.view.writes (Elt Ideal) arg11.view.junk (list1 c i arg3 harg3 arg4 harg4 arg5 harg5 arg6 harg6 arg7 harg7 arg8 harg8 arg9 harg9 arg10 harg10 arg11 harg11 arg12 harg12 x0 x1 x2 x3)) _ r).trans (congrFun (list1_read c i arg3 harg3 arg4 harg4 arg5 harg5 arg6 harg6 arg7 harg7 arg8 harg8 arg9 harg9 arg10 harg10 arg11 harg11 arg12 harg12 x0 x1 x2 x3) _)

theorem head_acc (r : Fin 256) (d : Fin 128) : kernelRun0_A.sl.v61 (F := Ideal) c i arg3 harg3 arg4 harg4 arg5 harg5 arg6 harg6 arg7 harg7 arg8 harg8 arg9 harg9 arg10 harg10 arg11 harg11 arg12 harg12 x0 x1 x2 x3 (ix3 0 r d) = accAt c i arg3 harg3 arg4 harg4 arg5 harg5 arg6 harg6 arg7 harg7 arg8 harg8 arg9 harg9 arg10 harg10 arg11 harg11 arg12 harg12 x0 x1 x2 x3 (qt i).val (ix3 0 r d) :=
  (headAcc_leaf arg12 (arg12.view.writes (Elt Ideal) arg12.view.junk (list2 c i arg3 harg3 arg4 harg4 arg5 harg5 arg6 harg6 arg7 harg7 arg8 harg8 arg9 harg9 arg10 harg10 arg11 harg11 arg12 harg12 x0 x1 x2 x3)) _ r d).trans (congrFun (list2_read c i arg3 harg3 arg4 harg4 arg5 harg5 arg6 harg6 arg7 harg7 arg8 harg8 arg9 harg9 arg10 harg10 arg11 harg11 arg12 harg12 x0 x1 x2 x3) _)

theorem tail_max (r : Fin 256) : kernelRun0_A.sl.v81 (F := Ideal) c i arg3 harg3 arg4 harg4 arg5 harg5 arg6 harg6 arg7 harg7 arg8 harg8 arg9 harg9 arg10 harg10 arg11 harg11 arg12 harg12 x0 x1 x2 x3 (ix3 0 r 0) = maxAt c i arg3 harg3 arg4 harg4 arg5 harg5 arg6 harg6 arg7 harg7 arg8 harg8 arg9 harg9 arg10 harg10 arg11 harg11 arg12 harg12 x0 x1 x2 x3 (qt i).val (ix3 1 r 0) :=
  (tail_leaf arg10 (arg10.view.writes (Elt Ideal) arg10.view.junk (kernelRun0_A.sl.HS0_1_1 (F := Ideal) c i arg3 harg3 arg4 harg4 arg5 harg5 arg6 harg6 arg7 harg7 arg8 harg8 arg9 harg9 arg10 harg10 arg11 harg11 arg12 harg12 x0 x1 x2 x3)) _ r).trans
    ((View.read_writes_cons_unit_of_not_mem _ _ _ _ _ _ rfl 0 (Or.inr le_rfl)).trans (congrFun (list0_read c i arg3 harg3 arg4 harg4 arg5 harg5 arg6 harg6 arg7 harg7 arg8 harg8 arg9 harg9 arg10 harg10 arg11 harg11 arg12 harg12 x0 x1 x2 x3) _))

theorem tail_sum (r : Fin 256) : kernelRun0_A.sl.v91 (F := Ideal) c i arg3 harg3 arg4 harg4 arg5 harg5 arg6 harg6 arg7 harg7 arg8 harg8 arg9 harg9 arg10 harg10 arg11 harg11 arg12 harg12 x0 x1 x2 x3 (ix3 0 r 0) = sumAt c i arg3 harg3 arg4 harg4 arg5 harg5 arg6 harg6 arg7 harg7 arg8 harg8 arg9 harg9 arg10 harg10 arg11 harg11 arg12 harg12 x0 x1 x2 x3 (qt i).val (ix3 1 r 0) :=
  (tail_leaf arg11 (arg11.view.writes (Elt Ideal) arg11.view.junk (kernelRun0_A.sl.HS1_1_1 (F := Ideal) c i arg3 harg3 arg4 harg4 arg5 harg5 arg6 harg6 arg7 harg7 arg8 harg8 arg9 harg9 arg10 harg10 arg11 harg11 arg12 harg12 x0 x1 x2 x3)) _ r).trans
    ((View.read_writes_cons_unit_of_not_mem _ _ _ _ _ _ rfl 0 (Or.inr le_rfl)).trans (congrFun (list1_read c i arg3 harg3 arg4 harg4 arg5 harg5 arg6 harg6 arg7 harg7 arg8 harg8 arg9 harg9 arg10 harg10 arg11 harg11 arg12 harg12 x0 x1 x2 x3) _))

theorem tail_acc (r : Fin 256) (d : Fin 128) : kernelRun0_A.sl.v100 (F := Ideal) c i arg3 harg3 arg4 harg4 arg5 harg5 arg6 harg6 arg7 harg7 arg8 harg8 arg9 harg9 arg10 harg10 arg11 harg11 arg12 harg12 x0 x1 x2 x3 (ix3 0 r d) = accAt c i arg3 harg3 arg4 harg4 arg5 harg5 arg6 harg6 arg7 harg7 arg8 harg8 arg9 harg9 arg10 harg10 arg11 harg11 arg12 harg12 x0 x1 x2 x3 (qt i).val (ix3 1 r d) :=
  (tailAcc_leaf arg12 (arg12.view.writes (Elt Ideal) arg12.view.junk (kernelRun0_A.sl.HS2_1_1 (F := Ideal) c i arg3 harg3 arg4 harg4 arg5 harg5 arg6 harg6 arg7 harg7 arg8 harg8 arg9 harg9 arg10 harg10 arg11 harg11 arg12 harg12 x0 x1 x2 x3)) _ r d).trans
    ((View.read_writes_cons_unit_of_not_mem _ _ _ _ _ _ rfl 0 (Or.inr le_rfl)).trans (congrFun (list2_read c i arg3 harg3 arg4 harg4 arg5 harg5 arg6 harg6 arg7 harg7 arg8 harg8 arg9 harg9 arg10 harg10 arg11 harg11 arg12 harg12 x0 x1 x2 x3) _))

/-- The offset of the diagonal tile. -/
theorem near_off : ∀ q : Fin 16, BitVec.toNat (Scalar.indexCast (Scalar.muli (BitVec.ofNat 32 q.val) 256#32)) = 256 * q.val := by
  decide +kernel

/-- The diagonal tile of keys. -/
def nearK : Vec Ideal S1x256x128 .bf16 := View.readAt (Elt Ideal) arg4.view (Rect.unit (s := S1x4096x128) (k0_off5 i) S1x256x128.size (k0_off5_inb i)).toLoadRect (harg4.unread x1)

/-- The diagonal tile of values. -/
def nearV : Vec Ideal S1x256x128 .bf16 := View.readAt (Elt Ideal) arg5.view (Rect.unit (s := S1x4096x128) (k0_off5 i) S1x256x128.size (k0_off5_inb i)).toLoadRect (harg5.unread x2)

/-- The diagonal tile's bias. -/
def nearB : Vec Ideal S1x1x256x256 .f32 := kernelRun0_A.sl.r_2 (F := Ideal) arg6 harg6 x3

theorem nearK_apply (j : Fin 256) (d : Fin 128) : nearK i arg4 harg4 x1 (ix3 0 j d) = x1 (ix3 0 (key (qt i).val j) d) :=
  (keys_leaf arg4 (harg4.unread x1) (qt i).isLt (near_off (qt i)) _ j d).trans (congrFun (harg4.read_unread x1) _)

theorem nearV_apply (j : Fin 256) (d : Fin 128) : nearV i arg5 harg5 x2 (ix3 0 j d) = x2 (ix3 0 (key (qt i).val j) d) :=
  (keys_leaf arg5 (harg5.unread x2) (qt i).isLt (near_off (qt i)) _ j d).trans (congrFun (harg5.read_unread x2) _)

theorem nearB_apply (r j : Fin 256) : nearB arg6 harg6 x3 (ix4 0 0 r j) = x3 (ix4 0 0 r j) := by
  unfold nearB kernelRun0_A.sl.r_2
  rw [View.readAt_eq_ld, harg6.read_unread]
  exact View.ld_unit_apply_of _ _ _ _ _ _ fun a => by
    match a with
    | ⟨0, _⟩ => rfl
    | ⟨1, _⟩ => rfl
    | ⟨2, _⟩ => exact (Nat.zero_add _).symm
    | ⟨3, _⟩ => exact (Nat.zero_add _).symm

/-- The diagonal tile's logits are the row's. -/
theorem near_eq (p : Fin 2) (r : Fin 256) : DiffDiag.near p (qv arg3 harg3 x0) (nearK i arg4 harg4 x1) (nearB arg6 harg6 x3) r = fun j => row i x0 x1 x3 p r (key (qt i).val j) := by
  funext j
  unfold row
  rw [Diff.lgt_diag]
  unfold DiffDiag.near
  simp only [nearK_apply, nearB_apply, qv_eq]

theorem sum0 (r : Fin 256) : kernelRun0_A.sl.v131 (F := Ideal) c i arg3 harg3 arg4 harg4 arg5 harg5 arg6 harg6 arg7 harg7 arg8 harg8 arg9 harg9 arg10 harg10 arg11 harg11 arg12 harg12 x0 x1 x2 x3 (ix3 0 r 0)
    = Diff.newSum (maxAt c i arg3 harg3 arg4 harg4 arg5 harg5 arg6 harg6 arg7 harg7 arg8 harg8 arg9 harg9 arg10 harg10 arg11 harg11 arg12 harg12 x0 x1 x2 x3 (qt i).val (ix3 0 r 0)) (sumAt c i arg3 harg3 arg4 harg4 arg5 harg5 arg6 harg6 arg7 harg7 arg8 harg8 arg9 harg9 arg10 harg10 arg11 harg11 arg12 harg12 x0 x1 x2 x3 (qt i).val (ix3 0 r 0)) fun j => row i x0 x1 x3 0 r (key (qt i).val j) := by
  refine (head_leaf arg11 (arg11.view.writes (Elt Ideal) arg11.view.junk (kernelRun0_A.sl.HS1_2 (F := Ideal) c i arg3 harg3 arg4 harg4 arg5 harg5 arg6 harg6 arg7 harg7 arg8 harg8 arg9 harg9 arg10 harg10 arg11 harg11 arg12 harg12 x0 x1 x2 x3)) _ r).trans ?_
  refine (View.read_writes_cons_unit_of_not_mem _ _ _ _ _ _ rfl 0 (Or.inl Nat.zero_lt_one)).trans ?_
  refine (View.read_writes_cons_unit_of_mem _ _ _ _ _ _ (ix3 0 r 0) rfl fun a => by match a with | ⟨0, _⟩ => rfl | ⟨1, _⟩ => exact (Nat.zero_add _).symm | ⟨2, _⟩ => rfl).trans ?_
  refine (DiffDiag.sum_head (qv arg3 harg3 x0) (nearK i arg4 harg4 x1) (nearB arg6 harg6 x3) _ _ r).trans ?_
  rw [head_max, head_sum, near_eq]

theorem acc0 (r : Fin 256) (d : Fin 128) : kernelRun0_A.sl.v129 (F := Ideal) c i arg3 harg3 arg4 harg4 arg5 harg5 arg6 harg6 arg7 harg7 arg8 harg8 arg9 harg9 arg10 harg10 arg11 harg11 arg12 harg12 x0 x1 x2 x3 (ix3 0 r d)
    = Diff.newAcc (maxAt c i arg3 harg3 arg4 harg4 arg5 harg5 arg6 harg6 arg7 harg7 arg8 harg8 arg9 harg9 arg10 harg10 arg11 harg11 arg12 harg12 x0 x1 x2 x3 (qt i).val (ix3 0 r 0)) (accAt c i arg3 harg3 arg4 harg4 arg5 harg5 arg6 harg6 arg7 harg7 arg8 harg8 arg9 harg9 arg10 harg10 arg11 harg11 arg12 harg12 x0 x1 x2 x3 (qt i).val (ix3 0 r d)) (fun j => row i x0 x1 x3 0 r (key (qt i).val j)) fun j => x2 (ix3 0 (key (qt i).val j) d) := by
  refine (headAcc_leaf arg12 (arg12.view.writes (Elt Ideal) arg12.view.junk (kernelRun0_A.sl.HS2_2 (F := Ideal) c i arg3 harg3 arg4 harg4 arg5 harg5 arg6 harg6 arg7 harg7 arg8 harg8 arg9 harg9 arg10 harg10 arg11 harg11 arg12 harg12 x0 x1 x2 x3)) _ r d).trans ?_
  refine (View.read_writes_cons_unit_of_not_mem _ _ _ _ _ _ rfl 0 (Or.inl Nat.zero_lt_one)).trans ?_
  refine (View.read_writes_cons_unit_of_mem _ _ _ _ _ _ (ix3 0 r d) rfl fun a => by match a with | ⟨0, _⟩ => rfl | ⟨1, _⟩ => exact (Nat.zero_add _).symm | ⟨2, _⟩ => exact (Nat.zero_add _).symm).trans ?_
  refine (DiffDiag.acc_head (qv arg3 harg3 x0) (nearK i arg4 harg4 x1) (nearV i arg5 harg5 x2) (nearB arg6 harg6 x3) _ _ r d).trans ?_
  simp only [head_max, head_acc, near_eq, nearV_apply]

theorem sum1 (r : Fin 256) : kernelRun0_A.sl.v137 (F := Ideal) c i arg3 harg3 arg4 harg4 arg5 harg5 arg6 harg6 arg7 harg7 arg8 harg8 arg9 harg9 arg10 harg10 arg11 harg11 arg12 harg12 x0 x1 x2 x3 (ix3 0 r 0)
    = Diff.newSum (maxAt c i arg3 harg3 arg4 harg4 arg5 harg5 arg6 harg6 arg7 harg7 arg8 harg8 arg9 harg9 arg10 harg10 arg11 harg11 arg12 harg12 x0 x1 x2 x3 (qt i).val (ix3 1 r 0)) (sumAt c i arg3 harg3 arg4 harg4 arg5 harg5 arg6 harg6 arg7 harg7 arg8 harg8 arg9 harg9 arg10 harg10 arg11 harg11 arg12 harg12 x0 x1 x2 x3 (qt i).val (ix3 1 r 0)) fun j => row i x0 x1 x3 1 r (key (qt i).val j) := by
  refine (tail_leaf arg11 (arg11.view.writes (Elt Ideal) arg11.view.junk (kernelRun0_A.sl.HS1_2 (F := Ideal) c i arg3 harg3 arg4 harg4 arg5 harg5 arg6 harg6 arg7 harg7 arg8 harg8 arg9 harg9 arg10 harg10 arg11 harg11 arg12 harg12 x0 x1 x2 x3)) _ r).trans ?_
  refine (View.read_writes_cons_unit_of_mem _ _ _ _ _ _ (ix3 0 r 0) rfl fun a => by match a with | ⟨0, _⟩ => rfl | ⟨1, _⟩ => exact (Nat.zero_add _).symm | ⟨2, _⟩ => rfl).trans ?_
  refine (DiffDiag.sum_tail (qv arg3 harg3 x0) (nearK i arg4 harg4 x1) (nearB arg6 harg6 x3) _ _ r).trans ?_
  rw [tail_max, tail_sum, near_eq]

theorem acc1 (r : Fin 256) (d : Fin 128) : kernelRun0_A.sl.v135 (F := Ideal) c i arg3 harg3 arg4 harg4 arg5 harg5 arg6 harg6 arg7 harg7 arg8 harg8 arg9 harg9 arg10 harg10 arg11 harg11 arg12 harg12 x0 x1 x2 x3 (ix3 0 r d)
    = Diff.newAcc (maxAt c i arg3 harg3 arg4 harg4 arg5 harg5 arg6 harg6 arg7 harg7 arg8 harg8 arg9 harg9 arg10 harg10 arg11 harg11 arg12 harg12 x0 x1 x2 x3 (qt i).val (ix3 1 r 0)) (accAt c i arg3 harg3 arg4 harg4 arg5 harg5 arg6 harg6 arg7 harg7 arg8 harg8 arg9 harg9 arg10 harg10 arg11 harg11 arg12 harg12 x0 x1 x2 x3 (qt i).val (ix3 1 r d)) (fun j => row i x0 x1 x3 1 r (key (qt i).val j)) fun j => x2 (ix3 0 (key (qt i).val j) d) := by
  refine (tailAcc_leaf arg12 (arg12.view.writes (Elt Ideal) arg12.view.junk (kernelRun0_A.sl.HS2_2 (F := Ideal) c i arg3 harg3 arg4 harg4 arg5 harg5 arg6 harg6 arg7 harg7 arg8 harg8 arg9 harg9 arg10 harg10 arg11 harg11 arg12 harg12 x0 x1 x2 x3)) _ r d).trans ?_
  refine (View.read_writes_cons_unit_of_mem _ _ _ _ _ _ (ix3 0 r d) rfl fun a => by match a with | ⟨0, _⟩ => rfl | ⟨1, _⟩ => exact (Nat.zero_add _).symm | ⟨2, _⟩ => exact (Nat.zero_add _).symm).trans ?_
  refine (DiffDiag.acc_tail (qv arg3 harg3 x0) (nearK i arg4 harg4 x1) (nearV i arg5 harg5 x2) (nearB arg6 harg6 x3) _ _ r d).trans ?_
  simp only [tail_max, tail_acc, near_eq, nearV_apply]

/-- The windows hold numbers. -/
structure Nums : Prop where
  q : ∀ r d, Num (x0 (ix3 0 r d))
  k : ∀ s d, Num (x1 (ix3 0 s d))
  v : ∀ s d, Num (x2 (ix3 0 s d))
  b : ∀ t r j, Num (x3 (ix4 0 t r j))

/-- The running row divided by its sum is the attention. -/
theorem quotient (h : Nums x0 x1 x2 x3) (p : Fin 2) (r : Fin 256) (d : Fin 128) :
    Ideal.div (Diff.newAcc (maxAt c i arg3 harg3 arg4 harg4 arg5 harg5 arg6 harg6 arg7 harg7 arg8 harg8 arg9 harg9 arg10 harg10 arg11 harg11 arg12 harg12 x0 x1 x2 x3 (qt i).val (ix3 p r 0)) (accAt c i arg3 harg3 arg4 harg4 arg5 harg5 arg6 harg6 arg7 harg7 arg8 harg8 arg9 harg9 arg10 harg10 arg11 harg11 arg12 harg12 x0 x1 x2 x3 (qt i).val (ix3 p r d)) (fun j => row i x0 x1 x3 p r (key (qt i).val j)) fun j => x2 (ix3 0 (key (qt i).val j) d))
        (Diff.newSum (maxAt c i arg3 harg3 arg4 harg4 arg5 harg5 arg6 harg6 arg7 harg7 arg8 harg8 arg9 harg9 arg10 harg10 arg11 harg11 arg12 harg12 x0 x1 x2 x3 (qt i).val (ix3 p r 0)) (sumAt c i arg3 harg3 arg4 harg4 arg5 harg5 arg6 harg6 arg7 harg7 arg8 harg8 arg9 harg9 arg10 harg10 arg11 harg11 arg12 harg12 x0 x1 x2 x3 (qt i).val (ix3 p r 0)) fun j => row i x0 x1 x3 p r (key (qt i).val j))
      = (Diff.att (row i x0 x1 x3 p r) (fun s d => x2 (ix3 0 s d)) d : EReal) := by
  have hk := key_val (qt i).isLt 0
  have hA : After (fun j => row i x0 x1 x3 p r (key (qt i).val j)) (fun j d => (val x2 (key (qt i).val j) d : EReal))
      (maxAt c i arg3 harg3 arg4 harg4 arg5 harg5 arg6 harg6 arg7 harg7 arg8 harg8 arg9 harg9 arg10 harg10 arg11 harg11 arg12 harg12 x0 x1 x2 x3 (qt i).val (ix3 p r 0)) (sumAt c i arg3 harg3 arg4 harg4 arg5 harg5 arg6 harg6 arg7 harg7 arg8 harg8 arg9 harg9 arg10 harg10 arg11 harg11 arg12 harg12 x0 x1 x2 x3 (qt i).val (ix3 p r 0)) (fun d => accAt c i arg3 harg3 arg4 harg4 arg5 harg5 arg6 harg6 arg7 harg7 arg8 harg8 arg9 harg9 arg10 harg10 arg11 harg11 arg12 harg12 x0 x1 x2 x3 (qt i).val (ix3 p r d)) _ _
      (fun d => Diff.newAcc (maxAt c i arg3 harg3 arg4 harg4 arg5 harg5 arg6 harg6 arg7 harg7 arg8 harg8 arg9 harg9 arg10 harg10 arg11 harg11 arg12 harg12 x0 x1 x2 x3 (qt i).val (ix3 p r 0)) (accAt c i arg3 harg3 arg4 harg4 arg5 harg5 arg6 harg6 arg7 harg7 arg8 harg8 arg9 harg9 arg10 harg10 arg11 harg11 arg12 harg12 x0 x1 x2 x3 (qt i).val (ix3 p r d)) (fun j => row i x0 x1 x3 p r (key (qt i).val j)) fun j => x2 (ix3 0 (key (qt i).val j) d)) :=
    ⟨rfl, rfl, fun d => congrArg _ (funext fun j => ((h.v _ _).coe_toReal).symm)⟩
  have hn : row i x0 x1 x3 p r (key (qt i).val 0) ≠ ⊥ := Diff.lgt_ne_bot _ _ _ (h.q r) h.k (fun t j => h.b t r j) (by rw [hk]; exact Nat.add_le_add_left (Nat.zero_le _) _)
  exact ((loop_state c i arg3 harg3 arg4 harg4 arg5 harg5 arg6 harg6 arg7 harg7 arg8 harg8 arg9 harg9 arg10 harg10 arg11 harg11 arg12 harg12 x0 x1 x2 x3 h.q h.k h.v h.b p r (qt i).val le_rfl).next hA (Diff.lgt_ne_top _ _ _ (h.q r) h.k fun t j => h.b t r j) 0 hn).quotient (qt i).isLt
    (fun s hs => Diff.lgt_after _ _ _ _ _ _ hs) _ hn d

/-- What the body leaves in its output window. -/
theorem block_apply (h : Nums x0 x1 x2 x3) (r : Fin 256) (d : Fin 128) :
    out0_A_6 (F := Ideal) c i arg3 harg3 arg4 harg4 arg5 harg5 arg6 harg6 arg7 harg7 arg8 harg8 arg9 harg9 arg10 harg10 arg11 harg11 arg12 harg12 x0 x1 x2 x3 x4 x5 (ix3 0 r d)
      = Diff.out (fun d => x0 (ix3 0 r d)) (fun s d => x1 (ix3 0 s d)) (fun s d => x2 (ix3 0 s d)) (fun t j => x3 (ix4 0 t r j)) (fun a x => x4 (ix2 a x)) (fun d => x5 (ix2 0 d)) (qt i) r d := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 x0 x1 x2 x3 x4 x5)]
  unfold kernelRun0_A
  dsimp only
  rw [View.canon_cons_unit_lit _ _ _ (by decide)]
  refine (DiffDiag.tail_apply r _ _ _ _ _ _ d).trans ?_
  simp only [acc0, acc1, sum0, sum1, quotient c i arg3 harg3 arg4 harg4 arg5 harg5 arg6 harg6 arg7 harg7 arg8 harg8 arg9 harg9 arg10 harg10 arg11 harg11 arg12 harg12 x0 x1 x2 x3 h]
  rw [View.readAt_eq_ld, View.readAt_eq_ld, harg7.read_unread, harg8.read_unread, View.ld_unit_lit _ _ (by decide), View.ld_unit_lit _ _ (by decide)]
  rfl

end Cert.DiffRun

end
-- ==== Proof.DiffArray.lean ====
/- The attention call's blocks placed in the arrays: what the grid leaves in the result, as a function of the arguments. -/
module

public import proofs.«01_k».proof.Proof.DiffRun

@[expose] public section

set_option maxRecDepth 16384

noncomputable section

namespace Cert.DiffArray

open Cert.Kernel2Ideal Cert.Kernel2Ideal.Gen Idealize.ShloMosaic Idealize.ShloMosaic.TcCoe Idealize.SL.Sem
open Idealize.ShloMosaic.Pipeline (Dat)
open Cert.Diff (Num)
open Cert.DiffTrip (qt)

variable (m : (ℓ : Loc nD τ sig) → Buf (Elt Ideal) ℓ)

/-- The lane of a head in an array's row. -/
def col (h : Fin 4) (d : Fin 128) : Fin 512 := ⟨h.val * 128 + d.val, by omega⟩

/-- The head and the lane of an array's column. -/
def headOf (j : Fin 512) : Fin 4 := ⟨j.val / 128, by omega⟩
def laneOf (j : Fin 512) : Fin 128 := ⟨j.val % 128, by omega⟩

/-- The tile and the row of a position. -/
def tileOf (s : Fin 4096) : Fin 16 := ⟨s.val / 256, by omega⟩
def rowOf (s : Fin 4096) : Fin 256 := ⟨s.val % 256, by omega⟩

/-- One head's row at a position. -/
def head (x0 x1 x2 : FVec Ideal S4x4096x512 .bf16) (x3 : FVec Ideal S4x16x256x256 .f32) (x4 : FVec Ideal S4x64 .f32) (x5 : FVec Ideal S128 .f32)
    (b : Fin 4) (s : Fin 4096) (h : Fin 4) (d : Fin 128) : EReal :=
  Diff.out (fun d => x0 (ix3 b s (col h d))) (fun s d => x1 (ix3 b s (col h d))) (fun s d => x2 (ix3 b s (col h d)))
    (fun t j => x3 (ix4 h t (rowOf s) j)) (fun a x => x4 (ix2 a x)) (fun d => x5 (ix1 d)) (tileOf s) (rowOf s) d

/-- The attention of every head of every row of every batch. -/
def result (x0 x1 x2 : FVec Ideal S4x4096x512 .bf16) (x3 : FVec Ideal S4x16x256x256 .f32) (x4 : FVec Ideal S4x64 .f32) (x5 : FVec Ideal S128 .f32) : FVec Ideal S4x4096x512 .bf16 :=
  fun i => head x0 x1 x2 x3 x4 x5 (i 0) (i 1) (headOf (i 2)) (laneOf (i 2))

/-- The arguments the attention's exactness needs to be numbers. -/
structure Nums (x0 x1 x2 : FVec Ideal S4x4096x512 .bf16) (x3 : FVec Ideal S4x16x256x256 .f32) (x4 : FVec Ideal S4x64 .f32) : Prop where
  q : ∀ i, Num (x0 i)
  k : ∀ i, Num (x1 i)
  v : ∀ i, Num (x2 i)
  b : ∀ i, Num (x3 i)
  w : ∀ i, Num (x4 i)

/-- The gain as the region finds it: the argument as one row. -/
theorem gain_eq (c : Dev nD) : V m c main_v0 = shapeCast (s := S128) S1x128 (m ((c : Thread nD τ).loc main_arg5)) shapeCasts_S128_S1x128 := by
  rfl

theorem query_index : ∀ t : Fin cfg0.N, win0_0.index t 0 = t.val / 64 ∧ win0_0.index t 1 = t.val % 16 ∧ win0_0.index t 2 = t.val / 16 % 4 :=
  (by decide +kernel : ∀ t : Fin grid0.N, win0_0.index t 0 = t.val / 64 ∧ win0_0.index t 1 = t.val % 16 ∧ win0_0.index t 2 = t.val / 16 % 4)

theorem keys_index : ∀ t : Fin cfg0.N, win0_1.index t 0 = t.val / 64 ∧ win0_1.index t 1 = 0 ∧ win0_1.index t 2 = t.val / 16 % 4 :=
  (by decide +kernel : ∀ t : Fin grid0.N, win0_1.index t 0 = t.val / 64 ∧ win0_1.index t 1 = 0 ∧ win0_1.index t 2 = t.val / 16 % 4)

theorem values_index : ∀ t : Fin cfg0.N, win0_2.index t 0 = t.val / 64 ∧ win0_2.index t 1 = 0 ∧ win0_2.index t 2 = t.val / 16 % 4 :=
  (by decide +kernel : ∀ t : Fin grid0.N, win0_2.index t 0 = t.val / 64 ∧ win0_2.index t 1 = 0 ∧ win0_2.index t 2 = t.val / 16 % 4)

theorem bias_index : ∀ t : Fin cfg0.N, win0_3.index t 0 = t.val / 16 % 4 ∧ win0_3.index t 1 = 0 ∧ win0_3.index t 2 = 0 ∧ win0_3.index t 3 = 0 :=
  (by decide +kernel : ∀ t : Fin grid0.N, win0_3.index t 0 = t.val / 16 % 4 ∧ win0_3.index t 1 = 0 ∧ win0_3.index t 2 = 0 ∧ win0_3.index t 3 = 0)

theorem scal_index : ∀ t : Fin cfg0.N, win0_4.index t 0 = 0 ∧ win0_4.index t 1 = 0 :=
  (by decide +kernel : ∀ t : Fin grid0.N, win0_4.index t 0 = 0 ∧ win0_4.index t 1 = 0)

theorem gain_index : ∀ t : Fin cfg0.N, win0_5.index t 0 = 0 ∧ win0_5.index t 1 = 0 :=
  (by decide +kernel : ∀ t : Fin grid0.N, win0_5.index t 0 = 0 ∧ win0_5.index t 1 = 0)

theorem out_index : ∀ t : Fin cfg0.N, win0_6.index t 0 = t.val / 64 ∧ win0_6.index t 1 = t.val % 16 ∧ win0_6.index t 2 = t.val / 16 % 4 :=
  (by decide +kernel : ∀ t : Fin grid0.N, win0_6.index t 0 = t.val / 64 ∧ win0_6.index t 1 = t.val % 16 ∧ win0_6.index t 2 = t.val / 16 % 4)

theorem point_tile : ∀ t : Fin cfg0.N, (qt (grid0.coords t)).val = t.val % 16 :=
  (by decide +kernel : ∀ t : Fin grid0.N, ((grid0.coords t) 2).val = t.val % 16)

/-- The batch and the head a grid point works on. -/
def bat (t : Fin cfg0.N) : Fin 4 := ⟨t.val / 64, by have h : t.val < 256 := t.isLt; omega⟩
def hd (t : Fin cfg0.N) : Fin 4 := ⟨t.val / 16 % 4, by omega⟩

/-- The array row of a block's row. -/
def row (t : Fin cfg0.N) (r : Fin 256) : Fin 4096 := ⟨t.val % 16 * 256 + r.val, by omega⟩

theorem query_block (c : Dev nD) (t : Fin cfg0.N) (r : Fin 256) (d : Fin 128) :
    iblk m c 0 t (ix3 0 r d) = m ((c : Thread nD τ).loc main_arg0) (ix3 (bat t) (row t r) (col (hd t) d)) := by
  unfold iblk
  rw [View.read_apply]
  show V m c main_arg0 _ = _
  rw [V_main_arg0]
  refine congrArg _ (funext fun a => Fin.ext ?_)
  have h := query_index t
  match a with
  | ⟨0, _⟩ => show win0_0.index t 0 * 1 + 1 * 0 = t.val / 64; rw [h.1]; omega
  | ⟨1, _⟩ => show win0_0.index t 1 * 256 + 1 * r.val = t.val % 16 * 256 + r.val; rw [h.2.1]; omega
  | ⟨2, _⟩ => show win0_0.index t 2 * 128 + 1 * d.val = t.val / 16 % 4 * 128 + d.val; rw [h.2.2]; omega

theorem keys_block (c : Dev nD) (t : Fin cfg0.N) (s : Fin 4096) (d : Fin 128) :
    iblk m c 1 t (ix3 0 s d) = m ((c : Thread nD τ).loc main_arg1) (ix3 (bat t) s (col (hd t) d)) := by
  unfold iblk
  rw [View.read_apply]
  show V m c main_arg1 _ = _
  rw [V_main_arg1]
  refine congrArg _ (funext fun a => Fin.ext ?_)
  have h := keys_index t
  match a with
  | ⟨0, _⟩ => show win0_1.index t 0 * 1 + 1 * 0 = t.val / 64; rw [h.1]; omega
  | ⟨1, _⟩ => show win0_1.index t 1 * 4096 + 1 * s.val = s.val; rw [h.2.1]; omega
  | ⟨2, _⟩ => show win0_1.index t 2 * 128 + 1 * d.val = t.val / 16 % 4 * 128 + d.val; rw [h.2.2]; omega

theorem values_block (c : Dev nD) (t : Fin cfg0.N) (s : Fin 4096) (d : Fin 128) :
    iblk m c 2 t (ix3 0 s d) = m ((c : Thread nD τ).loc main_arg2) (ix3 (bat t) s (col (hd t) d)) := by
  unfold iblk
  rw [View.read_apply]
  show V m c main_arg2 _ = _
  rw [V_main_arg2]
  refine congrArg _ (funext fun a => Fin.ext ?_)
  have h := values_index t
  match a with
  | ⟨0, _⟩ => show win0_2.index t 0 * 1 + 1 * 0 = t.val / 64; rw [h.1]; omega
  | ⟨1, _⟩ => show win0_2.index t 1 * 4096 + 1 * s.val = s.val; rw [h.2.1]; omega
  | ⟨2, _⟩ => show win0_2.index t 2 * 128 + 1 * d.val = t.val / 16 % 4 * 128 + d.val; rw [h.2.2]; omega

theorem bias_block (c : Dev nD) (t : Fin cfg0.N) (n : Fin 16) (r j : Fin 256) :
    iblk m c 3 t (ix4 0 n r j) = m ((c : Thread nD τ).loc main_arg3) (ix4 (hd t) n r j) := by
  unfold iblk
  rw [View.read_apply]
  show V m c main_arg3 _ = _
  rw [V_main_arg3]
  refine congrArg _ (funext fun a => Fin.ext ?_)
  have h := bias_index t
  match a with
  | ⟨0, _⟩ => show win0_3.index t 0 * 1 + 1 * 0 = t.val / 16 % 4; rw [h.1]; omega
  | ⟨1, _⟩ => show win0_3.index t 1 * 16 + 1 * n.val = n.val; rw [h.2.1]; omega
  | ⟨2, _⟩ => show win0_3.index t 2 * 256 + 1 * r.val = r.val; rw [h.2.2.1]; omega
  | ⟨3, _⟩ => show win0_3.index t 3 * 256 + 1 * j.val = j.val; rw [h.2.2.2]; omega

theorem scal_block (c : Dev nD) (t : Fin cfg0.N) (a : Fin 4) (x : Fin 64) :
    iblk m c 4 t (ix2 a x) = m ((c : Thread nD τ).loc main_arg4) (ix2 a x) := by
  unfold iblk
  rw [View.read_apply]
  show V m c main_arg4 _ = _
  rw [V_main_arg4]
  refine congrArg _ (funext fun e => Fin.ext ?_)
  have h := scal_index t
  match e with
  | ⟨0, _⟩ => show win0_4.index t 0 * 4 + 1 * a.val = a.val; rw [h.1]; omega
  | ⟨1, _⟩ => show win0_4.index t 1 * 64 + 1 * x.val = x.val; rw [h.2]; omega

theorem gain_block (c : Dev nD) (t : Fin cfg0.N) (d : Fin 128) :
    iblk m c 5 t (ix2 0 d) = m ((c : Thread nD τ).loc main_arg5) (ix1 d) := by
  unfold iblk
  rw [View.read_apply]
  show V m c main_v0 _ = _
  rw [gain_eq]
  have hi : (((cfg0.win 5).blk t).view.emb (ix2 0 d) : S1x128.Idx) = ix2 0 d := by
    funext a
    apply Fin.ext
    have h := gain_index t
    match a with
    | ⟨0, _⟩ => show win0_5.index t 0 * 1 + 1 * 0 = 0; rw [h.1]
    | ⟨1, _⟩ => show win0_5.index t 1 * 128 + 1 * d.val = d.val; rw [h.2]; omega
  refine (congrArg _ hi).trans ?_
  pointwise

/-- What the grid leaves in the result array. -/
theorem array_eq (c : Dev nD) (hN : Nums (m ((c : Thread nD τ).loc main_arg0)) (m ((c : Thread nD τ).loc main_arg1)) (m ((c : Thread nD τ).loc main_arg2)) (m ((c : Thread nD τ).loc main_arg3)) (m ((c : Thread nD τ).loc main_arg4))) :
    (dats m 0 c).arrAt 6 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 6 _ ?_ ?_
  · intro t _
    rw [Value.flushed6_A]
    funext z
    obtain ⟨z0, r, d, rfl⟩ : ∃ (z0 : Fin 1) (r : Fin 256) (d : Fin 128), z = ix3 z0 r d := ⟨z 0, z 1, z 2, by
      funext a; match a with | ⟨0, _⟩ => rfl | ⟨1, _⟩ => rfl | ⟨2, _⟩ => rfl⟩
    obtain rfl : z0 = 0 := Subsingleton.elim _ _
    show out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
        (iblk m c 0 t) (iblk m c 1 t) (iblk m c 2 t) (iblk m c 3 t) (iblk m c 4 t) (iblk m c 5 t) (ix3 0 r d) = _
    have hB : DiffRun.Nums (iblk m c 0 t) (iblk m c 1 t) (iblk m c 2 t) (iblk m c 3 t) :=
      ⟨fun r d => by rw [query_block]; exact hN.q _, fun s d => by rw [keys_block]; exact hN.k _, fun s d => by rw [values_block]; exact hN.v _,
        fun n r j => by rw [bias_block]; exact hN.b _⟩
    refine (DiffRun.block_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
        (iblk m c 0 t) (iblk m c 1 t) (iblk m c 2 t) (iblk m c 3 t) (iblk m c 4 t) (iblk m c 5 t) hB r d).trans ?_
    simp only [query_block, keys_block, values_block, bias_block, scal_block, gain_block]
    rw [View.read_apply]
    have hi : (((cfg0.win 6).blk t).view.emb (ix3 0 r d) : S4x4096x512.Idx) = ix3 (bat t) (row t r) (col (hd t) d) := by
      funext a
      apply Fin.ext
      have h := out_index t
      match a with
      | ⟨0, _⟩ => show win0_6.index t 0 * 1 + 1 * 0 = t.val / 64; rw [h.1]; omega
      | ⟨1, _⟩ => show win0_6.index t 1 * 256 + 1 * r.val = t.val % 16 * 256 + r.val; rw [h.2.1]; omega
      | ⟨2, _⟩ => show win0_6.index t 2 * 128 + 1 * d.val = t.val / 16 % 4 * 128 + d.val; rw [h.2.2]; omega
    refine Eq.trans ?_ (congrArg (result _ _ _ _ _ _) hi).symm
    have e0 : headOf (col (hd t) d) = hd t := Fin.ext (by show (t.val / 16 % 4 * 128 + d.val) / 128 = t.val / 16 % 4; omega)
    have e1 : laneOf (col (hd t) d) = d := Fin.ext (by show (t.val / 16 % 4 * 128 + d.val) % 128 = d.val; omega)
    have e2 : tileOf (row t r) = qt (grid0.coords t) := Fin.ext ((by show (t.val % 16 * 256 + r.val) / 256 = t.val % 16; omega : (tileOf (row t r)).val = t.val % 16).trans (point_tile t).symm)
    have e3 : rowOf (row t r) = r := Fin.ext (by show (t.val % 16 * 256 + r.val) % 256 = r.val; omega)
    show _ = head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat t) (row t r) (headOf (col (hd t) d)) (laneOf (col (hd t) d))
    unfold head
    rw [e0, e1, e2, e3]
  · intro i
    have h0 : (i 0).val < 4 := (i 0).isLt
    have h1 : (i 1).val < 4096 := (i 1).isLt
    have h2 : (i 2).val < 512 := (i 2).isLt
    let t : Fin cfg0.N := ⟨(i 0).val * 64 + (i 2).val / 128 * 16 + (i 1).val / 256, (by omega : (i 0).val * 64 + (i 2).val / 128 * 16 + (i 1).val / 256 < 256)⟩
    have h := out_index t
    have ht : t.val = (i 0).val * 64 + (i 2).val / 128 * 16 + (i 1).val / 256 := rfl
    refine ⟨t, flush0_6 t, ?_⟩
    show i ∈ ((View.whole main_v1).slice (win0_6.rect t)).set
    rw [View.set_slice_whole, Rect.mem_set_unit]
    intro a
    match a with
    | ⟨0, _⟩ => show win0_6.index t 0 * 1 ≤ (i 0).val ∧ (i 0).val < win0_6.index t 0 * 1 + 1; rw [h.1]; omega
    | ⟨1, _⟩ => show win0_6.index t 1 * 256 ≤ (i 1).val ∧ (i 1).val < win0_6.index t 1 * 256 + 256; rw [h.2.1]; omega
    | ⟨2, _⟩ => show win0_6.index t 2 * 128 ≤ (i 2).val ∧ (i 2).val < win0_6.index t 2 * 128 + 128; rw [h.2.2]; omega

end Cert.DiffArray

end
-- ==== Proof.DiffOut.lean ====
/- The reference's attention, read index by index. -/
module

public import proofs.«01_k».proof.Defs
public import proofs.«01_k».proof.Proof.Gen.Reference2Ideal.Read
public import proofs.«01_k».proof.Proof.DiffModel
public import proofs.«01_k».proof.Proof.DiffWeight
public import proofs.«01_k».proof.Proof.DiffLam
public import proofs.«01_k».proof.Proof.DiffMixed
public import proofs.«01_k».proof.Proof.DiffSum
public import proofs.«01_k».proof.Proof.DiffNorm
public import proofs.«01_k».proof.Proof.DiffArray
public import Idealize.ShloMosaic.Lib.Pointwise

@[expose] public section

set_option maxRecDepth 16384

noncomputable section

namespace Cert.DiffRef

open Cert.Reference2Ideal Cert.Reference2Ideal.Read Idealize.ShloMosaic Idealize.ShloMosaic.TcCoe Idealize.SL.Sem
open Cert.Diff (Num lgt wt)

variable (x0 x1 x2 : (⟨S4x4096x512, .bf16⟩ : BufTy).Contents (Elt Ideal)) (x3 : (⟨S4x16x256x256, .f32⟩ : BufTy).Contents (Elt Ideal))
  (x4 : (⟨S4x64, .f32⟩ : BufTy).Contents (Elt Ideal)) (x5 : (⟨S128, .f32⟩ : BufTy).Contents (Elt Ideal))

/-- The reference's attention at a head's lane. -/
theorem out_apply (h0 : ∀ i, Num (x0 i)) (h1 : ∀ i, Num (x1 i)) (h2 : ∀ i, Num (x2 i)) (h3 : ∀ i, Num (x3 i)) (h4 : ∀ i, Num (x4 i)) (b h : Fin 4) (q : Fin 4096) (d : Fin 128) :
    val_main_v85 (F := Ideal) x0 x1 x2 x3 x4 x5 (ix3 b q (lane h d))
      = Diff.out (fun d => x0 (ix3 b q (lane h d))) (fun s d => x1 (ix3 b s (lane h d))) (fun s d => x2 (ix3 b s (lane h d))) (fun t j => x3 (ix4 h t ⟨q.val % 256, by omega⟩ j)) (fun a x => x4 (ix2 a x)) (fun d => x5 (ix1 d)) ⟨q.val / 256, by omega⟩ ⟨q.val % 256, by omega⟩ d := by
  rw [place_apply, normed_apply]
  unfold Diff.out
  refine congrArg (fun o => Diff.normed o _ d) (funext fun d => ?_)
  rw [sum_apply]
  simp only [mixed_apply, value_apply, lam_apply]
  rw [← Diff.difference_eq (Diff.lam_num fun a x => h4 _) (fun s d => h2 _)]
  refine Finset.sum_congr rfl fun s _ => ?_
  rw [weight_apply x0 x1 x3 h0 h1 h3 b h 0 q s _ rfl, weight_apply x0 x1 x3 h0 h1 h3 b h 1 q s _ rfl]

/-- The reference's array is the kernel's. -/
theorem result_eq (hN : DiffArray.Nums x0 x1 x2 x3 x4) : val_main_v85 (F := Ideal) x0 x1 x2 x3 x4 x5 = DiffArray.result x0 x1 x2 x3 x4 x5 := by
  funext i
  have e : i = ix3 (i 0) (i 1) (lane (DiffArray.headOf (i 2)) (DiffArray.laneOf (i 2))) := by
    funext a
    match a with
    | ⟨0, _⟩ => rfl
    | ⟨1, _⟩ => rfl
    | ⟨2, _⟩ => exact Fin.ext (by show (i 2).val = (i 2).val / 128 * 128 + (i 2).val % 128; omega)
  exact (congrArg (val_main_v85 (F := Ideal) x0 x1 x2 x3 x4 x5) e).trans (out_apply x0 x1 x2 x3 x4 x5 hN.q hN.k hN.v hN.b hN.w (i 0) (DiffArray.headOf (i 2)) (i 1) (DiffArray.laneOf (i 2)))

end Cert.DiffRef

end
-- ==== Proof.DiffPre.lean ====
/- What the precondition says of the arguments. -/
module

public import proofs.«01_k».proof.Defs
public import proofs.«01_k».proof.Proof.DiffModel
public import proofs.«01_k».proof.Proof.Gen.Pre_finite
public import Idealize.ShloMosaic.Lib.ReduceAll
public import proofs.«01_k».proof.Proof.DiffArray
public import Idealize.ShloMosaic.Lib.Pointwise

@[expose] public section

set_option maxRecDepth 16384

noncomputable section

namespace Cert.DiffPre

open Cert.Pre_finite Idealize.ShloMosaic Idealize.ShloMosaic.TcCoe Idealize.SL.Sem
open Cert.Diff (Num)

theorem ofBits_inf : Ideal.ofBits FTy.f32 0x7F800000#32 = ⊤ := by
  simp [Ideal.ofBits, Ideal.ieee]

/-- A value whose size is below the infinity is a number. -/
theorem num_of_lt {x : EReal} (h : Ideal.cmp .olt (max x (-x)) (Ideal.ofBits FTy.f32 0x7F800000#32) = 1#1) : Num x := by
  rw [ofBits_inf] at h
  have hlt := max_lt_iff.mp ((Ideal.cmp_olt_eq_one _ _).mp h)
  refine Diff.num_of_ne hlt.1.ne fun hx => hlt.2.ne ?_
  rw [hx]
  rfl

instance : Subsingleton S_.Idx := ⟨fun a b => funext fun i => i.elim0⟩

/-- An array of which every size is below the infinity is of numbers. -/
theorem num_of_all {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32))) (constantI S_ 1 1#1) hr hu ix0 = 1#1) (i : s.Idx) : Num (x i) :=
  num_of_lt (Host.reduce_andi_all _ _ hr hu ix0 h i)

theorem flag (a b c d e : IVec S_ 1) (hb : S_.BroadcastsInDim S1 (![] : Fin 0 → Fin S1.rank)) (h : Shape.Concatenates [S1, S1, S1, S1, S1] S5 0)
    (hx : concatenate S5 0 [⟨S1, broadcastInDim S1 ![] hb a⟩, ⟨S1, broadcastInDim S1 ![] hb b⟩, ⟨S1, broadcastInDim S1 ![] hb c⟩, ⟨S1, broadcastInDim S1 ![] hb d⟩, ⟨S1, broadcastInDim S1 ![] hb e⟩] h = fun _ => 1#1) :
    a ix0 = 1#1 ∧ b ix0 = 1#1 ∧ c ix0 = 1#1 ∧ d ix0 = 1#1 ∧ e ix0 = 1#1 := by
  refine ⟨Eq.trans ?_ (congrFun hx (ix1 0)), Eq.trans ?_ (congrFun hx (ix1 1)), Eq.trans ?_ (congrFun hx (ix1 2)), Eq.trans ?_ (congrFun hx (ix1 3)), Eq.trans ?_ (congrFun hx (ix1 4))⟩
  · pointwise
  · pointwise
  · pointwise
  · pointwise
  · pointwise

/-- The precondition's arguments are numbers. -/
theorem nums_of_pre (x0 x1 x2 : FVec Ideal S4x4096x512 .bf16) (x3 : FVec Ideal S4x16x256x256 .f32) (x4 : FVec Ideal S4x64 .f32) (x5 : FVec Ideal S128 .f32)
    (h : Cert.Pre_finite.fn (F := Ideal) x0 x1 x2 x3 x4 x5 = fun _ => 1#1) : DiffArray.Nums x0 x1 x2 x3 x4 := by
  unfold Cert.Pre_finite.fn Cert.Pre_finite.fn_part1 at h
  dsimp only at h
  obtain ⟨h0, h1, h2, h3, h4⟩ := flag _ _ _ _ _ _ _ h
  refine ⟨?_, ?_, ?_, ?_, ?_⟩
  · exact num_of_all (extf .f32 x0 Facts.bitsLt_bf16_f32) Facts.bcast_S_S4x4096x512 Facts.reducesTo_S4x4096x512_S_d0_1_2 Facts.h_S_ h0
  · exact num_of_all (extf .f32 x1 Facts.bitsLt_bf16_f32) Facts.bcast_S_S4x4096x512 Facts.reducesTo_S4x4096x512_S_d0_1_2 Facts.h_S_ h1
  · exact num_of_all (extf .f32 x2 Facts.bitsLt_bf16_f32) Facts.bcast_S_S4x4096x512 Facts.reducesTo_S4x4096x512_S_d0_1_2 Facts.h_S_ h2
  · exact num_of_all x3 Facts.bcast_S_S4x16x256x256 Facts.reducesTo_S4x16x256x256_S_d0_1_2_3 Facts.h_S_ h3
  · exact num_of_all x4 Facts.bcast_S_S4x64 Facts.reducesTo_S4x64_S_d0_1 Facts.h_S_ h4

end Cert.DiffPre

end
-- ==== Proof.ProjModel.lean ====
/-
  The projections of the mixer's input as functions of one row, over the extended reals. The kernel's blocks and the
  reference are both read as these.
-/
module

public import proofs.«01_k».proof.Proof.FfnModel

@[expose] public section

noncomputable section

namespace Cert.Proj

open Idealize.ShloMosaic

/-- One column of the product with the input weights: lane `c` of group `j`. -/
def col (x g : Fin 1024 → EReal) (md : Fin 9 → Fin 1024 → EReal) (w : Fin 1024 → Fin 4096 → EReal) (j : Fin 8) (c : Fin 512) : EReal :=
  ∑ k, Ffn.normMod x g (md 3) (md 4) k * w k ⟨j.val * 512 + c.val, by omega⟩

/-- Lane `k` of the head of 64 lanes that holds lane `c`. -/
def lane (c : Fin 512) (k : Fin 64) : Fin 512 := ⟨c.val / 64 * 64 + k.val, by omega⟩

/-- A row of heads, each scaled to mean square one. -/
def head (y : Fin 512 → EReal) (c : Fin 512) : EReal :=
  y c * Ideal.rsqrt (Ideal.div (∑ k : Fin 64, y (lane c k) * y (lane c k)) (Ideal.ofBits .f32 0x42800000#32) + Ideal.ofBits .f32 0x358637BD#32)

/-- The last group's gate. -/
def gate (y z : EReal) : EReal := y * Ideal.div 1 (1 + Ideal.exp (0 - z))

/-- A lane's gain when every head has the same one. -/
def gainA (q : Fin 6 → Fin 64 → EReal) (a : Fin 6) (c : Fin 512) : EReal := q a ⟨c.val % 64, by omega⟩

/-- A lane's gain when two alternate. -/
def gainB (q : Fin 6 → Fin 64 → EReal) (a : Fin 5) (c : Fin 512) : EReal := q ⟨a.val + c.val / 64 % 2, by omega⟩ ⟨c.val % 64, by omega⟩

end Cert.Proj

end
-- ==== Proof.ProjKernel.lean ====
/-
  The projections' call: what one grid point computes, index by index.
-/
module

public import proofs.«01_k».proof.Defs
public import proofs.«01_k».proof.Proof.Gen.Kernel3Ideal.Value
public import proofs.«01_k».proof.Proof.ProjModel
public import Idealize.ShloMosaic.Lib.Pointwise
public import Idealize.ShloMosaic.Lib.MatmulPlain
public import Idealize.ShloMosaic.Lib.Pipeline.ValueKit

@[expose] public section

set_option maxRecDepth 16384

noncomputable section

namespace Cert.ProjKernel

open Cert.Kernel3Ideal Cert.Kernel3Ideal.Gen Idealize.ShloMosaic Idealize.ShloMosaic.TcCoe Idealize.SL.Sem

/-- Two heads side by side, each scaled by its own root, times the gains. -/
def pair (x : FVec Ideal S1024x128 .f32) (g : FVec Ideal S1x128 .f32) : FVec Ideal S1024x128 .f32 :=
  mulf (mulf x (select k0_pay5
    (broadcastTo S1024x128 (shapeCast S1024x1 (rsqrt (addf (mulf (shapeCast S1024x1 (multiReduction .add [1] S1024 (select k0_pay5 (mulf x x) (broadcast S1024x128 (Scalar.ofBits .f32 0x00000000#32 : Ideal .f32))) 0x00000000#32 reduces_S1024x128_S1024 (.inl rfl) rfl) shapeCasts_S1024_S1024x1) (broadcast S1024x1 (Scalar.ofBits .f32 0x3C800000#32))) (broadcast S1024x1 (Scalar.ofBits .f32 0x358637BD#32)))) shapeCasts_S1024x1_S1024x1) broadcasts_S1024x1_S1024x128)
    (broadcastTo S1024x128 (shapeCast S1024x1 (rsqrt (addf (mulf (shapeCast S1024x1 (multiReduction .add [1] S1024 (select k0_pay5 (broadcast S1024x128 (Scalar.ofBits .f32 0x00000000#32 : Ideal .f32)) (mulf x x)) 0x00000000#32 reduces_S1024x128_S1024 (.inl rfl) rfl) shapeCasts_S1024_S1024x1) (broadcast S1024x1 (Scalar.ofBits .f32 0x3C800000#32))) (broadcast S1024x1 (Scalar.ofBits .f32 0x358637BD#32)))) shapeCasts_S1024x1_S1024x1) broadcasts_S1024x1_S1024x128)))
    (broadcastTo S1024x128 g broadcasts_S1x128_S1024x128)

/-- Eight heads: four pairs in a row. -/
def heads (y : FVec Ideal S1024x512 .f32) (g : FVec Ideal S1x512 .f32) : FVec Ideal S1024x512 .f32 :=
  concatenate S1024x512 1 [
    ⟨S1024x128, pair (extractStridedSlice S1024x128 ![0, 0] y slices_S1024x512_o0_0_S1024x128) (extractStridedSlice S1x128 ![0, 0] g slices_S1x512_o0_0_S1x128)⟩,
    ⟨S1024x128, pair (extractStridedSlice S1024x128 ![0, 128] y slices_S1024x512_o0_128_S1024x128) (extractStridedSlice S1x128 ![0, 128] g slices_S1x512_o0_128_S1x128)⟩,
    ⟨S1024x128, pair (extractStridedSlice S1024x128 ![0, 256] y slices_S1024x512_o0_256_S1024x128) (extractStridedSlice S1x128 ![0, 256] g slices_S1x512_o0_256_S1x128)⟩,
    ⟨S1024x128, pair (extractStridedSlice S1024x128 ![0, 384] y slices_S1024x512_o0_384_S1024x128) (extractStridedSlice S1x128 ![0, 384] g slices_S1x512_o0_384_S1x128)⟩]
    concatenates_S1024x128_S1024x128_S1024x128_S1024x128_S1024x512_d1

/-- A product with `1/64` is a quotient by `64`. -/
theorem mul_sixty_fourth (x : EReal) : x * Ideal.ofBits FTy.f32 1015021568#32 = Ideal.div x (Ideal.ofBits .f32 0x42800000#32) := by
  have h64 : Ideal.ofBits .f32 0x42800000#32 = ((64 : ℝ) : EReal) := by
    simp [Ideal.ofBits, Ideal.ieee]
    rw [← EReal.coe_mul]
    norm_num
  have h1 : Ideal.ofBits .f32 1015021568#32 = ((1 / 64 : ℝ) : EReal) := by
    simp [Ideal.ofBits, Ideal.ieee]
    rw [← EReal.coe_mul]
    norm_num
  rw [h64, h1, Ideal.div_coe (by norm_num)]

theorem low_cmp : ∀ l : Fin 128, IntOp.cmpi CmpIPredicate.slt (BitVec.ofNat 32 l.val) 64#32 = if l.val < 64 then 1#1 else 0#1 := by
  decide +kernel

theorem low_apply (r : Fin 1024) (l : Fin 128) : k0_pay5 (ix2 r l) = if l.val < 64 then 1#1 else 0#1 := by
  pointwise [k0_pay5]
  exact low_cmp l

/-- The head of 64 lanes that holds lane `l` of 128: its lane `k`. -/
def half (l : Fin 128) (k : Fin 64) : Fin 128 := ⟨l.val / 64 * 64 + k.val, by omega⟩

theorem pair_apply (x : FVec Ideal S1024x128 .f32) (g : FVec Ideal S1x128 .f32) (r : Fin 1024) (l : Fin 128) :
    pair x g (ix2 r l) = x (ix2 r l) * Ideal.rsqrt (Ideal.div (∑ k : Fin 64, x (ix2 r (half l k)) * x (ix2 r (half l k))) (Ideal.ofBits .f32 0x42800000#32)
      + Ideal.ofBits .f32 0x358637BD#32) * g (ix2 0 l) := by
  pointwise [pair, low_apply]
  simp only [Finset.sum_const_zero, add_zero, zero_add, mul_sixty_fourth]
  by_cases h : l.val < 64
  · rw [if_pos h]
    have e : ∀ k : Fin 64, (⟨k.val, by omega⟩ : Fin 128) = half l k := fun k => Fin.ext (by show k.val = l.val / 64 * 64 + k.val; omega)
    simp only [e]
    rfl
  · rw [if_neg h]
    have e : ∀ k : Fin 64, (⟨64 + k.val, by omega⟩ : Fin 128) = half l k := fun k => Fin.ext (by show 64 + k.val = l.val / 64 * 64 + k.val; omega)
    simp only [e]
    rfl

/-- A pair of heads cut out of the row. -/
theorem cut_apply (y : FVec Ideal S1024x512 .f32) (g : FVec Ideal S1x512 .f32) (o : ℕ) (ho : o % 64 = 0) (hy : S1024x512.Slices ![0, o] S1024x128) (hg : S1x512.Slices ![0, o] S1x128)
    (r : Fin 1024) (l : Fin 128) (c : Fin 512) (hc : c.val = o + l.val) :
    pair (extractStridedSlice S1024x128 ![0, o] y hy) (extractStridedSlice S1x128 ![0, o] g hg) (ix2 r l)
      = Proj.head (fun k => y (ix2 r k)) c * g (ix2 0 c) := by
  have ey : ∀ (l' : Fin 128) (c' : Fin 512), c'.val = o + l'.val → extractStridedSlice S1024x128 ![0, o] y hy (ix2 r l') = y (ix2 r c') := fun l' c' h' =>
    extractStridedSlice_apply ![0, o] y hy (ix2 r l') (ix2 r c') fun a => by
      match a with
      | ⟨0, _⟩ => exact (Nat.zero_add _).symm
      | ⟨1, _⟩ => exact h'
  have eg : extractStridedSlice S1x128 ![0, o] g hg (ix2 0 l) = g (ix2 0 c) :=
    extractStridedSlice_apply ![0, o] g hg (ix2 0 l) (ix2 0 c) fun a => by
      match a with
      | ⟨0, _⟩ => exact (Nat.zero_add _).symm
      | ⟨1, _⟩ => exact hc
  rw [pair_apply, eg, ey l c hc]
  have es : ∀ k : Fin 64, extractStridedSlice S1024x128 ![0, o] y hy (ix2 r (half l k)) = y (ix2 r (Proj.lane c k)) := fun k =>
    ey _ _ (by show c.val / 64 * 64 + k.val = o + (l.val / 64 * 64 + k.val); omega)
  simp only [es]
  rfl

/-- The four pairs. -/
abbrev cuts (y : FVec Ideal S1024x512 .f32) (g : FVec Ideal S1x512 .f32) : Fin 4 → FVec Ideal S1024x128 .f32 := fun n => match n with
  | ⟨0, _⟩ => pair (extractStridedSlice S1024x128 ![0, 0] y slices_S1024x512_o0_0_S1024x128) (extractStridedSlice S1x128 ![0, 0] g slices_S1x512_o0_0_S1x128)
  | ⟨1, _⟩ => pair (extractStridedSlice S1024x128 ![0, 128] y slices_S1024x512_o0_128_S1024x128) (extractStridedSlice S1x128 ![0, 128] g slices_S1x512_o0_128_S1x128)
  | ⟨2, _⟩ => pair (extractStridedSlice S1024x128 ![0, 256] y slices_S1024x512_o0_256_S1024x128) (extractStridedSlice S1x128 ![0, 256] g slices_S1x512_o0_256_S1x128)
  | ⟨3, _⟩ => pair (extractStridedSlice S1024x128 ![0, 384] y slices_S1024x512_o0_384_S1024x128) (extractStridedSlice S1x128 ![0, 384] g slices_S1x512_o0_384_S1x128)

theorem heads_apply (y : FVec Ideal S1024x512 .f32) (g : FVec Ideal S1x512 .f32) (r : Fin 1024) (c : Fin 512) :
    heads y g (ix2 r c) = Proj.head (fun k => y (ix2 r k)) c * g (ix2 0 c) := by
  show concatenate S1024x512 1 (List.ofFn fun n : Fin 4 => (⟨S1024x128, cuts y g n⟩ : (s : Shape) × (s.Idx → _))) _ (ix2 r c) = _
  refine (concatenate_ofFn_apply (t := S1024x512) (s₁ := S1024x128) (1 : Fin 2) (cuts y g) _ rfl 128 rfl (ix2 r c) ⟨c.val / 128, by omega⟩ rfl
    (ix2 r ⟨c.val % 128, by omega⟩) rfl (fun b hb => by match b with | ⟨0, _⟩ => rfl | ⟨1, _⟩ => exact absurd rfl hb)).trans ?_
  have h : c.val = c.val / 128 * 128 + c.val % 128 := by omega
  generalize hn : (⟨c.val / 128, by omega⟩ : Fin 4) = n
  have hn' : c.val / 128 = n.val := congrArg Fin.val hn
  match n with
  | ⟨0, _⟩ => exact cut_apply y g 0 (by decide) _ _ r _ c (by show c.val = 0 + c.val % 128; dsimp only at hn'; omega)
  | ⟨1, _⟩ => exact cut_apply y g 128 (by decide) _ _ r _ c (by show c.val = 128 + c.val % 128; dsimp only at hn'; omega)
  | ⟨2, _⟩ => exact cut_apply y g 256 (by decide) _ _ r _ c (by show c.val = 256 + c.val % 128; dsimp only at hn'; omega)
  | ⟨3, _⟩ => exact cut_apply y g 384 (by decide) _ _ r _ c (by show c.val = 384 + c.val % 128; dsimp only at hn'; omega)

/-- The normed rows times one group of columns, at one index. -/
theorem col_apply (x : Vec Ideal S1x1024x1024 .f32) (g : Vec Ideal S1x1024 .f32) (a b : Vec Ideal S1x1x1024 .f32) (w : Vec Ideal S1x1024x512 .bf16) (r : Fin 1024) (c : Fin 512) :
    k0_pay19 (F := Ideal) (k0_pay2 x g a b) w (ix2 r c)
      = ∑ k, Ffn.normMod (fun k => x (ix3 0 r k)) (fun k => g (ix2 0 k)) (fun k => a (ix3 0 0 k)) (fun k => b (ix3 0 0 k)) k * w (ix3 0 k c) := by
  pointwise [k0_pay2, k0_pay19, Ffn.normMod]

/-- The normed and modulated rows that the grid point's products take. -/
abbrev rows (x0 : Vec Ideal S1x1024x1024 .f32) (x1 : Vec Ideal S1x9x1024 .f32) (x2 : Vec Ideal S1x1024 .f32) : FVec Ideal S1024x1024 .bf16 :=
  k0_pay2 (View.ld x0 r0_0) (View.ld x2 r0_1) (View.ld x1 r0_2) (View.ld x1 r0_3)

/-- Group `j` of a block's row. -/
abbrev bcol (x0 : Vec Ideal S1x1024x1024 .f32) (x1 : Vec Ideal S1x9x1024 .f32) (x2 : Vec Ideal S1x1024 .f32) (x3 : Vec Ideal S1x1024x4096 .bf16) (r : Fin 1024) (j : Fin 8) : Fin 512 → EReal :=
  Proj.col (fun k => x0 (ix3 0 r k)) (fun k => x2 (ix2 0 k)) (fun a k => x1 (ix3 0 a k)) (fun k n => x3 (ix3 0 k n)) j

theorem col_at (x0 : Vec Ideal S1x1024x1024 .f32) (x1 : Vec Ideal S1x9x1024 .f32) (x2 : Vec Ideal S1x1024 .f32) (x3 : Vec Ideal S1x1024x4096 .bf16) (j : Fin 8) (o : ℕ) (ho : o = j.val * 512)
    (inb) (r : Fin 1024) (c : Fin 512) :
    k0_pay19 (F := Ideal) (rows x0 x1 x2) (View.ld x3 (Rect.unit (s := S1x1024x4096) ![0, 0, o] S1x1024x512.size inb)) (ix2 r c) = bcol x0 x1 x2 x3 r j c := by
  refine (col_apply _ _ _ _ _ r c).trans ?_
  unfold bcol Proj.col
  refine Finset.sum_congr rfl fun k _ => congr_arg₂ (· * ·) ?_ ?_
  · congr 1
    · funext j; exact View.ld_unit_apply_of x0 _ _ _ _ _ fun a => by match a with | ⟨0, _⟩ => rfl | ⟨1, _⟩ => exact (Nat.zero_add _).symm | ⟨2, _⟩ => exact (Nat.zero_add _).symm
    · funext j; exact View.ld_unit_apply_of x2 _ _ _ _ _ fun a => by match a with | ⟨0, _⟩ => rfl | ⟨1, _⟩ => exact (Nat.zero_add _).symm
    · funext j; exact View.ld_unit_apply_of x1 _ _ _ _ _ fun a => by match a with | ⟨0, _⟩ => rfl | ⟨1, _⟩ => rfl | ⟨2, _⟩ => exact (Nat.zero_add _).symm
    · funext j; exact View.ld_unit_apply_of x1 _ _ _ _ _ fun a => by match a with | ⟨0, _⟩ => rfl | ⟨1, _⟩ => rfl | ⟨2, _⟩ => exact (Nat.zero_add _).symm
  · exact View.ld_unit_apply_of x3 _ _ inb _ _ fun a => by match a with | ⟨0, _⟩ => rfl | ⟨1, _⟩ => exact (Nat.zero_add _).symm | ⟨2, _⟩ => show j.val * 512 + c.val = o + c.val; omega

/-- A row of the gains. -/
theorem gain_at (x4 : Vec Ideal S4x512 .f32) (a : Fin 4) (o : ℕ) (ho : o = a.val) (inb) (c : Fin 512) :
    k0_pay4 (F := Ideal) (View.ld x4 (Rect.unit (s := S4x512) ![o, 0] S1x512.size inb)) (ix2 0 c) = x4 (ix2 a c) := by
  refine Eq.trans (?_ : _ = View.ld x4 (Rect.unit (s := S4x512) ![o, 0] S1x512.size inb) (ix2 0 c)) ?_
  · pointwise [k0_pay4]
  · exact View.ld_unit_apply_of x4 _ _ inb _ _ fun a' => by match a' with | ⟨0, _⟩ => exact ho.symm | ⟨1, _⟩ => exact (Nat.zero_add _).symm

section blocks

variable (x0 : Vec Ideal S1x1024x1024 .f32) (x1 : Vec Ideal S1x9x1024 .f32) (x2 : Vec Ideal S1x1024 .f32) (x3 : Vec Ideal S1x1024x4096 .bf16) (x4 : Vec Ideal S4x512 .f32)

theorem scaled_apply (y : FVec Ideal S1024x512 .f32) (g : FVec Ideal S1x512 .f32) (r : Fin 1024) (c : Fin 512) :
    shapeCast S1x1024x512 (truncf .bf16 (mulf (heads y g) (broadcast S1024x512 (Scalar.ofBits .f32 0x3E38AA3B#32 : Ideal .f32))) bitsLt_bf16_f32) shapeCasts_S1024x512_S1x1024x512 (ix3 0 r c)
      = Proj.head (fun k => y (ix2 r k)) c * g (ix2 0 c) * Ideal.ofBits .f32 0x3E38AA3B#32 := by
  pointwise [heads_apply]

theorem plain_apply (y : FVec Ideal S1024x512 .f32) (g : FVec Ideal S1x512 .f32) (r : Fin 1024) (c : Fin 512) :
    shapeCast S1x1024x512 (truncf .bf16 (heads y g) bitsLt_bf16_f32) shapeCasts_S1024x512_S1x1024x512 (ix3 0 r c)
      = Proj.head (fun k => y (ix2 r k)) c * g (ix2 0 c) := by
  pointwise [heads_apply]

theorem turned_apply (y : FVec Ideal S1024x512 .f32) (g : FVec Ideal S1x512 .f32) (r : Fin 1024) (c : Fin 512) :
    shapeCast S1x512x1024 (truncf .bf16 (transpose S512x1024 [1, 0] (mulf (heads y g) (broadcast S1024x512 (Scalar.ofBits .f32 0x3E38AA3B#32 : Ideal .f32))) transposes_S1024x512_p1_0_S512x1024) bitsLt_bf16_f32) shapeCasts_S512x1024_S1x512x1024 (ix3 0 c r)
      = Proj.head (fun k => y (ix2 r k)) c * g (ix2 0 c) * Ideal.ofBits .f32 0x3E38AA3B#32 := by
  pointwise [heads_apply]

theorem qa_block (r : Fin 1024) (c : Fin 512) :
    out0_5 (F := Ideal) x0 x1 x2 x3 x4 (ix3 0 r c) = Proj.head (bcol x0 x1 x2 x3 r 0) c * x4 (ix2 0 c) * Ideal.ofBits .f32 0x3E38AA3B#32 := by
  unfold out0_5
  rw [View.canon_cons_unit_lit _ _ _ (by decide)]
  refine (scaled_apply (k0_pay19 (rows x0 x1 x2) (View.ld x3 r0_4)) (k0_pay4 (View.ld x4 r0_5)) r c).trans ?_
  rw [gain_at x4 0 0 rfl]
  simp only [col_at x0 x1 x2 x3 0 0 rfl]

theorem ka_block (r : Fin 1024) (c : Fin 512) :
    out0_6 (F := Ideal) x0 x1 x2 x3 x4 (ix3 0 r c) = Proj.head (bcol x0 x1 x2 x3 r 1) c * x4 (ix2 1 c) := by
  unfold out0_6
  rw [View.canon_cons_unit_lit _ _ _ (by decide)]
  refine (plain_apply (k0_pay19 (rows x0 x1 x2) (View.ld x3 r0_7)) (k0_pay4 (View.ld x4 r0_8)) r c).trans ?_
  rw [gain_at x4 1 1 rfl]
  simp only [col_at x0 x1 x2 x3 1 512 rfl]

theorem va_block (r : Fin 1024) (c : Fin 512) :
    out0_7 (F := Ideal) x0 x1 x2 x3 x4 (ix3 0 r c) = bcol x0 x1 x2 x3 r 2 c := by
  unfold out0_7
  rw [View.canon_cons_unit_lit _ _ _ (by decide)]
  refine Eq.trans (?_ : _ = k0_pay19 (rows x0 x1 x2) (View.ld x3 r0_9) (ix2 r c)) (col_at x0 x1 x2 x3 2 1024 rfl _ r c)
  unfold k0_pay37 k0_pay19 k0_pay73 rows
  pointwise

theorem qb_block (r : Fin 1024) (c : Fin 512) :
    out0_8 (F := Ideal) x0 x1 x2 x3 x4 (ix3 0 c r) = Proj.head (bcol x0 x1 x2 x3 r 3) c * x4 (ix2 2 c) * Ideal.ofBits .f32 0x3E38AA3B#32 := by
  unfold out0_8
  rw [View.canon_cons_unit_lit _ _ _ (by decide)]
  refine (turned_apply (k0_pay19 (rows x0 x1 x2) (View.ld x3 r0_10)) (k0_pay4 (View.ld x4 r0_11)) r c).trans ?_
  rw [gain_at x4 2 2 rfl]
  simp only [col_at x0 x1 x2 x3 3 1536 rfl]

theorem kb_block (r : Fin 1024) (c : Fin 512) :
    out0_9 (F := Ideal) x0 x1 x2 x3 x4 (ix3 0 r c) = Proj.head (bcol x0 x1 x2 x3 r 4) c * x4 (ix2 3 c) := by
  unfold out0_9
  rw [View.canon_cons_unit_lit _ _ _ (by decide)]
  refine (plain_apply (k0_pay19 (rows x0 x1 x2) (View.ld x3 r0_13)) (k0_pay4 (View.ld x4 r0_14)) r c).trans ?_
  rw [gain_at x4 3 3 rfl]
  simp only [col_at x0 x1 x2 x3 4 2048 rfl]

theorem vb_block (r : Fin 1024) (c : Fin 512) :
    out0_10 (F := Ideal) x0 x1 x2 x3 x4 (ix3 0 c r) = bcol x0 x1 x2 x3 r 5 c := by
  unfold out0_10
  rw [View.canon_cons_unit_lit _ _ _ (by decide)]
  refine Eq.trans (?_ : _ = k0_pay19 (rows x0 x1 x2) (View.ld x3 r0_15) (ix2 r c)) (col_at x0 x1 x2 x3 5 2560 rfl _ r c)
  unfold k0_pay71 k0_pay19 k0_pay73 rows
  pointwise

theorem u_apply (h : FVec Ideal S1024x1024 .bf16) (w w' : Vec Ideal S1x1024x512 .bf16) (r : Fin 1024) (c : Fin 512) :
    k0_pay1 (F := Ideal) h (k0_pay72 h w) w' (ix3 0 r c) = Proj.gate (k0_pay19 h w (ix2 r c)) (k0_pay19 h w' (ix2 r c)) := by
  pointwise [k0_pay1, k0_pay72, k0_pay19, Proj.gate]

theorem u_block (r : Fin 1024) (c : Fin 512) :
    out0_11 (F := Ideal) x0 x1 x2 x3 x4 (ix3 0 r c) = Proj.gate (bcol x0 x1 x2 x3 r 6 c) (bcol x0 x1 x2 x3 r 7 c) := by
  unfold out0_11
  rw [View.canon_cons_unit_lit _ _ _ (by decide)]
  refine (u_apply (rows x0 x1 x2) (View.ld x3 r0_16) (View.ld x3 r0_17) r c).trans ?_
  rw [col_at x0 x1 x2 x3 6 3072 rfl, col_at x0 x1 x2 x3 7 3584 rfl]

end blocks

end Cert.ProjKernel

end
-- ==== Proof.ProjArray.lean ====
/-
  The projections' blocks placed in the arrays: what the grid leaves in the results, as functions of the arguments.
-/
module

public import proofs.«01_k».proof.Proof.ProjKernel

@[expose] public section

set_option maxRecDepth 16384

noncomputable section

namespace Cert.ProjArray

open Cert.Kernel3Ideal Cert.Kernel3Ideal.Gen Idealize.ShloMosaic Idealize.ShloMosaic.TcCoe Idealize.SL.Sem
open Idealize.ShloMosaic.Pipeline (Dat)

section results

variable (x0 : FVec Ideal S4x4096x1024 .f32) (x1 : FVec Ideal S4x9x1024 .f32) (x2 : FVec Ideal S1024 .f32)
    (x3 : FVec Ideal S2x1024x4096 .f32) (x4 : FVec Ideal S6x64 .f32)

/-- Group `j` of the projections of row `s` of batch `b`. -/
def group (b : Fin 4) (s : Fin 4096) (j : Fin 8) : Fin 512 → EReal :=
  Proj.col (fun k => x0 (ix3 b s k)) (fun k => x2 (ix1 k)) (fun a k => x1 (ix3 b a k)) (fun k n => x3 (ix3 0 k n)) j

def qa (b : Fin 4) (s : Fin 4096) (c : Fin 512) : EReal :=
  Proj.head (group x0 x1 x2 x3 b s 0) c * Proj.gainA (fun a k => x4 (ix2 a k)) 0 c * Ideal.ofBits .f32 0x3E38AA3B#32

def ka (b : Fin 4) (s : Fin 4096) (c : Fin 512) : EReal :=
  Proj.head (group x0 x1 x2 x3 b s 1) c * Proj.gainA (fun a k => x4 (ix2 a k)) 1 c

def va (b : Fin 4) (s : Fin 4096) (c : Fin 512) : EReal := group x0 x1 x2 x3 b s 2 c

def qb (b : Fin 4) (s : Fin 4096) (c : Fin 512) : EReal :=
  Proj.head (group x0 x1 x2 x3 b s 3) c * Proj.gainB (fun a k => x4 (ix2 a k)) 2 c * Ideal.ofBits .f32 0x3E38AA3B#32

def kb (b : Fin 4) (s : Fin 4096) (c : Fin 512) : EReal :=
  Proj.head (group x0 x1 x2 x3 b s 4) c * Proj.gainB (fun a k => x4 (ix2 a k)) 4 c

def vb (b : Fin 4) (s : Fin 4096) (c : Fin 512) : EReal := group x0 x1 x2 x3 b s 5 c

def gated (b : Fin 4) (s : Fin 4096) (c : Fin 512) : EReal := Proj.gate (group x0 x1 x2 x3 b s 6 c) (group x0 x1 x2 x3 b s 7 c)

end results

/-- Row by row. -/
def rowsOf (f : Fin 4 → Fin 4096 → Fin 512 → EReal) : S4x4096x512.Idx → EReal := fun i => f (i 0) (i 1) (i 2)

/-- Row by row, transposed. -/
def colsOf (f : Fin 4 → Fin 4096 → Fin 512 → EReal) : S4x512x4096.Idx → EReal := fun i => f (i 0) (i 2) (i 1)

/-- One gain for every head, as a row of 512. -/
def rowA (q : FVec Ideal S6x64 .f32) (a : ℕ) (h : S6x64.Slices ![a, 0] S1x64) : FVec Ideal S1x512 .f32 :=
  broadcastInDim S1x512 ![1] bcast_S512_S1x512_1 (shapeCast S512 (broadcastInDim S8x64 ![0, 1] bcast_S1x64_S8x64_0_1
    (shapeCast S1x64 (shapeCast S64 (extractStridedSlice S1x64 ![a, 0] q h) shapeCasts_S1x64_S64) shapeCasts_S64_S1x64)) shapeCasts_S8x64_S512)

/-- Two gains that alternate, as a row of 512. -/
def rowB (q : FVec Ideal S6x64 .f32) (a b : ℕ) (h : S6x64.Slices ![a, 0] S1x64) (h' : S6x64.Slices ![b, 0] S1x64) : FVec Ideal S1x512 .f32 :=
  broadcastInDim S1x512 ![1] bcast_S512_S1x512_1 (shapeCast S512 (broadcastInDim S4x128 ![0, 1] bcast_S1x128_S4x128_0_1
    (shapeCast S1x128 (concatenate S128 0 [⟨S64, shapeCast S64 (extractStridedSlice S1x64 ![a, 0] q h) shapeCasts_S1x64_S64⟩,
      ⟨S64, shapeCast S64 (extractStridedSlice S1x64 ![b, 0] q h') shapeCasts_S1x64_S64⟩] concatenates_S64_S64_S128_d0) shapeCasts_S128_S1x128)) shapeCasts_S4x128_S512)

theorem rowA_apply (q : FVec Ideal S6x64 .f32) (a : Fin 6) (h) (c : Fin 512) :
    rowA q a.val h (ix2 0 c) = Proj.gainA (fun a k => q (ix2 a k)) a c := by
  pointwise [rowA]
  rfl

theorem rowB_apply (q : FVec Ideal S6x64 .f32) (a b : Fin 6) (h) (h') (c : Fin 512) :
    rowB q a.val b.val h h' (ix2 0 c) = if c.val / 64 % 2 = 0 then q (ix2 a ⟨c.val % 64, by omega⟩) else q (ix2 b ⟨c.val % 64, by omega⟩) := by
  pointwise [rowB]
  by_cases h0 : c.val / 64 % 2 = 0
  · rw [if_pos h0, dif_pos (by omega)]
    exact congrArg q (congrArg₂ ix2 rfl (Fin.ext (by show c.val % 128 = c.val % 64; omega)))
  · rw [if_neg h0, dif_neg (by omega)]
    exact congrArg q (congrArg₂ ix2 rfl (Fin.ext (by show c.val % 128 - 64 = c.val % 64; omega)))

variable (m : (ℓ : Loc nD τ sig) → Buf (Elt Ideal) ℓ)

/-- The gain as the region finds it: the argument as one row. -/
theorem gain_eq (c : Dev nD) : V m c main_v32 = shapeCast (s := S1024) S1x1024 (m ((c : Thread nD τ).loc main_arg2)) shapeCasts_S1024_S1x1024 := by
  rfl

/-- The weights as the region finds them: the argument, cast. -/
theorem weights_eq (c : Dev nD) : V m c main_v0 = truncf (F := Ideal) (s := S2x1024x4096) (φ := .f32) .bf16 (m ((c : Thread nD τ).loc main_arg3)) bitsLt_bf16_f32 := by
  rfl

/-- The head gains as the region finds them: four rows. -/
theorem gains_eq (c : Dev nD) : V m c main_v31 = concatenate S4x512 0 [
    ⟨S1x512, rowA (m ((c : Thread nD τ).loc main_arg4)) 0 slices_S6x64_S1x64_0_0⟩,
    ⟨S1x512, rowA (m ((c : Thread nD τ).loc main_arg4)) 1 slices_S6x64_S1x64_1_0⟩,
    ⟨S1x512, rowB (m ((c : Thread nD τ).loc main_arg4)) 2 3 slices_S6x64_S1x64_2_0 slices_S6x64_S1x64_3_0⟩,
    ⟨S1x512, rowB (m ((c : Thread nD τ).loc main_arg4)) 4 5 slices_S6x64_S1x64_4_0 slices_S6x64_S1x64_5_0⟩] concatenates_S1x512_S1x512_S1x512_S1x512_S4x512_d0 := by
  rfl

/-- The block indices of the windows at each grid point. -/
theorem rows_index : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

theorem mod_index : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

theorem gain_index : ∀ t : Fin cfg0.N, win0_2.index t 0 = 0 ∧ win0_2.index t 1 = 0 :=
  (by decide +kernel : ∀ t : Fin grid0.N, win0_2.index t 0 = 0 ∧ win0_2.index t 1 = 0)

theorem weights_index : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem gains_index : ∀ t : Fin cfg0.N, win0_4.index t 0 = 0 ∧ win0_4.index t 1 = 0 :=
  (by decide +kernel : ∀ t : Fin grid0.N, win0_4.index t 0 = 0 ∧ win0_4.index t 1 = 0)

theorem qa_index : ∀ t : Fin cfg0.N, win0_5.index t 0 = t.val / 4 ∧ win0_5.index t 1 = t.val % 4 ∧ win0_5.index t 2 = 0 :=
  (by decide +kernel : ∀ t : Fin grid0.N, win0_5.index t 0 = t.val / 4 ∧ win0_5.index t 1 = t.val % 4 ∧ win0_5.index t 2 = 0)

theorem ka_index : ∀ t : Fin cfg0.N, win0_6.index t 0 = t.val / 4 ∧ win0_6.index t 1 = t.val % 4 ∧ win0_6.index t 2 = 0 :=
  (by decide +kernel : ∀ t : Fin grid0.N, win0_6.index t 0 = t.val / 4 ∧ win0_6.index t 1 = t.val % 4 ∧ win0_6.index t 2 = 0)

theorem va_index : ∀ t : Fin cfg0.N, win0_7.index t 0 = t.val / 4 ∧ win0_7.index t 1 = t.val % 4 ∧ win0_7.index t 2 = 0 :=
  (by decide +kernel : ∀ t : Fin grid0.N, win0_7.index t 0 = t.val / 4 ∧ win0_7.index t 1 = t.val % 4 ∧ win0_7.index t 2 = 0)

theorem qb_index : ∀ t : Fin cfg0.N, win0_8.index t 0 = t.val / 4 ∧ win0_8.index t 1 = 0 ∧ win0_8.index t 2 = t.val % 4 :=
  (by decide +kernel : ∀ t : Fin grid0.N, win0_8.index t 0 = t.val / 4 ∧ win0_8.index t 1 = 0 ∧ win0_8.index t 2 = t.val % 4)

theorem kb_index : ∀ t : Fin cfg0.N, win0_9.index t 0 = t.val / 4 ∧ win0_9.index t 1 = t.val % 4 ∧ win0_9.index t 2 = 0 :=
  (by decide +kernel : ∀ t : Fin grid0.N, win0_9.index t 0 = t.val / 4 ∧ win0_9.index t 1 = t.val % 4 ∧ win0_9.index t 2 = 0)

theorem vb_index : ∀ t : Fin cfg0.N, win0_10.index t 0 = t.val / 4 ∧ win0_10.index t 1 = 0 ∧ win0_10.index t 2 = t.val % 4 :=
  (by decide +kernel : ∀ t : Fin grid0.N, win0_10.index t 0 = t.val / 4 ∧ win0_10.index t 1 = 0 ∧ win0_10.index t 2 = t.val % 4)

theorem u_index : ∀ t : Fin cfg0.N, win0_11.index t 0 = t.val / 4 ∧ win0_11.index t 1 = t.val % 4 ∧ win0_11.index t 2 = 0 :=
  (by decide +kernel : ∀ t : Fin grid0.N, win0_11.index t 0 = t.val / 4 ∧ win0_11.index t 1 = t.val % 4 ∧ win0_11.index t 2 = 0)

/-- The batch a grid point works on. -/
def bat (t : Fin cfg0.N) : Fin 4 := ⟨t.val / 4, by have h : t.val < 16 := t.isLt; omega⟩

/-- The array row of a block's row. -/
def row (t : Fin cfg0.N) (r : Fin 1024) : Fin 4096 := ⟨t.val % 4 * 1024 + r.val, by omega⟩

theorem rows_block (c : Dev nD) (t : Fin cfg0.N) (r k : Fin 1024) :
    iblk m c 0 t (ix3 0 r k) = m ((c : Thread nD τ).loc main_arg0) (ix3 (bat t) (row t r) k) := by
  unfold iblk
  rw [View.read_apply]
  show V m c main_arg0 _ = _
  rw [V_main_arg0]
  refine congrArg _ (funext fun a => Fin.ext ?_)
  have h := rows_index t
  match a with
  | ⟨0, _⟩ => show win0_0.index t 0 * 1 + 1 * 0 = t.val / 4; rw [h.1]; omega
  | ⟨1, _⟩ => show win0_0.index t 1 * 1024 + 1 * r.val = t.val % 4 * 1024 + r.val; rw [h.2.1]; omega
  | ⟨2, _⟩ => show win0_0.index t 2 * 1024 + 1 * k.val = k.val; rw [h.2.2]; omega

theorem mod_block (c : Dev nD) (t : Fin cfg0.N) (r : Fin 9) (k : Fin 1024) :
    iblk m c 1 t (ix3 0 r k) = m ((c : Thread nD τ).loc main_arg1) (ix3 (bat t) r k) := by
  unfold iblk
  rw [View.read_apply]
  show V m c main_arg1 _ = _
  rw [V_main_arg1]
  refine congrArg _ (funext fun a => Fin.ext ?_)
  have h := mod_index t
  match a with
  | ⟨0, _⟩ => show win0_1.index t 0 * 1 + 1 * 0 = t.val / 4; rw [h.1]; omega
  | ⟨1, _⟩ => show win0_1.index t 1 * 9 + 1 * r.val = r.val; rw [h.2.1]; omega
  | ⟨2, _⟩ => show win0_1.index t 2 * 1024 + 1 * k.val = k.val; rw [h.2.2]; omega

theorem gain_block (c : Dev nD) (t : Fin cfg0.N) (k : Fin 1024) :
    iblk m c 2 t (ix2 0 k) = m ((c : Thread nD τ).loc main_arg2) (ix1 k) := by
  unfold iblk
  rw [View.read_apply]
  show V m c main_v32 _ = _
  rw [gain_eq]
  have hi : (((cfg0.win 2).blk t).view.emb (ix2 0 k) : S1x1024.Idx) = ix2 0 k := by
    funext a
    apply Fin.ext
    have h := gain_index t
    match a with
    | ⟨0, _⟩ => show win0_2.index t 0 * 1 + 1 * 0 = 0; rw [h.1]
    | ⟨1, _⟩ => show win0_2.index t 1 * 1024 + 1 * k.val = k.val; rw [h.2]; omega
  refine (congrArg _ hi).trans ?_
  pointwise

theorem weights_block (c : Dev nD) (t : Fin cfg0.N) (k : Fin 1024) (f : Fin 4096) :
    iblk m c 3 t (ix3 0 k f) = m ((c : Thread nD τ).loc main_arg3) (ix3 0 k f) := by
  unfold iblk
  rw [View.read_apply]
  show V m c main_v0 _ = _
  rw [weights_eq]
  refine congrArg (m ((c : Thread nD τ).loc main_arg3)) (funext fun a => Fin.ext ?_)
  have h := weights_index t
  match a with
  | ⟨0, _⟩ => show win0_3.index t 0 * 1 + 1 * 0 = 0; rw [h.1]
  | ⟨1, _⟩ => show win0_3.index t 1 * 1024 + 1 * k.val = k.val; rw [h.2.1]; omega
  | ⟨2, _⟩ => show win0_3.index t 2 * 4096 + 1 * f.val = f.val; rw [h.2.2]; omega

theorem gains_at (c : Dev nD) (t : Fin cfg0.N) (a : Fin 4) (f : Fin 512) : iblk m c 4 t (ix2 a f) = V m c main_v31 (ix2 a f) := by
  unfold iblk
  rw [View.read_apply]
  show V m c main_v31 _ = _
  refine congrArg (V m c main_v31) (funext fun b => Fin.ext ?_)
  have h := gains_index t
  match b with
  | ⟨0, _⟩ => show win0_4.index t 0 * 4 + 1 * a.val = a.val; rw [h.1]; omega
  | ⟨1, _⟩ => show win0_4.index t 1 * 512 + 1 * f.val = f.val; rw [h.2]; omega

theorem gains_block0 (c : Dev nD) (t : Fin cfg0.N) (f : Fin 512) :
    iblk m c 4 t (ix2 0 f) = Proj.gainA (fun a k => m ((c : Thread nD τ).loc main_arg4) (ix2 a k)) 0 f := by
  rw [gains_at, gains_eq]
  refine Eq.trans ?_ (rowA_apply (m ((c : Thread nD τ).loc main_arg4)) 0 slices_S6x64_S1x64_0_0 f)
  pointwise

theorem gains_block1 (c : Dev nD) (t : Fin cfg0.N) (f : Fin 512) :
    iblk m c 4 t (ix2 1 f) = Proj.gainA (fun a k => m ((c : Thread nD τ).loc main_arg4) (ix2 a k)) 1 f := by
  rw [gains_at, gains_eq]
  refine Eq.trans ?_ (rowA_apply (m ((c : Thread nD τ).loc main_arg4)) 1 slices_S6x64_S1x64_1_0 f)
  pointwise

theorem gains_block2 (c : Dev nD) (t : Fin cfg0.N) (f : Fin 512) :
    iblk m c 4 t (ix2 2 f) = Proj.gainB (fun a k => m ((c : Thread nD τ).loc main_arg4) (ix2 a k)) 2 f := by
  rw [gains_at, gains_eq]
  refine Eq.trans (?_ : _ = rowB (m ((c : Thread nD τ).loc main_arg4)) 2 3 slices_S6x64_S1x64_2_0 slices_S6x64_S1x64_3_0 (ix2 0 f)) ?_
  · pointwise
  · refine (rowB_apply (m ((c : Thread nD τ).loc main_arg4)) 2 3 slices_S6x64_S1x64_2_0 slices_S6x64_S1x64_3_0 f).trans ?_
    unfold Proj.gainB
    by_cases h : f.val / 64 % 2 = 0
    · rw [if_pos h]
      exact congrArg (m ((c : Thread nD τ).loc main_arg4)) (congrArg₂ ix2 (Fin.ext (by show 2 = 2 + f.val / 64 % 2; omega)) rfl)
    · rw [if_neg h]
      exact congrArg (m ((c : Thread nD τ).loc main_arg4)) (congrArg₂ ix2 (Fin.ext (by show 3 = 2 + f.val / 64 % 2; omega)) rfl)

theorem gains_block3 (c : Dev nD) (t : Fin cfg0.N) (f : Fin 512) :
    iblk m c 4 t (ix2 3 f) = Proj.gainB (fun a k => m ((c : Thread nD τ).loc main_arg4) (ix2 a k)) 4 f := by
  rw [gains_at, gains_eq]
  refine Eq.trans (?_ : _ = rowB (m ((c : Thread nD τ).loc main_arg4)) 4 5 slices_S6x64_S1x64_4_0 slices_S6x64_S1x64_5_0 (ix2 0 f)) ?_
  · pointwise
  · refine (rowB_apply (m ((c : Thread nD τ).loc main_arg4)) 4 5 slices_S6x64_S1x64_4_0 slices_S6x64_S1x64_5_0 f).trans ?_
    unfold Proj.gainB
    by_cases h : f.val / 64 % 2 = 0
    · rw [if_pos h]
      exact congrArg (m ((c : Thread nD τ).loc main_arg4)) (congrArg₂ ix2 (Fin.ext (by show 4 = 4 + f.val / 64 % 2; omega)) rfl)
    · rw [if_neg h]
      exact congrArg (m ((c : Thread nD τ).loc main_arg4)) (congrArg₂ ix2 (Fin.ext (by show 5 = 4 + f.val / 64 % 2; omega)) rfl)

theorem qa_array (c : Dev nD) :
    (dats m 0 c).arrAt 5 cfg0.N = rowsOf (qa (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_cover 5 _ ?_ ?_
  · intro t _
    rw [Value.flushed5]
    funext z
    obtain ⟨z0, r, j, rfl⟩ : ∃ (z0 : Fin 1) (r : Fin 1024) (j : Fin 512), z = ix3 z0 r j := ⟨z 0, z 1, z 2, by
      funext a; match a with | ⟨0, _⟩ => rfl | ⟨1, _⟩ => rfl | ⟨2, _⟩ => rfl⟩
    obtain rfl : z0 = 0 := Subsingleton.elim _ _
    show out0_5 (F := Ideal) (iblk m c 0 t) (iblk m c 1 t) (iblk m c 2 t) (iblk m c 3 t) (iblk m c 4 t) (ix3 0 r j) = _
    refine (ProjKernel.qa_block (iblk m c 0 t) (iblk m c 1 t) (iblk m c 2 t) (iblk m c 3 t) (iblk m c 4 t) r j).trans ?_
    simp only [ProjKernel.bcol, rows_block, mod_block, gain_block, weights_block, gains_block0]
    rw [View.read_apply]
    have hi : (((cfg0.win 5).blk t).view.emb (ix3 0 r j) : S4x4096x512.Idx) = ix3 (bat t) (row t r) j := by
      funext a
      apply Fin.ext
      have h := qa_index t
      match a with
      | ⟨0, _⟩ => show win0_5.index t 0 * 1 + 1 * 0 = t.val / 4; rw [h.1]; omega
      | ⟨1, _⟩ => show win0_5.index t 1 * 1024 + 1 * r.val = t.val % 4 * 1024 + r.val; rw [h.2.1]; omega
      | ⟨2, _⟩ => show win0_5.index t 2 * 512 + 1 * j.val = j.val; rw [h.2.2]; omega
    exact (congrArg (rowsOf (qa (m ((c : Thread nD τ).loc main_arg0)) (m ((c : Thread nD τ).loc main_arg1)) (m ((c : Thread nD τ).loc main_arg2)) (m ((c : Thread nD τ).loc main_arg3)) (m ((c : Thread nD τ).loc main_arg4)))) hi).symm
  · intro i
    have h0 : (i 0).val < 4 := (i 0).isLt
    have h1 : (i 1).val < 4096 := (i 1).isLt
    have h2 : (i 2).val < 512 := (i 2).isLt
    let t : Fin cfg0.N := ⟨(i 0).val * 4 + (i 1).val / 1024, (by omega : (i 0).val * 4 + (i 1).val / 1024 < 16)⟩
    have h := qa_index t
    have ht : t.val = (i 0).val * 4 + (i 1).val / 1024 := rfl
    refine ⟨t, flush0_5 t, ?_⟩
    show i ∈ ((View.whole main_v33_0).slice (win0_5.rect t)).set
    rw [View.set_slice_whole, Rect.mem_set_unit]
    intro a
    match a with
    | ⟨0, _⟩ => show win0_5.index t 0 * 1 ≤ (i 0).val ∧ (i 0).val < win0_5.index t 0 * 1 + 1; rw [h.1]; omega
    | ⟨1, _⟩ => show win0_5.index t 1 * 1024 ≤ (i 1).val ∧ (i 1).val < win0_5.index t 1 * 1024 + 1024; rw [h.2.1]; omega
    | ⟨2, _⟩ => show win0_5.index t 2 * 512 ≤ (i 2).val ∧ (i 2).val < win0_5.index t 2 * 512 + 512; rw [h.2.2]; omega

theorem ka_array (c : Dev nD) :
    (dats m 0 c).arrAt 6 cfg0.N = rowsOf (ka (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_cover 6 _ ?_ ?_
  · intro t _
    rw [Value.flushed6]
    funext z
    obtain ⟨z0, r, j, rfl⟩ : ∃ (z0 : Fin 1) (r : Fin 1024) (j : Fin 512), z = ix3 z0 r j := ⟨z 0, z 1, z 2, by
      funext a; match a with | ⟨0, _⟩ => rfl | ⟨1, _⟩ => rfl | ⟨2, _⟩ => rfl⟩
    obtain rfl : z0 = 0 := Subsingleton.elim _ _
    show out0_6 (F := Ideal) (iblk m c 0 t) (iblk m c 1 t) (iblk m c 2 t) (iblk m c 3 t) (iblk m c 4 t) (ix3 0 r j) = _
    refine (ProjKernel.ka_block (iblk m c 0 t) (iblk m c 1 t) (iblk m c 2 t) (iblk m c 3 t) (iblk m c 4 t) r j).trans ?_
    simp only [ProjKernel.bcol, rows_block, mod_block, gain_block, weights_block, gains_block1]
    rw [View.read_apply]
    have hi : (((cfg0.win 6).blk t).view.emb (ix3 0 r j) : S4x4096x512.Idx) = ix3 (bat t) (row t r) j := by
      funext a
      apply Fin.ext
      have h := ka_index t
      match a with
      | ⟨0, _⟩ => show win0_6.index t 0 * 1 + 1 * 0 = t.val / 4; rw [h.1]; omega
      | ⟨1, _⟩ => show win0_6.index t 1 * 1024 + 1 * r.val = t.val % 4 * 1024 + r.val; rw [h.2.1]; omega
      | ⟨2, _⟩ => show win0_6.index t 2 * 512 + 1 * j.val = j.val; rw [h.2.2]; omega
    exact (congrArg (rowsOf (ka (m ((c : Thread nD τ).loc main_arg0)) (m ((c : Thread nD τ).loc main_arg1)) (m ((c : Thread nD τ).loc main_arg2)) (m ((c : Thread nD τ).loc main_arg3)) (m ((c : Thread nD τ).loc main_arg4)))) hi).symm
  · intro i
    have h0 : (i 0).val < 4 := (i 0).isLt
    have h1 : (i 1).val < 4096 := (i 1).isLt
    have h2 : (i 2).val < 512 := (i 2).isLt
    let t : Fin cfg0.N := ⟨(i 0).val * 4 + (i 1).val / 1024, (by omega : (i 0).val * 4 + (i 1).val / 1024 < 16)⟩
    have h := ka_index t
    have ht : t.val = (i 0).val * 4 + (i 1).val / 1024 := rfl
    refine ⟨t, flush0_6 t, ?_⟩
    show i ∈ ((View.whole main_v33_1).slice (win0_6.rect t)).set
    rw [View.set_slice_whole, Rect.mem_set_unit]
    intro a
    match a with
    | ⟨0, _⟩ => show win0_6.index t 0 * 1 ≤ (i 0).val ∧ (i 0).val < win0_6.index t 0 * 1 + 1; rw [h.1]; omega
    | ⟨1, _⟩ => show win0_6.index t 1 * 1024 ≤ (i 1).val ∧ (i 1).val < win0_6.index t 1 * 1024 + 1024; rw [h.2.1]; omega
    | ⟨2, _⟩ => show win0_6.index t 2 * 512 ≤ (i 2).val ∧ (i 2).val < win0_6.index t 2 * 512 + 512; rw [h.2.2]; omega

theorem va_array (c : Dev nD) :
    (dats m 0 c).arrAt 7 cfg0.N = rowsOf (va (m ((c : Thread nD τ).loc main_arg0)) (m ((c : Thread nD τ).loc main_arg1)) (m ((c : Thread nD τ).loc main_arg2)) (m ((c : Thread nD τ).loc main_arg3))) := by
  refine (dats m 0 c).arrAt_eq_of_cover 7 _ ?_ ?_
  · intro t _
    rw [Value.flushed7]
    funext z
    obtain ⟨z0, r, j, rfl⟩ : ∃ (z0 : Fin 1) (r : Fin 1024) (j : Fin 512), z = ix3 z0 r j := ⟨z 0, z 1, z 2, by
      funext a; match a with | ⟨0, _⟩ => rfl | ⟨1, _⟩ => rfl | ⟨2, _⟩ => rfl⟩
    obtain rfl : z0 = 0 := Subsingleton.elim _ _
    show out0_7 (F := Ideal) (iblk m c 0 t) (iblk m c 1 t) (iblk m c 2 t) (iblk m c 3 t) (iblk m c 4 t) (ix3 0 r j) = _
    refine (ProjKernel.va_block (iblk m c 0 t) (iblk m c 1 t) (iblk m c 2 t) (iblk m c 3 t) (iblk m c 4 t) r j).trans ?_
    simp only [ProjKernel.bcol, rows_block, mod_block, gain_block, weights_block]
    rw [View.read_apply]
    have hi : (((cfg0.win 7).blk t).view.emb (ix3 0 r j) : S4x4096x512.Idx) = ix3 (bat t) (row t r) j := by
      funext a
      apply Fin.ext
      have h := va_index t
      match a with
      | ⟨0, _⟩ => show win0_7.index t 0 * 1 + 1 * 0 = t.val / 4; rw [h.1]; omega
      | ⟨1, _⟩ => show win0_7.index t 1 * 1024 + 1 * r.val = t.val % 4 * 1024 + r.val; rw [h.2.1]; omega
      | ⟨2, _⟩ => show win0_7.index t 2 * 512 + 1 * j.val = j.val; rw [h.2.2]; omega
    exact (congrArg (rowsOf (va (m ((c : Thread nD τ).loc main_arg0)) (m ((c : Thread nD τ).loc main_arg1)) (m ((c : Thread nD τ).loc main_arg2)) (m ((c : Thread nD τ).loc main_arg3)))) hi).symm
  · intro i
    have h0 : (i 0).val < 4 := (i 0).isLt
    have h1 : (i 1).val < 4096 := (i 1).isLt
    have h2 : (i 2).val < 512 := (i 2).isLt
    let t : Fin cfg0.N := ⟨(i 0).val * 4 + (i 1).val / 1024, (by omega : (i 0).val * 4 + (i 1).val / 1024 < 16)⟩
    have h := va_index t
    have ht : t.val = (i 0).val * 4 + (i 1).val / 1024 := rfl
    refine ⟨t, flush0_7 t, ?_⟩
    show i ∈ ((View.whole main_v33_2).slice (win0_7.rect t)).set
    rw [View.set_slice_whole, Rect.mem_set_unit]
    intro a
    match a with
    | ⟨0, _⟩ => show win0_7.index t 0 * 1 ≤ (i 0).val ∧ (i 0).val < win0_7.index t 0 * 1 + 1; rw [h.1]; omega
    | ⟨1, _⟩ => show win0_7.index t 1 * 1024 ≤ (i 1).val ∧ (i 1).val < win0_7.index t 1 * 1024 + 1024; rw [h.2.1]; omega
    | ⟨2, _⟩ => show win0_7.index t 2 * 512 ≤ (i 2).val ∧ (i 2).val < win0_7.index t 2 * 512 + 512; rw [h.2.2]; omega

theorem qb_array (c : Dev nD) :
    (dats m 0 c).arrAt 8 cfg0.N = colsOf (qb (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_cover 8 _ ?_ ?_
  · intro t _
    rw [Value.flushed8]
    funext z
    obtain ⟨z0, r, j, rfl⟩ : ∃ (z0 : Fin 1) (r : Fin 512) (j : Fin 1024), z = ix3 z0 r j := ⟨z 0, z 1, z 2, by
      funext a; match a with | ⟨0, _⟩ => rfl | ⟨1, _⟩ => rfl | ⟨2, _⟩ => rfl⟩
    obtain rfl : z0 = 0 := Subsingleton.elim _ _
    show out0_8 (F := Ideal) (iblk m c 0 t) (iblk m c 1 t) (iblk m c 2 t) (iblk m c 3 t) (iblk m c 4 t) (ix3 0 r j) = _
    refine (ProjKernel.qb_block (iblk m c 0 t) (iblk m c 1 t) (iblk m c 2 t) (iblk m c 3 t) (iblk m c 4 t) j r).trans ?_
    simp only [ProjKernel.bcol, rows_block, mod_block, gain_block, weights_block, gains_block2]
    rw [View.read_apply]
    have hi : (((cfg0.win 8).blk t).view.emb (ix3 0 r j) : S4x512x4096.Idx) = ix3 (bat t) r (row t j) := by
      funext a
      apply Fin.ext
      have h := qb_index t
      match a with
      | ⟨0, _⟩ => show win0_8.index t 0 * 1 + 1 * 0 = t.val / 4; rw [h.1]; omega
      | ⟨1, _⟩ => show win0_8.index t 1 * 512 + 1 * r.val = r.val; rw [h.2.1]; omega
      | ⟨2, _⟩ => show win0_8.index t 2 * 1024 + 1 * j.val = t.val % 4 * 1024 + j.val; rw [h.2.2]; omega
    exact (congrArg (colsOf (qb (m ((c : Thread nD τ).loc main_arg0)) (m ((c : Thread nD τ).loc main_arg1)) (m ((c : Thread nD τ).loc main_arg2)) (m ((c : Thread nD τ).loc main_arg3)) (m ((c : Thread nD τ).loc main_arg4)))) hi).symm
  · intro i
    have h0 : (i 0).val < 4 := (i 0).isLt
    have h1 : (i 1).val < 512 := (i 1).isLt
    have h2 : (i 2).val < 4096 := (i 2).isLt
    let t : Fin cfg0.N := ⟨(i 0).val * 4 + (i 2).val / 1024, (by omega : (i 0).val * 4 + (i 2).val / 1024 < 16)⟩
    have h := qb_index t
    have ht : t.val = (i 0).val * 4 + (i 2).val / 1024 := rfl
    refine ⟨t, flush0_8 t, ?_⟩
    show i ∈ ((View.whole main_v33_3).slice (win0_8.rect t)).set
    rw [View.set_slice_whole, Rect.mem_set_unit]
    intro a
    match a with
    | ⟨0, _⟩ => show win0_8.index t 0 * 1 ≤ (i 0).val ∧ (i 0).val < win0_8.index t 0 * 1 + 1; rw [h.1]; omega
    | ⟨1, _⟩ => show win0_8.index t 1 * 512 ≤ (i 1).val ∧ (i 1).val < win0_8.index t 1 * 512 + 512; rw [h.2.1]; omega
    | ⟨2, _⟩ => show win0_8.index t 2 * 1024 ≤ (i 2).val ∧ (i 2).val < win0_8.index t 2 * 1024 + 1024; rw [h.2.2]; omega

theorem kb_array (c : Dev nD) :
    (dats m 0 c).arrAt 9 cfg0.N = rowsOf (kb (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_cover 9 _ ?_ ?_
  · intro t _
    rw [Value.flushed9]
    funext z
    obtain ⟨z0, r, j, rfl⟩ : ∃ (z0 : Fin 1) (r : Fin 1024) (j : Fin 512), z = ix3 z0 r j := ⟨z 0, z 1, z 2, by
      funext a; match a with | ⟨0, _⟩ => rfl | ⟨1, _⟩ => rfl | ⟨2, _⟩ => rfl⟩
    obtain rfl : z0 = 0 := Subsingleton.elim _ _
    show out0_9 (F := Ideal) (iblk m c 0 t) (iblk m c 1 t) (iblk m c 2 t) (iblk m c 3 t) (iblk m c 4 t) (ix3 0 r j) = _
    refine (ProjKernel.kb_block (iblk m c 0 t) (iblk m c 1 t) (iblk m c 2 t) (iblk m c 3 t) (iblk m c 4 t) r j).trans ?_
    simp only [ProjKernel.bcol, rows_block, mod_block, gain_block, weights_block, gains_block3]
    rw [View.read_apply]
    have hi : (((cfg0.win 9).blk t).view.emb (ix3 0 r j) : S4x4096x512.Idx) = ix3 (bat t) (row t r) j := by
      funext a
      apply Fin.ext
      have h := kb_index t
      match a with
      | ⟨0, _⟩ => show win0_9.index t 0 * 1 + 1 * 0 = t.val / 4; rw [h.1]; omega
      | ⟨1, _⟩ => show win0_9.index t 1 * 1024 + 1 * r.val = t.val % 4 * 1024 + r.val; rw [h.2.1]; omega
      | ⟨2, _⟩ => show win0_9.index t 2 * 512 + 1 * j.val = j.val; rw [h.2.2]; omega
    exact (congrArg (rowsOf (kb (m ((c : Thread nD τ).loc main_arg0)) (m ((c : Thread nD τ).loc main_arg1)) (m ((c : Thread nD τ).loc main_arg2)) (m ((c : Thread nD τ).loc main_arg3)) (m ((c : Thread nD τ).loc main_arg4)))) hi).symm
  · intro i
    have h0 : (i 0).val < 4 := (i 0).isLt
    have h1 : (i 1).val < 4096 := (i 1).isLt
    have h2 : (i 2).val < 512 := (i 2).isLt
    let t : Fin cfg0.N := ⟨(i 0).val * 4 + (i 1).val / 1024, (by omega : (i 0).val * 4 + (i 1).val / 1024 < 16)⟩
    have h := kb_index t
    have ht : t.val = (i 0).val * 4 + (i 1).val / 1024 := rfl
    refine ⟨t, flush0_9 t, ?_⟩
    show i ∈ ((View.whole main_v33_4).slice (win0_9.rect t)).set
    rw [View.set_slice_whole, Rect.mem_set_unit]
    intro a
    match a with
    | ⟨0, _⟩ => show win0_9.index t 0 * 1 ≤ (i 0).val ∧ (i 0).val < win0_9.index t 0 * 1 + 1; rw [h.1]; omega
    | ⟨1, _⟩ => show win0_9.index t 1 * 1024 ≤ (i 1).val ∧ (i 1).val < win0_9.index t 1 * 1024 + 1024; rw [h.2.1]; omega
    | ⟨2, _⟩ => show win0_9.index t 2 * 512 ≤ (i 2).val ∧ (i 2).val < win0_9.index t 2 * 512 + 512; rw [h.2.2]; omega

theorem vb_array (c : Dev nD) :
    (dats m 0 c).arrAt 10 cfg0.N = colsOf (vb (m ((c : Thread nD τ).loc main_arg0)) (m ((c : Thread nD τ).loc main_arg1)) (m ((c : Thread nD τ).loc main_arg2)) (m ((c : Thread nD τ).loc main_arg3))) := by
  refine (dats m 0 c).arrAt_eq_of_cover 10 _ ?_ ?_
  · intro t _
    rw [Value.flushed10]
    funext z
    obtain ⟨z0, r, j, rfl⟩ : ∃ (z0 : Fin 1) (r : Fin 512) (j : Fin 1024), z = ix3 z0 r j := ⟨z 0, z 1, z 2, by
      funext a; match a with | ⟨0, _⟩ => rfl | ⟨1, _⟩ => rfl | ⟨2, _⟩ => rfl⟩
    obtain rfl : z0 = 0 := Subsingleton.elim _ _
    show out0_10 (F := Ideal) (iblk m c 0 t) (iblk m c 1 t) (iblk m c 2 t) (iblk m c 3 t) (iblk m c 4 t) (ix3 0 r j) = _
    refine (ProjKernel.vb_block (iblk m c 0 t) (iblk m c 1 t) (iblk m c 2 t) (iblk m c 3 t) (iblk m c 4 t) j r).trans ?_
    simp only [ProjKernel.bcol, rows_block, mod_block, gain_block, weights_block]
    rw [View.read_apply]
    have hi : (((cfg0.win 10).blk t).view.emb (ix3 0 r j) : S4x512x4096.Idx) = ix3 (bat t) r (row t j) := by
      funext a
      apply Fin.ext
      have h := vb_index t
      match a with
      | ⟨0, _⟩ => show win0_10.index t 0 * 1 + 1 * 0 = t.val / 4; rw [h.1]; omega
      | ⟨1, _⟩ => show win0_10.index t 1 * 512 + 1 * r.val = r.val; rw [h.2.1]; omega
      | ⟨2, _⟩ => show win0_10.index t 2 * 1024 + 1 * j.val = t.val % 4 * 1024 + j.val; rw [h.2.2]; omega
    exact (congrArg (colsOf (vb (m ((c : Thread nD τ).loc main_arg0)) (m ((c : Thread nD τ).loc main_arg1)) (m ((c : Thread nD τ).loc main_arg2)) (m ((c : Thread nD τ).loc main_arg3)))) hi).symm
  · intro i
    have h0 : (i 0).val < 4 := (i 0).isLt
    have h1 : (i 1).val < 512 := (i 1).isLt
    have h2 : (i 2).val < 4096 := (i 2).isLt
    let t : Fin cfg0.N := ⟨(i 0).val * 4 + (i 2).val / 1024, (by omega : (i 0).val * 4 + (i 2).val / 1024 < 16)⟩
    have h := vb_index t
    have ht : t.val = (i 0).val * 4 + (i 2).val / 1024 := rfl
    refine ⟨t, flush0_10 t, ?_⟩
    show i ∈ ((View.whole main_v33_5).slice (win0_10.rect t)).set
    rw [View.set_slice_whole, Rect.mem_set_unit]
    intro a
    match a with
    | ⟨0, _⟩ => show win0_10.index t 0 * 1 ≤ (i 0).val ∧ (i 0).val < win0_10.index t 0 * 1 + 1; rw [h.1]; omega
    | ⟨1, _⟩ => show win0_10.index t 1 * 512 ≤ (i 1).val ∧ (i 1).val < win0_10.index t 1 * 512 + 512; rw [h.2.1]; omega
    | ⟨2, _⟩ => show win0_10.index t 2 * 1024 ≤ (i 2).val ∧ (i 2).val < win0_10.index t 2 * 1024 + 1024; rw [h.2.2]; omega

theorem u_array (c : Dev nD) :
    (dats m 0 c).arrAt 11 cfg0.N = rowsOf (gated (m ((c : Thread nD τ).loc main_arg0)) (m ((c : Thread nD τ).loc main_arg1)) (m ((c : Thread nD τ).loc main_arg2)) (m ((c : Thread nD τ).loc main_arg3))) := by
  refine (dats m 0 c).arrAt_eq_of_cover 11 _ ?_ ?_
  · intro t _
    rw [Value.flushed11]
    funext z
    obtain ⟨z0, r, j, rfl⟩ : ∃ (z0 : Fin 1) (r : Fin 1024) (j : Fin 512), z = ix3 z0 r j := ⟨z 0, z 1, z 2, by
      funext a; match a with | ⟨0, _⟩ => rfl | ⟨1, _⟩ => rfl | ⟨2, _⟩ => rfl⟩
    obtain rfl : z0 = 0 := Subsingleton.elim _ _
    show out0_11 (F := Ideal) (iblk m c 0 t) (iblk m c 1 t) (iblk m c 2 t) (iblk m c 3 t) (iblk m c 4 t) (ix3 0 r j) = _
    refine (ProjKernel.u_block (iblk m c 0 t) (iblk m c 1 t) (iblk m c 2 t) (iblk m c 3 t) (iblk m c 4 t) r j).trans ?_
    simp only [ProjKernel.bcol, rows_block, mod_block, gain_block, weights_block]
    rw [View.read_apply]
    have hi : (((cfg0.win 11).blk t).view.emb (ix3 0 r j) : S4x4096x512.Idx) = ix3 (bat t) (row t r) j := by
      funext a
      apply Fin.ext
      have h := u_index t
      match a with
      | ⟨0, _⟩ => show win0_11.index t 0 * 1 + 1 * 0 = t.val / 4; rw [h.1]; omega
      | ⟨1, _⟩ => show win0_11.index t 1 * 1024 + 1 * r.val = t.val % 4 * 1024 + r.val; rw [h.2.1]; omega
      | ⟨2, _⟩ => show win0_11.index t 2 * 512 + 1 * j.val = j.val; rw [h.2.2]; omega
    exact (congrArg (rowsOf (gated (m ((c : Thread nD τ).loc main_arg0)) (m ((c : Thread nD τ).loc main_arg1)) (m ((c : Thread nD τ).loc main_arg2)) (m ((c : Thread nD τ).loc main_arg3)))) hi).symm
  · intro i
    have h0 : (i 0).val < 4 := (i 0).isLt
    have h1 : (i 1).val < 4096 := (i 1).isLt
    have h2 : (i 2).val < 512 := (i 2).isLt
    let t : Fin cfg0.N := ⟨(i 0).val * 4 + (i 1).val / 1024, (by omega : (i 0).val * 4 + (i 1).val / 1024 < 16)⟩
    have h := u_index t
    have ht : t.val = (i 0).val * 4 + (i 1).val / 1024 := rfl
    refine ⟨t, flush0_11 t, ?_⟩
    show i ∈ ((View.whole main_v33_6).slice (win0_11.rect t)).set
    rw [View.set_slice_whole, Rect.mem_set_unit]
    intro a
    match a with
    | ⟨0, _⟩ => show win0_11.index t 0 * 1 ≤ (i 0).val ∧ (i 0).val < win0_11.index t 0 * 1 + 1; rw [h.1]; omega
    | ⟨1, _⟩ => show win0_11.index t 1 * 1024 ≤ (i 1).val ∧ (i 1).val < win0_11.index t 1 * 1024 + 1024; rw [h.2.1]; omega
    | ⟨2, _⟩ => show win0_11.index t 2 * 512 ≤ (i 2).val ∧ (i 2).val < win0_11.index t 2 * 512 + 512; rw [h.2.2]; omega

end Cert.ProjArray

end
-- ==== Proof.ProjRef.lean ====
/-
  The reference's projections, read index by index as the functions of one row.
-/
module

public import proofs.«01_k».proof.Defs
public import proofs.«01_k».proof.Proof.Gen.Reference3Ideal.Read
public import proofs.«01_k».proof.Proof.ProjArray
public import Idealize.ShloMosaic.Lib.Pointwise

@[expose] public section

set_option maxRecDepth 16384

noncomputable section

namespace Cert.ProjRef

open Cert.Reference3Ideal Cert.Reference3Ideal.Read Idealize.ShloMosaic Idealize.ShloMosaic.TcCoe Idealize.SL.Sem

variable (x0 : (⟨S4x4096x1024, .f32⟩ : BufTy).Contents (Elt Ideal)) (x1 : (⟨S4x9x1024, .f32⟩ : BufTy).Contents (Elt Ideal))
    (x2 : (⟨S1024, .f32⟩ : BufTy).Contents (Elt Ideal)) (x3 : (⟨S2x1024x4096, .f32⟩ : BufTy).Contents (Elt Ideal))
    (x4 : (⟨S6x64, .f32⟩ : BufTy).Contents (Elt Ideal))

/-- The product with the input weights at one index. -/
theorem product_apply (b : Fin 4) (s n : Fin 4096) :
    val_main_v27 (F := Ideal) x0 x1 x2 x3 (ix3 b s n)
      = ∑ k, Ffn.normMod (fun k => x0 (ix3 b s k)) (fun k => x2 (ix1 k)) (fun k => x1 (ix3 b 3 k)) (fun k => x1 (ix3 b 4 k)) k * x3 (ix3 0 k n) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_cst_2, val_main_v16, val_main_v17, val_main_v18, val_main_v19, val_main_v20, val_main_v21, val_main_v22, val_main_v23, val_main_v24, val_main_v25, val_main_v26, val_main_v27, Ffn.normMod]

theorem group0_apply (b : Fin 4) (s : Fin 4096) (c : Fin 512) :
    val_main_v28 (F := Ideal) x0 x1 x2 x3 (ix3 b s c) = ProjArray.group x0 x1 x2 x3 b s 0 c := by
  rw [val_main_v28_apply]
  have hi : idx_main_v28 (ix3 b s c) = ix3 b s (⟨((0 : Fin 8) : ℕ) * 512 + c.val, by show 0 * 512 + c.val < 4096; omega⟩ : Fin 4096) := by
    funext a
    match a with
    | ⟨0, _⟩ => rfl
    | ⟨1, _⟩ => rfl
    | ⟨2, _⟩ => exact Fin.ext (by show c.val = 0 * 512 + c.val; omega)
  rw [hi, product_apply]
  rfl

theorem group1_apply (b : Fin 4) (s : Fin 4096) (c : Fin 512) :
    val_main_v29 (F := Ideal) x0 x1 x2 x3 (ix3 b s c) = ProjArray.group x0 x1 x2 x3 b s 1 c := by
  rw [val_main_v29_apply]
  have hi : idx_main_v29 (ix3 b s c) = ix3 b s (⟨((1 : Fin 8) : ℕ) * 512 + c.val, by show 1 * 512 + c.val < 4096; omega⟩ : Fin 4096) := by
    funext a
    match a with
    | ⟨0, _⟩ => rfl
    | ⟨1, _⟩ => rfl
    | ⟨2, _⟩ => exact Fin.ext (by show 512 + c.val = 1 * 512 + c.val; omega)
  rw [hi, product_apply]
  rfl

theorem group2_apply (b : Fin 4) (s : Fin 4096) (c : Fin 512) :
    val_main_v30 (F := Ideal) x0 x1 x2 x3 (ix3 b s c) = ProjArray.group x0 x1 x2 x3 b s 2 c := by
  rw [val_main_v30_apply]
  have hi : idx_main_v30 (ix3 b s c) = ix3 b s (⟨((2 : Fin 8) : ℕ) * 512 + c.val, by show 2 * 512 + c.val < 4096; omega⟩ : Fin 4096) := by
    funext a
    match a with
    | ⟨0, _⟩ => rfl
    | ⟨1, _⟩ => rfl
    | ⟨2, _⟩ => exact Fin.ext (by show 1024 + c.val = 2 * 512 + c.val; omega)
  rw [hi, product_apply]
  rfl

theorem group3_apply (b : Fin 4) (s : Fin 4096) (c : Fin 512) :
    val_main_v31 (F := Ideal) x0 x1 x2 x3 (ix3 b s c) = ProjArray.group x0 x1 x2 x3 b s 3 c := by
  rw [val_main_v31_apply]
  have hi : idx_main_v31 (ix3 b s c) = ix3 b s (⟨((3 : Fin 8) : ℕ) * 512 + c.val, by show 3 * 512 + c.val < 4096; omega⟩ : Fin 4096) := by
    funext a
    match a with
    | ⟨0, _⟩ => rfl
    | ⟨1, _⟩ => rfl
    | ⟨2, _⟩ => exact Fin.ext (by show 1536 + c.val = 3 * 512 + c.val; omega)
  rw [hi, product_apply]
  rfl

theorem group4_apply (b : Fin 4) (s : Fin 4096) (c : Fin 512) :
    val_main_v32 (F := Ideal) x0 x1 x2 x3 (ix3 b s c) = ProjArray.group x0 x1 x2 x3 b s 4 c := by
  rw [val_main_v32_apply]
  have hi : idx_main_v32 (ix3 b s c) = ix3 b s (⟨((4 : Fin 8) : ℕ) * 512 + c.val, by show 4 * 512 + c.val < 4096; omega⟩ : Fin 4096) := by
    funext a
    match a with
    | ⟨0, _⟩ => rfl
    | ⟨1, _⟩ => rfl
    | ⟨2, _⟩ => exact Fin.ext (by show 2048 + c.val = 4 * 512 + c.val; omega)
  rw [hi, product_apply]
  rfl

theorem group5_apply (b : Fin 4) (s : Fin 4096) (c : Fin 512) :
    val_main_v33 (F := Ideal) x0 x1 x2 x3 (ix3 b s c) = ProjArray.group x0 x1 x2 x3 b s 5 c := by
  rw [val_main_v33_apply]
  have hi : idx_main_v33 (ix3 b s c) = ix3 b s (⟨((5 : Fin 8) : ℕ) * 512 + c.val, by show 5 * 512 + c.val < 4096; omega⟩ : Fin 4096) := by
    funext a
    match a with
    | ⟨0, _⟩ => rfl
    | ⟨1, _⟩ => rfl
    | ⟨2, _⟩ => exact Fin.ext (by show 2560 + c.val = 5 * 512 + c.val; omega)
  rw [hi, product_apply]
  rfl

theorem group6_apply (b : Fin 4) (s : Fin 4096) (c : Fin 512) :
    val_main_v34 (F := Ideal) x0 x1 x2 x3 (ix3 b s c) = ProjArray.group x0 x1 x2 x3 b s 6 c := by
  rw [val_main_v34_apply]
  have hi : idx_main_v34 (ix3 b s c) = ix3 b s (⟨((6 : Fin 8) : ℕ) * 512 + c.val, by show 6 * 512 + c.val < 4096; omega⟩ : Fin 4096) := by
    funext a
    match a with
    | ⟨0, _⟩ => rfl
    | ⟨1, _⟩ => rfl
    | ⟨2, _⟩ => exact Fin.ext (by show 3072 + c.val = 6 * 512 + c.val; omega)
  rw [hi, product_apply]
  rfl

theorem group7_apply (b : Fin 4) (s : Fin 4096) (c : Fin 512) :
    val_main_v35 (F := Ideal) x0 x1 x2 x3 (ix3 b s c) = ProjArray.group x0 x1 x2 x3 b s 7 c := by
  rw [val_main_v35_apply]
  have hi : idx_main_v35 (ix3 b s c) = ix3 b s (⟨((7 : Fin 8) : ℕ) * 512 + c.val, by show 7 * 512 + c.val < 4096; omega⟩ : Fin 4096) := by
    funext a
    match a with
    | ⟨0, _⟩ => rfl
    | ⟨1, _⟩ => rfl
    | ⟨2, _⟩ => exact Fin.ext (by show 3584 + c.val = 7 * 512 + c.val; omega)
  rw [hi, product_apply]
  rfl

theorem lane_mk (h : Fin 8) (d k : Fin 64) : Proj.lane ⟨h.val * 64 + d.val, by omega⟩ k = ⟨h.val * 64 + k.val, by omega⟩ :=
  Fin.ext (by show (h.val * 64 + d.val) / 64 * 64 + k.val = h.val * 64 + k.val; omega)

theorem lane_mk2 (h : Fin 4) (e : Fin 2) (d k : Fin 64) : Proj.lane ⟨(h.val * 2 + e.val) * 64 + d.val, by omega⟩ k = ⟨(h.val * 2 + e.val) * 64 + k.val, by omega⟩ :=
  Fin.ext (by show ((h.val * 2 + e.val) * 64 + d.val) / 64 * 64 + k.val = (h.val * 2 + e.val) * 64 + k.val; omega)

theorem qa_split (b : Fin 4) (s : Fin 4096) (h : Fin 8) (d : Fin 64) :
    val_main_v36 (F := Ideal) x0 x1 x2 x3 (ix4 b s h d) = ProjArray.group x0 x1 x2 x3 b s 0 ⟨h.val * 64 + d.val, by omega⟩ := by
  rw [val_main_v36_apply]
  have hi : idx_main_v36 (ix4 b s h d) = ix3 b s (⟨h.val * 64 + d.val, by omega⟩ : Fin 512) := by
    funext a
    match a with
    | ⟨0, _⟩ => exact Fin.ext (by show (((b.val * 4096 + s.val) * 8 + h.val) * 64 + d.val) / 2097152 = b.val; omega)
    | ⟨1, _⟩ => exact Fin.ext (by show (((b.val * 4096 + s.val) * 8 + h.val) * 64 + d.val) / 512 % 4096 = s.val; omega)
    | ⟨2, _⟩ => exact Fin.ext (by show (((b.val * 4096 + s.val) * 8 + h.val) * 64 + d.val) % 512 = h.val * 64 + d.val; omega)
  rw [hi, group0_apply]

theorem qa_head (b : Fin 4) (s : Fin 4096) (h : Fin 8) (d : Fin 64) :
    val_main_v99 (F := Ideal) x0 x1 x2 x3 x4 (ix4 b s h d)
      = Proj.head (ProjArray.group x0 x1 x2 x3 b s 0) ⟨h.val * 64 + d.val, by omega⟩ * x4 (ix2 0 d) * Ideal.ofBits .f32 0x3E38AA3B#32 := by
  pointwise [val_main_v37, val_main_v38, val_main_v39, val_main_cst_3, val_main_v40, val_main_v41, val_main_cst_4, val_main_v42, val_main_v43, val_main_cst_5, val_main_v44, val_main_v45, val_main_v46, val_main_v47, val_main_v48, val_main_v49, val_main_v50, val_main_v51, val_main_cst_15, val_main_v98, val_main_v99, qa_split x0 x1 x2 x3]
  simp only [Proj.head, lane_mk]

theorem qa_flat (b : Fin 4) (s : Fin 4096) (c : Fin 512) :
    val_main_v102 (F := Ideal) x0 x1 x2 x3 x4 (ix3 b s c) = ProjArray.qa x0 x1 x2 x3 x4 b s c := by
  rw [val_main_v102_apply]
  have hi : idx_main_v102 (ix3 b s c) = ix4 b s (⟨c.val / 64, by omega⟩ : Fin 8) (⟨c.val % 64, by omega⟩ : Fin 64) := by
    funext a
    match a with
    | ⟨0, _⟩ => exact Fin.ext (by show ((b.val * 4096 + s.val) * 512 + c.val) / 2097152 = b.val; omega)
    | ⟨1, _⟩ => exact Fin.ext (by show ((b.val * 4096 + s.val) * 512 + c.val) / 512 % 4096 = s.val; omega)
    | ⟨2, _⟩ => exact Fin.ext (by show ((b.val * 4096 + s.val) * 512 + c.val) / 64 % 8 = c.val / 64; omega)
    | ⟨3, _⟩ => exact Fin.ext (by show ((b.val * 4096 + s.val) * 512 + c.val) % 64 = c.val % 64; omega)
  have hc : (⟨c.val / 64 * 64 + c.val % 64, by omega⟩ : Fin 512) = c := Fin.ext (by show c.val / 64 * 64 + c.val % 64 = c.val; omega)
  rw [hi, qa_head]
  show Proj.head (ProjArray.group x0 x1 x2 x3 b s 0) ⟨c.val / 64 * 64 + c.val % 64, _⟩ * _ * _ = _
  rw [hc]
  rfl

theorem ka_split (b : Fin 4) (s : Fin 4096) (h : Fin 8) (d : Fin 64) :
    val_main_v52 (F := Ideal) x0 x1 x2 x3 (ix4 b s h d) = ProjArray.group x0 x1 x2 x3 b s 1 ⟨h.val * 64 + d.val, by omega⟩ := by
  rw [val_main_v52_apply]
  have hi : idx_main_v52 (ix4 b s h d) = ix3 b s (⟨h.val * 64 + d.val, by omega⟩ : Fin 512) := by
    funext a
    match a with
    | ⟨0, _⟩ => exact Fin.ext (by show (((b.val * 4096 + s.val) * 8 + h.val) * 64 + d.val) / 2097152 = b.val; omega)
    | ⟨1, _⟩ => exact Fin.ext (by show (((b.val * 4096 + s.val) * 8 + h.val) * 64 + d.val) / 512 % 4096 = s.val; omega)
    | ⟨2, _⟩ => exact Fin.ext (by show (((b.val * 4096 + s.val) * 8 + h.val) * 64 + d.val) % 512 = h.val * 64 + d.val; omega)
  rw [hi, group1_apply]

theorem ka_head (b : Fin 4) (s : Fin 4096) (h : Fin 8) (d : Fin 64) :
    val_main_v67 (F := Ideal) x0 x1 x2 x3 x4 (ix4 b s h d)
      = Proj.head (ProjArray.group x0 x1 x2 x3 b s 1) ⟨h.val * 64 + d.val, by omega⟩ * x4 (ix2 1 d) := by
  pointwise [val_main_v53, val_main_v54, val_main_v55, val_main_cst_6, val_main_v56, val_main_v57, val_main_cst_7, val_main_v58, val_main_v59, val_main_cst_8, val_main_v60, val_main_v61, val_main_v62, val_main_v63, val_main_v64, val_main_v65, val_main_v66, val_main_v67, ka_split x0 x1 x2 x3]
  simp only [Proj.head, lane_mk]

theorem ka_flat (b : Fin 4) (s : Fin 4096) (c : Fin 512) :
    val_main_v103 (F := Ideal) x0 x1 x2 x3 x4 (ix3 b s c) = ProjArray.ka x0 x1 x2 x3 x4 b s c := by
  rw [val_main_v103_apply]
  have hi : idx_main_v103 (ix3 b s c) = ix4 b s (⟨c.val / 64, by omega⟩ : Fin 8) (⟨c.val % 64, by omega⟩ : Fin 64) := by
    funext a
    match a with
    | ⟨0, _⟩ => exact Fin.ext (by show ((b.val * 4096 + s.val) * 512 + c.val) / 2097152 = b.val; omega)
    | ⟨1, _⟩ => exact Fin.ext (by show ((b.val * 4096 + s.val) * 512 + c.val) / 512 % 4096 = s.val; omega)
    | ⟨2, _⟩ => exact Fin.ext (by show ((b.val * 4096 + s.val) * 512 + c.val) / 64 % 8 = c.val / 64; omega)
    | ⟨3, _⟩ => exact Fin.ext (by show ((b.val * 4096 + s.val) * 512 + c.val) % 64 = c.val % 64; omega)
  have hc : (⟨c.val / 64 * 64 + c.val % 64, by omega⟩ : Fin 512) = c := Fin.ext (by show c.val / 64 * 64 + c.val % 64 = c.val; omega)
  rw [hi, ka_head]
  show Proj.head (ProjArray.group x0 x1 x2 x3 b s 1) ⟨c.val / 64 * 64 + c.val % 64, _⟩ * _ = _
  rw [hc]
  rfl

theorem qb_split (b : Fin 4) (s : Fin 4096) (h : Fin 4) (e : Fin 2) (d : Fin 64) :
    val_main_v68 (F := Ideal) x0 x1 x2 x3 (ix5 b s h e d) = ProjArray.group x0 x1 x2 x3 b s 3 ⟨(h.val * 2 + e.val) * 64 + d.val, by omega⟩ := by
  rw [val_main_v68_apply]
  have hi : idx_main_v68 (ix5 b s h e d) = ix3 b s (⟨(h.val * 2 + e.val) * 64 + d.val, by omega⟩ : Fin 512) := by
    funext a
    match a with
    | ⟨0, _⟩ => exact Fin.ext (by show ((((b.val * 4096 + s.val) * 4 + h.val) * 2 + e.val) * 64 + d.val) / 2097152 = b.val; omega)
    | ⟨1, _⟩ => exact Fin.ext (by show ((((b.val * 4096 + s.val) * 4 + h.val) * 2 + e.val) * 64 + d.val) / 512 % 4096 = s.val; omega)
    | ⟨2, _⟩ => exact Fin.ext (by show ((((b.val * 4096 + s.val) * 4 + h.val) * 2 + e.val) * 64 + d.val) % 512 = (h.val * 2 + e.val) * 64 + d.val; omega)
  rw [hi, group3_apply]

theorem qb_head (b : Fin 4) (s : Fin 4096) (h : Fin 4) (e : Fin 2) (d : Fin 64) :
    val_main_v101 (F := Ideal) x0 x1 x2 x3 x4 (ix5 b s h e d)
      = Proj.head (ProjArray.group x0 x1 x2 x3 b s 3) ⟨(h.val * 2 + e.val) * 64 + d.val, by omega⟩ * x4 (ix2 (⟨2 + e.val, by omega⟩ : Fin 6) d) * Ideal.ofBits .f32 0x3E38AA3B#32 := by
  pointwise [val_main_v69, val_main_v70, val_main_cst_9, val_main_v71, val_main_v72, val_main_cst_10, val_main_v73, val_main_v74, val_main_cst_11, val_main_v75, val_main_v76, val_main_v77, val_main_v78, val_main_v79, val_main_v80, val_main_v81, val_main_v82, val_main_cst_16, val_main_v100, val_main_v101, qb_split x0 x1 x2 x3]
  simp only [Proj.head, lane_mk2]

theorem qb_flat (b : Fin 4) (s : Fin 4096) (c : Fin 512) :
    val_main_v104 (F := Ideal) x0 x1 x2 x3 x4 (ix3 b s c) = ProjArray.qb x0 x1 x2 x3 x4 b s c := by
  rw [val_main_v104_apply]
  have hi : idx_main_v104 (ix3 b s c) = ix5 b s (⟨c.val / 128, by omega⟩ : Fin 4) (⟨c.val / 64 % 2, by omega⟩ : Fin 2) (⟨c.val % 64, by omega⟩ : Fin 64) := by
    funext a
    match a with
    | ⟨0, _⟩ => exact Fin.ext (by show ((b.val * 4096 + s.val) * 512 + c.val) / 2097152 = b.val; omega)
    | ⟨1, _⟩ => exact Fin.ext (by show ((b.val * 4096 + s.val) * 512 + c.val) / 512 % 4096 = s.val; omega)
    | ⟨2, _⟩ => exact Fin.ext (by show ((b.val * 4096 + s.val) * 512 + c.val) / 128 % 4 = c.val / 128; omega)
    | ⟨3, _⟩ => exact Fin.ext (by show ((b.val * 4096 + s.val) * 512 + c.val) / 64 % 2 = c.val / 64 % 2; omega)
    | ⟨4, _⟩ => exact Fin.ext (by show ((b.val * 4096 + s.val) * 512 + c.val) % 64 = c.val % 64; omega)
  have hc : (⟨(c.val / 128 * 2 + c.val / 64 % 2) * 64 + c.val % 64, by omega⟩ : Fin 512) = c := Fin.ext (by show (c.val / 128 * 2 + c.val / 64 % 2) * 64 + c.val % 64 = c.val; omega)
  rw [hi, qb_head]
  show Proj.head (ProjArray.group x0 x1 x2 x3 b s 3) ⟨(c.val / 128 * 2 + c.val / 64 % 2) * 64 + c.val % 64, _⟩ * _ * _ = _
  rw [hc]
  rfl

theorem kb_split (b : Fin 4) (s : Fin 4096) (h : Fin 4) (e : Fin 2) (d : Fin 64) :
    val_main_v83 (F := Ideal) x0 x1 x2 x3 (ix5 b s h e d) = ProjArray.group x0 x1 x2 x3 b s 4 ⟨(h.val * 2 + e.val) * 64 + d.val, by omega⟩ := by
  rw [val_main_v83_apply]
  have hi : idx_main_v83 (ix5 b s h e d) = ix3 b s (⟨(h.val * 2 + e.val) * 64 + d.val, by omega⟩ : Fin 512) := by
    funext a
    match a with
    | ⟨0, _⟩ => exact Fin.ext (by show ((((b.val * 4096 + s.val) * 4 + h.val) * 2 + e.val) * 64 + d.val) / 2097152 = b.val; omega)
    | ⟨1, _⟩ => exact Fin.ext (by show ((((b.val * 4096 + s.val) * 4 + h.val) * 2 + e.val) * 64 + d.val) / 512 % 4096 = s.val; omega)
    | ⟨2, _⟩ => exact Fin.ext (by show ((((b.val * 4096 + s.val) * 4 + h.val) * 2 + e.val) * 64 + d.val) % 512 = (h.val * 2 + e.val) * 64 + d.val; omega)
  rw [hi, group4_apply]

theorem kb_head (b : Fin 4) (s : Fin 4096) (h : Fin 4) (e : Fin 2) (d : Fin 64) :
    val_main_v97 (F := Ideal) x0 x1 x2 x3 x4 (ix5 b s h e d)
      = Proj.head (ProjArray.group x0 x1 x2 x3 b s 4) ⟨(h.val * 2 + e.val) * 64 + d.val, by omega⟩ * x4 (ix2 (⟨4 + e.val, by omega⟩ : Fin 6) d) := by
  pointwise [val_main_v84, val_main_v85, val_main_cst_12, val_main_v86, val_main_v87, val_main_cst_13, val_main_v88, val_main_v89, val_main_cst_14, val_main_v90, val_main_v91, val_main_v92, val_main_v93, val_main_v94, val_main_v95, val_main_v96, val_main_v97, kb_split x0 x1 x2 x3]
  simp only [Proj.head, lane_mk2]

theorem kb_flat (b : Fin 4) (s : Fin 4096) (c : Fin 512) :
    val_main_v105 (F := Ideal) x0 x1 x2 x3 x4 (ix3 b s c) = ProjArray.kb x0 x1 x2 x3 x4 b s c := by
  rw [val_main_v105_apply]
  have hi : idx_main_v105 (ix3 b s c) = ix5 b s (⟨c.val / 128, by omega⟩ : Fin 4) (⟨c.val / 64 % 2, by omega⟩ : Fin 2) (⟨c.val % 64, by omega⟩ : Fin 64) := by
    funext a
    match a with
    | ⟨0, _⟩ => exact Fin.ext (by show ((b.val * 4096 + s.val) * 512 + c.val) / 2097152 = b.val; omega)
    | ⟨1, _⟩ => exact Fin.ext (by show ((b.val * 4096 + s.val) * 512 + c.val) / 512 % 4096 = s.val; omega)
    | ⟨2, _⟩ => exact Fin.ext (by show ((b.val * 4096 + s.val) * 512 + c.val) / 128 % 4 = c.val / 128; omega)
    | ⟨3, _⟩ => exact Fin.ext (by show ((b.val * 4096 + s.val) * 512 + c.val) / 64 % 2 = c.val / 64 % 2; omega)
    | ⟨4, _⟩ => exact Fin.ext (by show ((b.val * 4096 + s.val) * 512 + c.val) % 64 = c.val % 64; omega)
  have hc : (⟨(c.val / 128 * 2 + c.val / 64 % 2) * 64 + c.val % 64, by omega⟩ : Fin 512) = c := Fin.ext (by show (c.val / 128 * 2 + c.val / 64 % 2) * 64 + c.val % 64 = c.val; omega)
  rw [hi, kb_head]
  show Proj.head (ProjArray.group x0 x1 x2 x3 b s 4) ⟨(c.val / 128 * 2 + c.val / 64 % 2) * 64 + c.val % 64, _⟩ * _ = _
  rw [hc]
  rfl

theorem qa_eq : val_main_v106 (F := Ideal) x0 x1 x2 x3 x4 = ProjArray.rowsOf (ProjArray.qa x0 x1 x2 x3 x4) := by
  funext i
  obtain ⟨b, s, c, rfl⟩ : ∃ (b : Fin 4) (s : Fin 4096) (c : Fin 512), i = ix3 b s c := ⟨i 0, i 1, i 2, by
    funext a; match a with | ⟨0, _⟩ => rfl | ⟨1, _⟩ => rfl | ⟨2, _⟩ => rfl⟩
  exact qa_flat x0 x1 x2 x3 x4 b s c

theorem ka_eq : val_main_v107 (F := Ideal) x0 x1 x2 x3 x4 = ProjArray.rowsOf (ProjArray.ka x0 x1 x2 x3 x4) := by
  funext i
  obtain ⟨b, s, c, rfl⟩ : ∃ (b : Fin 4) (s : Fin 4096) (c : Fin 512), i = ix3 b s c := ⟨i 0, i 1, i 2, by
    funext a; match a with | ⟨0, _⟩ => rfl | ⟨1, _⟩ => rfl | ⟨2, _⟩ => rfl⟩
  exact ka_flat x0 x1 x2 x3 x4 b s c

theorem va_eq : val_main_v108 (F := Ideal) x0 x1 x2 x3 = ProjArray.rowsOf (ProjArray.va x0 x1 x2 x3) := by
  funext i
  obtain ⟨b, s, c, rfl⟩ : ∃ (b : Fin 4) (s : Fin 4096) (c : Fin 512), i = ix3 b s c := ⟨i 0, i 1, i 2, by
    funext a; match a with | ⟨0, _⟩ => rfl | ⟨1, _⟩ => rfl | ⟨2, _⟩ => rfl⟩
  exact group2_apply x0 x1 x2 x3 b s c

theorem qb_eq : val_main_v110 (F := Ideal) x0 x1 x2 x3 x4 = ProjArray.colsOf (ProjArray.qb x0 x1 x2 x3 x4) := by
  funext i
  obtain ⟨b, c, s, rfl⟩ : ∃ (b : Fin 4) (c : Fin 512) (s : Fin 4096), i = ix3 b c s := ⟨i 0, i 1, i 2, by
    funext a; match a with | ⟨0, _⟩ => rfl | ⟨1, _⟩ => rfl | ⟨2, _⟩ => rfl⟩
  refine (show val_main_v110 (F := Ideal) x0 x1 x2 x3 x4 (ix3 b c s) = val_main_v109 (F := Ideal) x0 x1 x2 x3 x4 (ix3 b c s) from rfl).trans ?_
  rw [val_main_v109_apply]
  have hi : idx_main_v109 (ix3 b c s) = ix3 b s c := by
    funext a
    match a with
    | ⟨0, _⟩ => rfl
    | ⟨1, _⟩ => rfl
    | ⟨2, _⟩ => rfl
  rw [hi]
  exact qb_flat x0 x1 x2 x3 x4 b s c

theorem kb_eq : val_main_v111 (F := Ideal) x0 x1 x2 x3 x4 = ProjArray.rowsOf (ProjArray.kb x0 x1 x2 x3 x4) := by
  funext i
  obtain ⟨b, s, c, rfl⟩ : ∃ (b : Fin 4) (s : Fin 4096) (c : Fin 512), i = ix3 b s c := ⟨i 0, i 1, i 2, by
    funext a; match a with | ⟨0, _⟩ => rfl | ⟨1, _⟩ => rfl | ⟨2, _⟩ => rfl⟩
  exact kb_flat x0 x1 x2 x3 x4 b s c

theorem vb_eq : val_main_v113 (F := Ideal) x0 x1 x2 x3 = ProjArray.colsOf (ProjArray.vb x0 x1 x2 x3) := by
  funext i
  obtain ⟨b, c, s, rfl⟩ : ∃ (b : Fin 4) (c : Fin 512) (s : Fin 4096), i = ix3 b c s := ⟨i 0, i 1, i 2, by
    funext a; match a with | ⟨0, _⟩ => rfl | ⟨1, _⟩ => rfl | ⟨2, _⟩ => rfl⟩
  refine (show val_main_v113 (F := Ideal) x0 x1 x2 x3 (ix3 b c s) = val_main_v112 (F := Ideal) x0 x1 x2 x3 (ix3 b c s) from rfl).trans ?_
  rw [val_main_v112_apply]
  have hi : idx_main_v112 (ix3 b c s) = ix3 b s c := by
    funext a
    match a with
    | ⟨0, _⟩ => rfl
    | ⟨1, _⟩ => rfl
    | ⟨2, _⟩ => rfl
  rw [hi]
  exact group5_apply x0 x1 x2 x3 b s c

theorem u_eq : val_main_v120 (F := Ideal) x0 x1 x2 x3 = ProjArray.rowsOf (ProjArray.gated x0 x1 x2 x3) := by
  funext i
  obtain ⟨b, s, c, rfl⟩ : ∃ (b : Fin 4) (s : Fin 4096) (c : Fin 512), i = ix3 b s c := ⟨i 0, i 1, i 2, by
    funext a; match a with | ⟨0, _⟩ => rfl | ⟨1, _⟩ => rfl | ⟨2, _⟩ => rfl⟩
  pointwise [val_main_v114, val_main_v115, val_main_cst_17, val_main_v116, val_main_v117, val_main_cst_18, val_main_v118, val_main_v119, val_main_v120, group6_apply x0 x1 x2 x3, group7_apply x0 x1 x2 x3]
  simp only [ProjArray.rowsOf, ProjArray.gated, Proj.gate, fun y : EReal => show 0 - y = -y by rw [sub_eq_add_neg, zero_add]]
  rfl

end Cert.ProjRef

end
-- ==== Proof.MergeModel.lean ====
/-
  The merge of the three branches as a function of one row, over the extended reals. The kernel's blocks and the
  reference are both read as this function.
-/
module

public import proofs.«01_k».proof.Proof.FfnModel

@[expose] public section

noncomputable section

namespace Cert.Merge

open Idealize.ShloMosaic

/-- One branch in one lane: its projection, times the sigmoid of the lane's gate. -/
def branch (h wg : Fin 1024 → EReal) (b : EReal) (y w : Fin 512 → EReal) : EReal :=
  Ideal.div 1 (1 + Ideal.exp (0 - ((∑ k, h k * wg k) + b))) * ∑ m, y m * w m

/-- The convolution in one lane: the 31 taps' products summed, plus the bias. -/
def conv (p w : Fin 31 → Fin 512 → EReal) (b : Fin 512 → EReal) (c : Fin 512) : EReal := (∑ t, p t c * w t c) + b c

/-- A row minus its mean, over its deviation, times a gain plus an offset. -/
def layerNorm (y g b : Fin 512 → EReal) (c : Fin 512) : EReal :=
  (y c - Ideal.div (∑ j, y j) (Ideal.ofBits .f32 0x44000000#32))
    * Ideal.rsqrt (Ideal.div (∑ j, (y j - Ideal.div (∑ j, y j) (Ideal.ofBits .f32 0x44000000#32)) * (y j - Ideal.div (∑ j, y j) (Ideal.ofBits .f32 0x44000000#32)))
        (Ideal.ofBits .f32 0x44000000#32) + Ideal.ofBits .f32 0x358637BD#32) * g c + b c

/-- The convolution branch in one lane: the convolution, layer-normalised, times its own sigmoid. -/
def third (y g b : Fin 512 → EReal) (c : Fin 512) : EReal := layerNorm y g b c * Ideal.div 1 (1 + Ideal.exp (0 - layerNorm y g b c))

/-- The rows before `s` that the convolution reads: row `s + t - 30`, zero before the first. -/
def before (u : Fin 4096 → Fin 512 → EReal) (s t : ℕ) (c : Fin 512) : EReal :=
  if h : 30 ≤ s + t ∧ s + t - 30 < 4096 then u ⟨s + t - 30, h.2⟩ c else 0

/-- One of three by number. -/
abbrev pick {α : Type} (a b c : α) (i : Fin 3) : α := match i with
  | ⟨0, _⟩ => a
  | ⟨1, _⟩ => b
  | ⟨2, _⟩ => c

/-- Lane `k` of branch `i`'s gates. -/
def lane (i : Fin 3) (k : Fin 1024) : Fin 3072 := ⟨i.val * 1024 + k.val, by omega⟩

/-- The three gated branches of a row, summed, in one lane. -/
def mixed (x : Fin 1024 → EReal) (md : Fin 9 → Fin 1024 → EReal) (g : Fin 1024 → EReal) (y : Fin 3 → Fin 512 → EReal)
    (wg : Fin 1024 → Fin 3072 → EReal) (bg : Fin 3072 → EReal) (wb : Fin 3 → Fin 512 → Fin 1024 → EReal) (k : Fin 1024) : EReal :=
  ∑ i, branch (Ffn.normMod x g (md 3) (md 4)) (fun j => wg j (lane i k)) (bg (lane i k)) (y i) (fun m => wb i m k)

/-- One element of the merge's result. -/
def out (x : Fin 1024 → EReal) (md : Fin 9 → Fin 1024 → EReal) (g : Fin 1024 → EReal) (y : Fin 3 → Fin 512 → EReal)
    (wg : Fin 1024 → Fin 3072 → EReal) (bg : Fin 3072 → EReal) (wb : Fin 3 → Fin 512 → Fin 1024 → EReal)
    (wo : Fin 1024 → Fin 1024 → EReal) (c : Fin 1024) : EReal :=
  x c + md 5 c * ∑ k, mixed x md g y wg bg wb k * wo k c

end Cert.Merge

end
-- ==== Proof.MergeKernel.lean ====
/-
  The merge's call: what one grid point computes, index by index.
-/
module

public import proofs.«01_k».proof.Defs
public import proofs.«01_k».proof.Proof.Gen.Kernel4Ideal.Value
public import proofs.«01_k».proof.Proof.MergeModel
public import Idealize.ShloMosaic.Lib.Pointwise
public import Idealize.ShloMosaic.Lib.MatmulPlain
public import Idealize.ShloMosaic.Lib.Pipeline.ValueKit

@[expose] public section

set_option maxRecDepth 16384

noncomputable section

namespace Cert.MergeKernel

open Cert.Kernel4Ideal Cert.Kernel4Ideal.Gen Idealize.ShloMosaic Idealize.ShloMosaic.TcCoe Idealize.SL.Sem

/-- The normed and modulated rows, at one index. -/
theorem rows_apply (x : Vec Ideal S1x512x1024 .f32) (g : Vec Ideal S1x1024 .f32) (a b : Vec Ideal S1x1x1024 .f32) (r : Fin 512) (c : Fin 1024) :
    k0_pay3 (F := Ideal) x g a b (ix2 r c)
      = Ffn.normMod (fun k => x (ix3 0 r k)) (fun k => g (ix2 0 k)) (fun k => a (ix3 0 0 k)) (fun k => b (ix3 0 0 k)) c := by
  pointwise [k0_pay3, k0_pay2, Ffn.normMod]

/-- The convolved rows with their bias, layer-normalised and times their sigmoid, at one index. -/
theorem third_apply (v : Vec Ideal S512x512 .f32) (b g l : Vec Ideal S1x512 .f32) (r c : Fin 512) :
    k0_pay61 (F := Ideal) (k0_pay58 v b g l) (k0_pay59 v b g l) k0_pay60 (ix2 r c)
      = Merge.third (fun k => v (ix2 r k) + b (ix2 0 k)) (fun k => g (ix2 0 k)) (fun k => l (ix2 0 k)) c := by
  pointwise [k0_pay61, k0_pay59, k0_pay58, k0_pay60, Merge.third, Merge.layerNorm]

/-- The three gated branches, at one index. -/
theorem mixed_apply (h : FVec Ideal S512x1024 .bf16) (w0 w1 w2 : Vec Ideal S1x1024x1024 .bf16) (b0 b1 b2 : Vec Ideal S1x1024 .f32)
    (y0 y1 : Vec Ideal S1x512x512 .bf16) (y2 : FVec Ideal S512x512 .bf16) (p0 p1 p2 : Vec Ideal S1x1x512x1024 .bf16) (r : Fin 512) (c : Fin 1024) :
    k0_pay66 (F := Ideal) h y2 (k0_pay62 y1) (k0_pay63 h y0 w0 b0 p0) (k0_pay64 h w1) (k0_pay65 b1) p1 w2 b2 p2 (ix2 r c)
      = Merge.branch (fun k => h (ix2 r k)) (fun k => w0 (ix3 0 k c)) (b0 (ix2 0 c)) (fun m => y0 (ix3 0 r m)) (fun m => p0 (ix4 0 0 m c))
        + Merge.branch (fun k => h (ix2 r k)) (fun k => w1 (ix3 0 k c)) (b1 (ix2 0 c)) (fun m => y1 (ix3 0 r m)) (fun m => p1 (ix4 0 0 m c))
        + Merge.branch (fun k => h (ix2 r k)) (fun k => w2 (ix3 0 k c)) (b2 (ix2 0 c)) (fun m => y2 (ix2 r m)) (fun m => p2 (ix4 0 0 m c)) := by
  pointwise [k0_pay66, k0_pay62, k0_pay63, k0_pay64, k0_pay65, Merge.branch]

/-- The output projection, and the gated sum with the rows, at one index. -/
theorem last_apply (x : FVec Ideal S512x1024 .f32) (u : FVec Ideal S512x1024 .bf16) (wo : Vec Ideal S1x1024x1024 .bf16) (g : Vec Ideal S1x1x1024 .f32)
    (r : Fin 512) (c : Fin 1024) :
    k0_pay1 (F := Ideal) x u (k0_pay67 wo) g (ix3 0 r c) = x (ix2 r c) + g (ix3 0 0 c) * ∑ k, u (ix2 r k) * wo (ix3 0 k c) := by
  pointwise [k0_pay1, k0_pay67]

/-- A branch whose weights were loaded from lane `o` of the gates and from matrix `n` of the projections. -/
theorem branch_at (h : Fin 1024 → EReal) (y : Fin 512 → EReal) (wg : Vec Ideal S1x1024x3072 .bf16) (bg : Vec Ideal S1x3072 .f32) (wb : Vec Ideal S1x3x512x1024 .bf16)
    (i : Fin 3) (o n : ℕ) (ho : o = i.val * 1024) (hn : n = i.val) (i0 i1 i2) (k : Fin 1024) :
    Merge.branch h (fun j => View.ld wg (Rect.unit (s := S1x1024x3072) ![0, 0, o] S1x1024x1024.size i0) (ix3 0 j k))
        (View.ld bg (Rect.unit (s := S1x3072) ![0, o] S1x1024.size i1) (ix2 0 k)) y
        (fun m => View.ld wb (Rect.unit (s := S1x3x512x1024) ![0, n, 0, 0] S1x1x512x1024.size i2) (ix4 0 0 m k))
      = Merge.branch h (fun j => wg (ix3 0 j (Merge.lane i k))) (bg (ix2 0 (Merge.lane i k))) y (fun m => wb (ix4 0 i m k)) := by
  congr 1
  · funext j; exact View.ld_unit_apply_of wg _ _ i0 _ _ fun a => by match a with | ⟨0, _⟩ => rfl | ⟨1, _⟩ => exact (Nat.zero_add _).symm | ⟨2, _⟩ => show i.val * 1024 + k.val = o + k.val; omega
  · exact View.ld_unit_apply_of bg _ _ i1 _ _ fun a => by match a with | ⟨0, _⟩ => rfl | ⟨1, _⟩ => show i.val * 1024 + k.val = o + k.val; omega
  · funext m; exact View.ld_unit_apply_of wb _ _ i2 _ _ fun a => by match a with | ⟨0, _⟩ => rfl | ⟨1, _⟩ => show i.val = n + 0; omega | ⟨2, _⟩ => exact (Nat.zero_add _).symm | ⟨3, _⟩ => exact (Nat.zero_add _).symm

/-- A row of the modulation. -/
theorem mod_at (x1 : Vec Ideal S1x9x1024 .f32) (a : Fin 9) (o : ℕ) (ho : o = a.val) (inb) (k : Fin 1024) :
    View.ld x1 (Rect.unit (s := S1x9x1024) ![0, o, 0] S1x1x1024.size inb) (ix3 0 0 k) = x1 (ix3 0 a k) :=
  View.ld_unit_apply_of x1 _ _ inb _ _ fun a' => by match a' with | ⟨0, _⟩ => rfl | ⟨1, _⟩ => exact ho.symm | ⟨2, _⟩ => exact (Nat.zero_add _).symm

/-- The rows a block's convolution reads, by number: the 32 before the block (zeros before the first block), then its own 512. -/
def line (i : grid0.Coords) (x5 : Vec Ideal S1x32x512 .f32) (x6 : Vec Ideal S1x512x512 .f32) (n : ℕ) (c : Fin 512) : EReal :=
  if h : n < 32 then if (i 1).val = 0 then 0 else x5 (ix3 0 ⟨n, h⟩ c)
  else if h : n - 32 < 512 then x6 (ix3 0 ⟨n - 32, h⟩ c) else 0

/-- The scratch's first `n` copies: copy `b` holds the rows of `line`, turned by `b`. -/
def Holds (l : ℕ → Fin 512 → EReal) (L : List (View.Piece (Elt Ideal) S8x544x512 .f32)) (n : ℕ) : Prop :=
  ∀ (b : Fin 8) (k : Fin 544) (c : Fin 512), b.val < n → View.canon L (ix3 b k c) = l ((k.val + 544 - b.val) % 544) c

theorem head_apply (i : grid0.Coords) (x : Vec Ideal S1x32x512 .f32) (k : Fin 32) (c : Fin 512) :
    k0_pay4 (F := Ideal) i x (ix3 0 k c) = if (i 1).val = 0 then 0 else x (ix3 0 k c) := by
  pointwise [k0_pay4]
  have hi : (i 1).val < 8 := (i 1).isLt
  generalize (i 1).val = n at hi ⊢
  interval_cases n <;> rfl

theorem tail_apply (x : Vec Ideal S1x512x512 .f32) : k0_pay5 (F := Ideal) x = x := by
  funext z
  pointwise [k0_pay5]

/-- The scratch once the rows before the block and the block's own are stored. -/
theorem holds_first (l : ℕ → Fin 512 → EReal) (w : Vec Ideal S1x512x512 .f32) (w' : Vec Ideal S1x32x512 .f32) (i0 i1)
    (h : ∀ k c, w (ix3 0 k c) = l (k.val + 32) c) (h' : ∀ k c, w' (ix3 0 k c) = l k.val c) :
    Holds l [⟨Rect.unit (s := S8x544x512) ![0, 32, 0] ![1, 512, 512] i0, w⟩, ⟨Rect.unit (s := S8x544x512) ![0, 0, 0] ![1, 32, 512] i1, w'⟩] 1 := by
  intro b k c hb
  obtain rfl : b = 0 := Fin.ext (by simpa using hb)
  have hk : (k.val + 544 - (0 : Fin 8).val) % 544 = k.val := by have := k.isLt; show (k.val + 544 - 0) % 544 = k.val; omega
  rw [hk]
  by_cases h32 : 32 ≤ k.val
  · have e : ix3 (0 : Fin 8) k c = (Rect.unit (s := S8x544x512) ![0, 32, 0] ![1, 512, 512] i0).emb (ix3 (0 : Fin 1) (⟨k.val - 32, by omega⟩ : Fin 512) c) := by
      funext a; apply Fin.ext
      match a with
      | ⟨0, _⟩ => rfl
      | ⟨1, _⟩ => show k.val = 32 + 1 * (k.val - 32); omega
      | ⟨2, _⟩ => show c.val = 0 + 1 * c.val; omega
    rw [e, View.canon_cons_emb]
    refine (h _ _).trans (congrArg (l · c) ?_)
    show k.val - 32 + 32 = k.val; omega
  · rw [View.canon_cons_of_not_mem _ _ (by
      intro hm; exact h32 ((Rect.mem_set_unit (inb := i0)).1 hm 1).1)]
    have e : ix3 (0 : Fin 8) k c = (Rect.unit (s := S8x544x512) ![0, 0, 0] ![1, 32, 512] i1).emb (ix3 (0 : Fin 1) (⟨k.val, by omega⟩ : Fin 32) c) := by
      funext a; apply Fin.ext
      match a with
      | ⟨0, _⟩ => rfl
      | ⟨1, _⟩ => show k.val = 0 + 1 * k.val; omega
      | ⟨2, _⟩ => show c.val = 0 + 1 * c.val; omega
    rw [e, View.canon_cons_emb]
    exact h' _ _

/-- One more copy: the first, turned by `n`. -/
theorem holds_turn {sp : Space} (v : View sig .tc sp S8x544x512 .f32) (l : ℕ → Fin 512 → EReal) {L : List (View.Piece (Elt Ideal) S8x544x512 .f32)} (n : ℕ) (h0 : 0 < n) (h8 : n < 8)
    (w : Vec Ideal S1x544x512 .f32 → Vec Ideal S1x544x512 .f32) (i0 i1)
    (hw : ∀ x k c, w x (ix3 0 k c) = x (ix3 0 ⟨(k.val + 544 - n) % 544, Nat.mod_lt _ (by decide)⟩ c)) (h : Holds l L n) :
    Holds l (⟨Rect.unit (s := S8x544x512) ![n, 0, 0] ![1, 544, 512] i0, w (v.readCov L (Rect.unit (s := S8x544x512) ![0, 0, 0] ![1, 544, 512] i1).toLoadRect)⟩ :: L) (n + 1) := by
  intro b k c hb
  by_cases hn : b.val = n
  · have e : ix3 b k c = (Rect.unit (s := S8x544x512) ![n, 0, 0] ![1, 544, 512] i0).emb (ix3 (0 : Fin 1) k c) := by
      funext a; apply Fin.ext
      match a with
      | ⟨0, _⟩ => exact hn
      | ⟨1, _⟩ => show k.val = 0 + 1 * k.val; omega
      | ⟨2, _⟩ => show c.val = 0 + 1 * c.val; omega
    rw [e, View.canon_cons_emb]
    refine (hw _ _ _).trans ?_
    rw [View.readCov_eq_canon', hn]
    refine Eq.trans (congrArg (View.canon L) (?_ : _ = ix3 (0 : Fin 8) (⟨(k.val + 544 - n) % 544, Nat.mod_lt _ (by decide)⟩ : Fin 544) c)) ?_
    · funext a; apply Fin.ext
      match a with
      | ⟨0, _⟩ => rfl
      | ⟨1, _⟩ => show 0 + 1 * ((k.val + 544 - n) % 544) = (k.val + 544 - n) % 544; omega
      | ⟨2, _⟩ => show 0 + 1 * c.val = c.val; omega
    · refine (h 0 _ c h0).trans (congrArg (l · c) ?_)
      show ((k.val + 544 - n) % 544 + 544 - 0) % 544 = (k.val + 544 - n) % 544
      omega
  · rw [View.canon_cons_of_not_mem _ _ (by
      intro hm
      have h1 : n ≤ b.val := ((Rect.mem_set_unit (inb := i0)).1 hm 0).1
      omega)]
    exact h b k c (by omega)

/-- A tap's load from the copies. -/
theorem tap_apply {sp : Space} (v : View sig .tc sp S8x544x512 .f32) {l : ℕ → Fin 512 → EReal} {L : List (View.Piece (Elt Ideal) S8x544x512 .f32)} (h : Holds l L 8)
    (b lo : ℕ) (inb) (k : Fin 128) (c : Fin 512) :
    v.readCov L (Rect.unit (s := S8x544x512) ![b, lo, 0] ![1, 128, 512] inb).toLoadRect (ix3 0 k c) = l ((lo + k.val + 544 - b) % 544) c := by
  have hb : b + 1 ≤ 8 := inb 0
  have hl : lo + 128 ≤ 544 := inb 1
  rw [View.readCov_eq_canon']
  refine Eq.trans (congrArg (View.canon L) (?_ : _ = ix3 (⟨b, by omega⟩ : Fin 8) (⟨lo + k.val, by omega⟩ : Fin 544) c)) (h _ _ c (by show b < 8; omega))
  funext a; apply Fin.ext
  match a with
  | ⟨0, _⟩ => show b + 1 * 0 = b; omega
  | ⟨1, _⟩ => show lo + 1 * k.val = lo + k.val; omega
  | ⟨2, _⟩ => show 0 + 1 * c.val = c.val; omega

/-- A tap's weights. -/
theorem weight_apply (w : Vec Ideal S31x512 .f32) (t : ℕ) (inb) (c : Fin 512) :
    View.ld w (Rect.unit (s := S31x512) ![t, 0] ![1, 512] inb) (ix2 0 c) = w (ix2 ⟨t, inb 0⟩ c) :=
  View.ld_unit_apply_of w _ _ inb _ _ fun a => by match a with | ⟨0, _⟩ => rfl | ⟨1, _⟩ => exact (Nat.zero_add _).symm

theorem sum_taps (f : Fin 31 → EReal) : ∑ t, f t = f 0 + f 1 + f 2 + f 3 + f 4 + f 5 + f 6 + f 7 + f 8 + f 9 + f 10 + f 11 + f 12 + f 13 + f 14 + f 15 + f 16
    + f 17 + f 18 + f 19 + f 20 + f 21 + f 22 + f 23 + f 24 + f 25 + f 26 + f 27 + f 28 + f 29 + f 30 := by
  simp only [Fin.sum_univ_castSucc, Fin.sum_univ_zero, zero_add]
  rfl

theorem add_eq {a a' b b' : EReal} (h : a = a') (h' : b = b') : a + b = a' + b' := by rw [h, h']

theorem mul_eq {a a' b b' : EReal} (h : a = a') (h' : b = b') : a * b = a' * b' := by rw [h, h']

/-- The block's own rows, as they are stored. -/
theorem own_apply (i : grid0.Coords) (x5 : Vec Ideal S1x32x512 .f32) (x6 : Vec Ideal S1x512x512 .f32) (k c : Fin 512) :
    k0_pay5 (F := Ideal) x6 (ix3 0 k c) = line i x5 x6 (k.val + 32) c := by
  rw [tail_apply]; unfold line
  rw [dif_neg (by omega), dif_pos (by have := k.isLt; omega)]
  exact congrArg x6 (congrArg (ix3 0 · c) (Fin.ext (by show k.val = k.val + 32 - 32; omega)))

/-- The rows before the block, as they are stored. -/
theorem halo_apply (i : grid0.Coords) (x5 : Vec Ideal S1x32x512 .f32) (x6 : Vec Ideal S1x512x512 .f32) (k : Fin 32) (c : Fin 512) :
    k0_pay4 (F := Ideal) i x5 (ix3 0 k c) = line i x5 x6 k.val c := by
  rw [head_apply]; unfold line
  rw [dif_pos k.isLt]

set_option maxHeartbeats 2000000 in
/-- What a grid point leaves in its output block, at one index: the merge of that row. -/
theorem block_apply (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x32x512 .f32) (harg7 : arg7.IsWhole) (arg8 : Memref sig .tc .vmem S1x512x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1024x3072 .bf16) (harg13 : arg13.IsWhole) (arg14 : Memref sig .tc .vmem S1x3072 .f32) (harg14 : arg14.IsWhole) (arg15 : Memref sig .tc .vmem S1x3x512x1024 .bf16) (harg15 : arg15.IsWhole) (arg16 : Memref sig .tc .vmem S1x1024x1024 .bf16) (harg16 : arg16.IsWhole) (arg17 : Memref sig .tc .vmem S1x512x1024 .f32) (harg17 : arg17.IsWhole) (arg18 : Memref sig .tc .vmem S8x544x512 .f32) (harg18 : arg18.IsWhole) (arg19 : Memref sig .tc .vmem S512x512 .f32) (harg19 : arg19.IsWhole)
    (x0 : Vec Ideal S1x512x1024 .f32) (x1 : Vec Ideal S1x9x1024 .f32) (x2 : Vec Ideal S1x1024 .f32) (x3 : Vec Ideal S1x512x512 .bf16) (x4 : Vec Ideal S1x512x512 .bf16) (x5 : Vec Ideal S1x32x512 .f32) (x6 : Vec Ideal S1x512x512 .f32) (x7 : Vec Ideal S31x512 .f32) (x8 : Vec Ideal S1x512 .f32) (x9 : Vec Ideal S1x512 .f32) (x10 : Vec Ideal S1x512 .f32) (x11 : Vec Ideal S1x1024x3072 .bf16) (x12 : Vec Ideal S1x3072 .f32) (x13 : Vec Ideal S1x3x512x1024 .bf16) (x14 : Vec Ideal S1x1024x1024 .bf16) (r : Fin 512) (k : Fin 1024) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 (ix3 0 r k)
      = Merge.out (fun k => x0 (ix3 0 r k)) (fun a k => x1 (ix3 0 a k)) (fun k => x2 (ix2 0 k))
          (Merge.pick (fun m => x3 (ix3 0 r m)) (fun m => x4 (ix3 0 r m))
            (Merge.third (Merge.conv (fun t m => line i x5 x6 (r.val + 2 + t.val) m) (fun t m => x7 (ix2 t m)) (fun m => x8 (ix2 0 m))) (fun m => x9 (ix2 0 m)) (fun m => x10 (ix2 0 m))))
          (fun j n => x11 (ix3 0 j n)) (fun n => x12 (ix2 0 n)) (fun a m n => x13 (ix4 0 a m n)) (fun j n => x14 (ix3 0 j n)) k := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14)]
  unfold kernelRun0_A
  dsimp only
  sl_unfold_words
  rw [View.canon_cons_unit_lit _ _ _ (by decide)]
  simp only [View.readAt_eq_ld, harg2.read_unread, harg3.read_unread, harg4.read_unread, harg5.read_unread, harg6.read_unread, harg7.read_unread, harg8.read_unread,
    harg9.read_unread, harg10.read_unread, harg11.read_unread, harg12.read_unread, harg13.read_unread, harg14.read_unread, harg15.read_unread, harg16.read_unread]
  have e0 : View.ld x0 (Rect.unit ![0, 0, 0] ![1, 512, 1024] inb_S1x512x1024_S1x512x1024_0_0_0) = x0 := View.ld_unit_lit (S := S1x512x1024) _ _ (by decide)
  have e2 : View.ld x2 (Rect.unit ![0, 0] ![1, 1024] inb_S1x1024_S1x1024_0_0) = x2 := View.ld_unit_lit (S := S1x1024) _ _ (by decide)
  have e3 : View.ld x3 (Rect.unit ![0, 0, 0] ![1, 512, 512] inb_S1x512x512_S1x512x512_0_0_0) = x3 := View.ld_unit_lit (S := S1x512x512) _ _ (by decide)
  have e4 : View.ld x4 (Rect.unit ![0, 0, 0] ![1, 512, 512] inb_S1x512x512_S1x512x512_0_0_0) = x4 := View.ld_unit_lit (S := S1x512x512) _ _ (by decide)
  have e5 : View.ld x5 (Rect.unit ![0, 0, 0] ![1, 32, 512] inb_S1x32x512_S1x32x512_0_0_0) = x5 := View.ld_unit_lit (S := S1x32x512) _ _ (by decide)
  have e6 : View.ld x6 (Rect.unit ![0, 0, 0] ![1, 512, 512] inb_S1x512x512_S1x512x512_0_0_0) = x6 := View.ld_unit_lit (S := S1x512x512) _ _ (by decide)
  have e8 : View.ld x8 (Rect.unit ![0, 0] ![1, 512] inb_S1x512_S1x512_0_0) = x8 := View.ld_unit_lit (S := S1x512) _ _ (by decide)
  have e9 : View.ld x9 (Rect.unit ![0, 0] ![1, 512] inb_S1x512_S1x512_0_0) = x9 := View.ld_unit_lit (S := S1x512) _ _ (by decide)
  have e10 : View.ld x10 (Rect.unit ![0, 0] ![1, 512] inb_S1x512_S1x512_0_0) = x10 := View.ld_unit_lit (S := S1x512) _ _ (by decide)
  have e14 : View.ld x14 (Rect.unit ![0, 0, 0] ![1, 1024, 1024] inb_S1x1024x1024_S1x1024x1024_0_0_0) = x14 := View.ld_unit_lit (S := S1x1024x1024) _ _ (by decide)
  simp only [e0, e2, e3, e4, e5, e6, e8, e9, e10, e14]
  refine (last_apply _ _ _ _ r k).trans ?_
  have hx : k0_pay2 (F := Ideal) x0 (ix2 r k) = x0 (ix3 0 r k) := by pointwise [k0_pay2]
  have hh : ∀ i0 i1, (fun k => k0_pay3 (F := Ideal) x0 x2 (View.ld x1 (Rect.unit (s := S1x9x1024) ![0, 3, 0] S1x1x1024.size i0)) (View.ld x1 (Rect.unit (s := S1x9x1024) ![0, 4, 0] S1x1x1024.size i1)) (ix2 r k))
      = Ffn.normMod (fun k => x0 (ix3 0 r k)) (fun k => x2 (ix2 0 k)) (fun k => x1 (ix3 0 3 k)) (fun k => x1 (ix3 0 4 k)) := by
    intro i0 i1
    funext k
    rw [rows_apply]
    congr 1
    · funext j; exact mod_at x1 3 3 rfl _ j
    · funext j; exact mod_at x1 4 4 rfl _ j
  unfold Merge.out Merge.mixed
  rw [hx, mod_at x1 5 5 rfl]
  refine congrArg (_ + _ * ·) (Finset.sum_congr rfl fun n _ => congrArg (· * _) ?_)
  refine (mixed_apply _ _ _ _ _ _ _ _ _ _ _ _ _ r n).trans ?_
  rw [Fin.sum_univ_three]
  refine add_eq (add_eq ?_ ?_) ?_
  · rw [branch_at _ _ x11 x12 x13 0 0 0 rfl rfl]; exact congrArg (Merge.branch · _ _ _ _) (hh _ _)
  · rw [branch_at _ _ x11 x12 x13 1 1024 1 rfl rfl]; exact congrArg (Merge.branch · _ _ _ _) (hh _ _)
  · rw [branch_at _ _ x11 x12 x13 2 2048 2 rfl rfl]
    refine congrArg₂ (Merge.branch · _ _ · _) (hh _ _) (funext fun m => (third_apply _ _ _ _ r m).trans (congrArg (Merge.third · _ _ _) (funext fun q => congrArg (· + _) ?_)))
    have hs := holds_turn arg18.view (line i x5 x6) 7 (by decide) (by decide) k0_pay13 inb_S8x544x512_S1x544x512_7_0_0 inb_S8x544x512_S1x544x512_0_0_0 (by intro x k c; pointwise [k0_pay13])
      (holds_turn arg18.view (line i x5 x6) 6 (by decide) (by decide) k0_pay12 inb_S8x544x512_S1x544x512_6_0_0 inb_S8x544x512_S1x544x512_0_0_0 (by intro x k c; pointwise [k0_pay12])
      (holds_turn arg18.view (line i x5 x6) 5 (by decide) (by decide) k0_pay11 inb_S8x544x512_S1x544x512_5_0_0 inb_S8x544x512_S1x544x512_0_0_0 (by intro x k c; pointwise [k0_pay11])
      (holds_turn arg18.view (line i x5 x6) 4 (by decide) (by decide) (fun x => k0_pay10 (k0_pay9 x)) inb_S8x544x512_S1x544x512_4_0_0 inb_S8x544x512_S1x544x512_0_0_0 (by intro x k c; pointwise [k0_pay10, k0_pay9])
      (holds_turn arg18.view (line i x5 x6) 3 (by decide) (by decide) k0_pay8 inb_S8x544x512_S1x544x512_3_0_0 inb_S8x544x512_S1x544x512_0_0_0 (by intro x k c; pointwise [k0_pay8])
      (holds_turn arg18.view (line i x5 x6) 2 (by decide) (by decide) k0_pay7 inb_S8x544x512_S1x544x512_2_0_0 inb_S8x544x512_S1x544x512_0_0_0 (by intro x k c; pointwise [k0_pay7])
      (holds_turn arg18.view (line i x5 x6) 1 (by decide) (by decide) k0_pay6 inb_S8x544x512_S1x544x512_1_0_0 inb_S8x544x512_S1x544x512_0_0_0 (by intro x k c; pointwise [k0_pay6])
      (holds_first (line i x5 x6) (k0_pay5 x6) (k0_pay4 i x5) inb_S8x544x512_S1x512x512_0_32_0 inb_S8x544x512_S1x32x512_0_0_0 (own_apply i x5 x6) (halo_apply i x5 x6))))))))
    rw [View.readCov_eq_canon']
    refine (congrArg (View.canon _) (?_ : _ = ix2 r q)).trans ?_
    · funext a; apply Fin.ext
      match a with
      | ⟨0, _⟩ => show 0 + 1 * r.val = r.val; omega
      | ⟨1, _⟩ => show 0 + 1 * q.val = q.val; omega
    generalize hl : line i x5 x6 = l at hs ⊢
    revert hs
    generalize hL : [_, _, _, _, _, _, _, _, _] = L
    intro hs
    refine View.canon_eq_of_allAt (Val := Elt Ideal) (e := .f32) (S := S512x512) _ (ix2 r q) _ (View.cover_of_tiled_head _ _ _ (by sl_kernel_rfl) _) ?_
    refine View.allAt_cons_unit _ _ _ _ _ ?_ (View.allAt_cons_unit _ _ _ _ _ ?_ (View.allAt_cons_unit _ _ _ _ _ ?_ (View.allAt_cons_unit _ _ _ _ _ ?_ (View.allAt_nil _ _))))
    all_goals
      intro z hz
      obtain ⟨a, b, rfl⟩ : ∃ (a : Fin 128) (b : Fin 512), z = ix2 a b := ⟨z 0, z 1, funext fun d => by match d with | ⟨0, _⟩ => rfl | ⟨1, _⟩ => rfl⟩
      have h0 : r.val = (![_, 0] : Fin 2 → ℕ) 0 + a.val := hz 0
      have h1 := hz 1
      obtain rfl : q = b := Fin.ext (h1.trans (Nat.zero_add _))
      clear hz h1
      pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57]
      simp only [tap_apply arg18.view hs, weight_apply]
      rw [sum_taps]
      rw [Matrix.cons_val_zero] at h0
      have ha := a.isLt
      iterate 30 refine add_eq ?_ ?_
      all_goals
        refine mul_eq (congrArg (l · q) ?_) rfl
        omega

end Cert.MergeKernel

end
-- ==== Proof.MergeArray.lean ====
/-
  The merge's blocks placed in the arrays: what the grid leaves in the result, as a function of the arguments.
-/
module

public import proofs.«01_k».proof.Proof.MergeKernel

@[expose] public section

set_option maxRecDepth 16384

noncomputable section

namespace Cert.MergeArray

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The merge of every row of every batch, at layer 0's weights. -/
def result (x0 : FVec Ideal S4x4096x1024 .f32) (x1 : FVec Ideal S4x9x1024 .f32) (x2 : FVec Ideal S1024 .f32)
    (x3 x4 : FVec Ideal S4x4096x512 .bf16) (x5 : FVec Ideal S4x4096x512 .f32) (x6 : FVec Ideal S31x512 .f32) (x7 x8 x9 : FVec Ideal S512 .f32)
    (x10 : FVec Ideal S2x1024x3072 .f32) (x11 : FVec Ideal S3072 .f32) (x12 : FVec Ideal S2x3x512x1024 .f32) (x13 : FVec Ideal S2x1024x1024 .f32) : FVec Ideal S4x4096x1024 .f32 :=
  fun i => Merge.out (fun k => x0 (ix3 (i 0) (i 1) k)) (fun a k => x1 (ix3 (i 0) a k)) (fun k => x2 (ix1 k))
    (Merge.pick (fun k => x3 (ix3 (i 0) (i 1) k)) (fun k => x4 (ix3 (i 0) (i 1) k))
      (Merge.third (Merge.conv (fun t k => Merge.before (fun s k => x5 (ix3 (i 0) s k)) (i 1).val t.val k) (fun t k => x6 (ix2 t k)) (fun k => x7 (ix1 k)))
        (fun k => x8 (ix1 k)) (fun k => x9 (ix1 k))))
    (fun k n => x10 (ix3 0 k n)) (fun n => x11 (ix1 n)) (fun n k j => x12 (ix4 0 n k j)) (fun k n => x13 (ix3 0 k n)) (i 2)

/-- The gain, the offsets and the bias as the region finds them: the arguments as one row. -/
theorem gain_eq (c : Dev nD) : V m c main_v3 = shapeCast (s := S1024) S1x1024 (m ((c : Thread nD τ).loc main_arg2)) shapeCasts_S1024_S1x1024 := by
  rfl

theorem conv_eq (c : Dev nD) : V m c main_v4 = shapeCast (s := S512) S1x512 (m ((c : Thread nD τ).loc main_arg7)) shapeCasts_S512_S1x512 := by
  rfl

theorem lngain_eq (c : Dev nD) : V m c main_v5 = shapeCast (s := S512) S1x512 (m ((c : Thread nD τ).loc main_arg8)) shapeCasts_S512_S1x512 := by
  rfl

theorem lnoff_eq (c : Dev nD) : V m c main_v6 = shapeCast (s := S512) S1x512 (m ((c : Thread nD τ).loc main_arg9)) shapeCasts_S512_S1x512 := by
  rfl

theorem bias_eq (c : Dev nD) : V m c main_v7 = shapeCast (s := S3072) S1x3072 (m ((c : Thread nD τ).loc main_arg11)) shapeCasts_S3072_S1x3072 := by
  rfl

/-- The weights as the region finds them: the arguments, cast. -/
theorem gate_eq (c : Dev nD) : V m c main_v0 = truncf (F := Ideal) (s := S2x1024x3072) (φ := .f32) .bf16 (m ((c : Thread nD τ).loc main_arg10)) bitsLt_bf16_f32 := by
  rfl

theorem branch_eq (c : Dev nD) : V m c main_v1 = truncf (F := Ideal) (s := S2x3x512x1024) (φ := .f32) .bf16 (m ((c : Thread nD τ).loc main_arg12)) bitsLt_bf16_f32 := by
  rfl

theorem last_eq (c : Dev nD) : V m c main_v2 = truncf (F := Ideal) (s := S2x1024x1024) (φ := .f32) .bf16 (m ((c : Thread nD τ).loc main_arg13)) bitsLt_bf16_f32 := by
  rfl

/-- The block indices of the windows at each grid point. -/
theorem rows_index : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

theorem mod_index : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

theorem gain_index : ∀ t : Fin cfg0.N, win0_2.index t 0 = 0 ∧ win0_2.index t 1 = 0 :=
  (by decide +kernel : ∀ t : Fin grid0.N, win0_2.index t 0 = 0 ∧ win0_2.index t 1 = 0)

theorem ya_index : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)

theorem yb_index : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)

theorem halo_index : ∀ t : Fin cfg0.N, win0_5.index t 0 = t.val / 8 ∧ win0_5.index t 1 = t.val % 8 * 16 - 1 ∧ win0_5.index t 2 = 0 :=
  (by decide +kernel : ∀ t : Fin grid0.N, win0_5.index t 0 = t.val / 8 ∧ win0_5.index t 1 = t.val % 8 * 16 - 1 ∧ win0_5.index t 2 = 0)

theorem own_index : ∀ t : Fin cfg0.N, win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0)

theorem taps_index : ∀ t : Fin cfg0.N, win0_7.index t 0 = 0 ∧ win0_7.index t 1 = 0 :=
  (by decide +kernel : ∀ t : Fin grid0.N, win0_7.index t 0 = 0 ∧ win0_7.index t 1 = 0)

theorem conv_index : ∀ t : Fin cfg0.N, win0_8.index t 0 = 0 ∧ win0_8.index t 1 = 0 :=
  (by decide +kernel : ∀ t : Fin grid0.N, win0_8.index t 0 = 0 ∧ win0_8.index t 1 = 0)

theorem lngain_index : ∀ t : Fin cfg0.N, win0_9.index t 0 = 0 ∧ win0_9.index t 1 = 0 :=
  (by decide +kernel : ∀ t : Fin grid0.N, win0_9.index t 0 = 0 ∧ win0_9.index t 1 = 0)

theorem lnoff_index : ∀ t : Fin cfg0.N, win0_10.index t 0 = 0 ∧ win0_10.index t 1 = 0 :=
  (by decide +kernel : ∀ t : Fin grid0.N, win0_10.index t 0 = 0 ∧ win0_10.index t 1 = 0)

theorem gate_index : ∀ t : Fin cfg0.N, win0_11.index t 0 = 0 ∧ win0_11.index t 1 = 0 ∧ win0_11.index t 2 = 0 :=
  (by decide +kernel : ∀ t : Fin grid0.N, win0_11.index t 0 = 0 ∧ win0_11.index t 1 = 0 ∧ win0_11.index t 2 = 0)

theorem bias_index : ∀ t : Fin cfg0.N, win0_12.index t 0 = 0 ∧ win0_12.index t 1 = 0 :=
  (by decide +kernel : ∀ t : Fin grid0.N, win0_12.index t 0 = 0 ∧ win0_12.index t 1 = 0)

theorem branch_index : ∀ t : Fin cfg0.N, win0_13.index t 0 = 0 ∧ win0_13.index t 1 = 0 ∧ win0_13.index t 2 = 0 ∧ win0_13.index t 3 = 0 :=
  (by decide +kernel : ∀ t : Fin grid0.N, win0_13.index t 0 = 0 ∧ win0_13.index t 1 = 0 ∧ win0_13.index t 2 = 0 ∧ win0_13.index t 3 = 0)

theorem last_index : ∀ t : Fin cfg0.N, win0_14.index t 0 = 0 ∧ win0_14.index t 1 = 0 ∧ win0_14.index t 2 = 0 :=
  (by decide +kernel : ∀ t : Fin grid0.N, win0_14.index t 0 = 0 ∧ win0_14.index t 1 = 0 ∧ win0_14.index t 2 = 0)

theorem out_index : ∀ t : Fin cfg0.N, win0_15.index t 0 = t.val / 8 ∧ win0_15.index t 1 = t.val % 8 ∧ win0_15.index t 2 = 0 :=
  (by decide +kernel : ∀ t : Fin grid0.N, win0_15.index t 0 = t.val / 8 ∧ win0_15.index t 1 = t.val % 8 ∧ win0_15.index t 2 = 0)

/-- The batch a grid point works on. -/
def bat (t : Fin cfg0.N) : Fin 4 := ⟨t.val / 8, by have h : t.val < 32 := t.isLt; omega⟩

/-- The array row of a block's row. -/
def row (t : Fin cfg0.N) (r : Fin 512) : Fin 4096 := ⟨t.val % 8 * 512 + r.val, by omega⟩

/-- The second coordinate of a grid point. -/
theorem coord : ∀ t : Fin cfg0.N, (grid0.coords t 1).val = t.val % 8 :=
  (by decide +kernel : ∀ t : Fin grid0.N, (grid0.coords t 1).val = t.val % 8)

theorem rows_block (c : Dev nD) (t : Fin cfg0.N) (r : Fin 512) (k : Fin 1024) :
    iblk m c 0 t (ix3 0 r k) = m ((c : Thread nD τ).loc main_arg0) (ix3 (bat t) (row t r) k) := by
  unfold iblk
  rw [View.read_apply]
  show V m c main_arg0 _ = _
  rw [V_main_arg0]
  refine congrArg _ (funext fun a => Fin.ext ?_)
  have h := rows_index t
  match a with
  | ⟨0, _⟩ => show win0_0.index t 0 * 1 + 1 * 0 = t.val / 8; rw [h.1]; omega
  | ⟨1, _⟩ => show win0_0.index t 1 * 512 + 1 * r.val = t.val % 8 * 512 + r.val; rw [h.2.1]; omega
  | ⟨2, _⟩ => show win0_0.index t 2 * 1024 + 1 * k.val = k.val; rw [h.2.2]; omega

theorem mod_block (c : Dev nD) (t : Fin cfg0.N) (r : Fin 9) (k : Fin 1024) :
    iblk m c 1 t (ix3 0 r k) = m ((c : Thread nD τ).loc main_arg1) (ix3 (bat t) r k) := by
  unfold iblk
  rw [View.read_apply]
  show V m c main_arg1 _ = _
  rw [V_main_arg1]
  refine congrArg _ (funext fun a => Fin.ext ?_)
  have h := mod_index t
  match a with
  | ⟨0, _⟩ => show win0_1.index t 0 * 1 + 1 * 0 = t.val / 8; rw [h.1]; omega
  | ⟨1, _⟩ => show win0_1.index t 1 * 9 + 1 * r.val = r.val; rw [h.2.1]; omega
  | ⟨2, _⟩ => show win0_1.index t 2 * 1024 + 1 * k.val = k.val; rw [h.2.2]; omega

theorem ya_block (c : Dev nD) (t : Fin cfg0.N) (r k : Fin 512) :
    iblk m c 3 t (ix3 0 r k) = m ((c : Thread nD τ).loc main_arg3) (ix3 (bat t) (row t r) k) := by
  unfold iblk
  rw [View.read_apply]
  show V m c main_arg3 _ = _
  rw [V_main_arg3]
  refine congrArg _ (funext fun a => Fin.ext ?_)
  have h := ya_index t
  match a with
  | ⟨0, _⟩ => show win0_3.index t 0 * 1 + 1 * 0 = t.val / 8; rw [h.1]; omega
  | ⟨1, _⟩ => show win0_3.index t 1 * 512 + 1 * r.val = t.val % 8 * 512 + r.val; rw [h.2.1]; omega
  | ⟨2, _⟩ => show win0_3.index t 2 * 512 + 1 * k.val = k.val; rw [h.2.2]; omega

theorem yb_block (c : Dev nD) (t : Fin cfg0.N) (r k : Fin 512) :
    iblk m c 4 t (ix3 0 r k) = m ((c : Thread nD τ).loc main_arg4) (ix3 (bat t) (row t r) k) := by
  unfold iblk
  rw [View.read_apply]
  show V m c main_arg4 _ = _
  rw [V_main_arg4]
  refine congrArg _ (funext fun a => Fin.ext ?_)
  have h := yb_index t
  match a with
  | ⟨0, _⟩ => show win0_4.index t 0 * 1 + 1 * 0 = t.val / 8; rw [h.1]; omega
  | ⟨1, _⟩ => show win0_4.index t 1 * 512 + 1 * r.val = t.val % 8 * 512 + r.val; rw [h.2.1]; omega
  | ⟨2, _⟩ => show win0_4.index t 2 * 512 + 1 * k.val = k.val; rw [h.2.2]; omega

theorem own_block (c : Dev nD) (t : Fin cfg0.N) (r k : Fin 512) :
    iblk m c 6 t (ix3 0 r k) = m ((c : Thread nD τ).loc main_arg5) (ix3 (bat t) (row t r) k) := by
  unfold iblk
  rw [View.read_apply]
  show V m c main_arg5 _ = _
  rw [V_main_arg5]
  refine congrArg _ (funext fun a => Fin.ext ?_)
  have h := own_index t
  match a with
  | ⟨0, _⟩ => show win0_6.index t 0 * 1 + 1 * 0 = t.val / 8; rw [h.1]; omega
  | ⟨1, _⟩ => show win0_6.index t 1 * 512 + 1 * r.val = t.val % 8 * 512 + r.val; rw [h.2.1]; omega
  | ⟨2, _⟩ => show win0_6.index t 2 * 512 + 1 * k.val = k.val; rw [h.2.2]; omega

theorem taps_block (c : Dev nD) (t : Fin cfg0.N) (r : Fin 31) (k : Fin 512) :
    iblk m c 7 t (ix2 r k) = m ((c : Thread nD τ).loc main_arg6) (ix2 r k) := by
  unfold iblk
  rw [View.read_apply]
  show V m c main_arg6 _ = _
  rw [V_main_arg6]
  refine congrArg _ (funext fun a => Fin.ext ?_)
  have h := taps_index t
  match a with
  | ⟨0, _⟩ => show win0_7.index t 0 * 31 + 1 * r.val = r.val; rw [h.1]; omega
  | ⟨1, _⟩ => show win0_7.index t 1 * 512 + 1 * k.val = k.val; rw [h.2]; omega

theorem gate_block (c : Dev nD) (t : Fin cfg0.N) (k : Fin 1024) (n : Fin 3072) :
    iblk m c 11 t (ix3 0 k n) = m ((c : Thread nD τ).loc main_arg10) (ix3 0 k n) := by
  unfold iblk
  rw [View.read_apply]
  show V m c main_v0 _ = _
  rw [gate_eq]
  refine congrArg (m ((c : Thread nD τ).loc main_arg10)) (funext fun a => Fin.ext ?_)
  have h := gate_index t
  match a with
  | ⟨0, _⟩ => show win0_11.index t 0 * 1 + 1 * 0 = 0; rw [h.1]
  | ⟨1, _⟩ => show win0_11.index t 1 * 1024 + 1 * k.val = k.val; rw [h.2.1]; omega
  | ⟨2, _⟩ => show win0_11.index t 2 * 3072 + 1 * n.val = n.val; rw [h.2.2]; omega

theorem branch_block (c : Dev nD) (t : Fin cfg0.N) (n : Fin 3) (k : Fin 512) (j : Fin 1024) :
    iblk m c 13 t (ix4 0 n k j) = m ((c : Thread nD τ).loc main_arg12) (ix4 0 n k j) := by
  unfold iblk
  rw [View.read_apply]
  show V m c main_v1 _ = _
  rw [branch_eq]
  refine congrArg (m ((c : Thread nD τ).loc main_arg12)) (funext fun a => Fin.ext ?_)
  have h := branch_index t
  match a with
  | ⟨0, _⟩ => show win0_13.index t 0 * 1 + 1 * 0 = 0; rw [h.1]
  | ⟨1, _⟩ => show win0_13.index t 1 * 3 + 1 * n.val = n.val; rw [h.2.1]; omega
  | ⟨2, _⟩ => show win0_13.index t 2 * 512 + 1 * k.val = k.val; rw [h.2.2.1]; omega
  | ⟨3, _⟩ => show win0_13.index t 3 * 1024 + 1 * j.val = j.val; rw [h.2.2.2]; omega

theorem last_block (c : Dev nD) (t : Fin cfg0.N) (k n : Fin 1024) :
    iblk m c 14 t (ix3 0 k n) = m ((c : Thread nD τ).loc main_arg13) (ix3 0 k n) := by
  unfold iblk
  rw [View.read_apply]
  show V m c main_v2 _ = _
  rw [last_eq]
  refine congrArg (m ((c : Thread nD τ).loc main_arg13)) (funext fun a => Fin.ext ?_)
  have h := last_index t
  match a with
  | ⟨0, _⟩ => show win0_14.index t 0 * 1 + 1 * 0 = 0; rw [h.1]
  | ⟨1, _⟩ => show win0_14.index t 1 * 1024 + 1 * k.val = k.val; rw [h.2.1]; omega
  | ⟨2, _⟩ => show win0_14.index t 2 * 1024 + 1 * n.val = n.val; rw [h.2.2]; omega

theorem gain_block (c : Dev nD) (t : Fin cfg0.N) (k : Fin 1024) :
    iblk m c 2 t (ix2 0 k) = m ((c : Thread nD τ).loc main_arg2) (ix1 k) := by
  unfold iblk
  rw [View.read_apply]
  show V m c main_v3 _ = _
  rw [gain_eq]
  have hi : (((cfg0.win 2).blk t).view.emb (ix2 0 k) : S1x1024.Idx) = ix2 0 k := by
    funext a
    apply Fin.ext
    have h := gain_index t
    match a with
    | ⟨0, _⟩ => show win0_2.index t 0 * 1 + 1 * 0 = 0; rw [h.1]
    | ⟨1, _⟩ => show win0_2.index t 1 * 1024 + 1 * k.val = k.val; rw [h.2]; omega
  refine (congrArg _ hi).trans ?_
  pointwise

theorem conv_block (c : Dev nD) (t : Fin cfg0.N) (k : Fin 512) :
    iblk m c 8 t (ix2 0 k) = m ((c : Thread nD τ).loc main_arg7) (ix1 k) := by
  unfold iblk
  rw [View.read_apply]
  show V m c main_v4 _ = _
  rw [conv_eq]
  have hi : (((cfg0.win 8).blk t).view.emb (ix2 0 k) : S1x512.Idx) = ix2 0 k := by
    funext a
    apply Fin.ext
    have h := conv_index t
    match a with
    | ⟨0, _⟩ => show win0_8.index t 0 * 1 + 1 * 0 = 0; rw [h.1]
    | ⟨1, _⟩ => show win0_8.index t 1 * 512 + 1 * k.val = k.val; rw [h.2]; omega
  refine (congrArg _ hi).trans ?_
  pointwise

theorem lngain_block (c : Dev nD) (t : Fin cfg0.N) (k : Fin 512) :
    iblk m c 9 t (ix2 0 k) = m ((c : Thread nD τ).loc main_arg8) (ix1 k) := by
  unfold iblk
  rw [View.read_apply]
  show V m c main_v5 _ = _
  rw [lngain_eq]
  have hi : (((cfg0.win 9).blk t).view.emb (ix2 0 k) : S1x512.Idx) = ix2 0 k := by
    funext a
    apply Fin.ext
    have h := lngain_index t
    match a with
    | ⟨0, _⟩ => show win0_9.index t 0 * 1 + 1 * 0 = 0; rw [h.1]
    | ⟨1, _⟩ => show win0_9.index t 1 * 512 + 1 * k.val = k.val; rw [h.2]; omega
  refine (congrArg _ hi).trans ?_
  pointwise

theorem lnoff_block (c : Dev nD) (t : Fin cfg0.N) (k : Fin 512) :
    iblk m c 10 t (ix2 0 k) = m ((c : Thread nD τ).loc main_arg9) (ix1 k) := by
  unfold iblk
  rw [View.read_apply]
  show V m c main_v6 _ = _
  rw [lnoff_eq]
  have hi : (((cfg0.win 10).blk t).view.emb (ix2 0 k) : S1x512.Idx) = ix2 0 k := by
    funext a
    apply Fin.ext
    have h := lnoff_index t
    match a with
    | ⟨0, _⟩ => show win0_10.index t 0 * 1 + 1 * 0 = 0; rw [h.1]
    | ⟨1, _⟩ => show win0_10.index t 1 * 512 + 1 * k.val = k.val; rw [h.2]; omega
  refine (congrArg _ hi).trans ?_
  pointwise

theorem bias_block (c : Dev nD) (t : Fin cfg0.N) (k : Fin 3072) :
    iblk m c 12 t (ix2 0 k) = m ((c : Thread nD τ).loc main_arg11) (ix1 k) := by
  unfold iblk
  rw [View.read_apply]
  show V m c main_v7 _ = _
  rw [bias_eq]
  have hi : (((cfg0.win 12).blk t).view.emb (ix2 0 k) : S1x3072.Idx) = ix2 0 k := by
    funext a
    apply Fin.ext
    have h := bias_index t
    match a with
    | ⟨0, _⟩ => show win0_12.index t 0 * 1 + 1 * 0 = 0; rw [h.1]
    | ⟨1, _⟩ => show win0_12.index t 1 * 3072 + 1 * k.val = k.val; rw [h.2]; omega
  refine (congrArg _ hi).trans ?_
  pointwise

/-- The 32 rows before a block, past the first block. -/
theorem halo_block (c : Dev nD) (t : Fin cfg0.N) (ht : 0 < t.val % 8) (r : Fin 32) (k : Fin 512) :
    iblk m c 5 t (ix3 0 r k) = m ((c : Thread nD τ).loc main_arg5) (ix3 (bat t) (⟨t.val % 8 * 512 - 32 + r.val, by omega⟩ : Fin 4096) k) := by
  unfold iblk
  rw [View.read_apply]
  show V m c main_arg5 _ = _
  rw [V_main_arg5]
  refine congrArg _ (funext fun a => Fin.ext ?_)
  have h := halo_index t
  match a with
  | ⟨0, _⟩ => show win0_5.index t 0 * 1 + 1 * 0 = t.val / 8; rw [h.1]; omega
  | ⟨1, _⟩ => show win0_5.index t 1 * 32 + 1 * r.val = t.val % 8 * 512 - 32 + r.val; rw [h.2.1]; omega
  | ⟨2, _⟩ => show win0_5.index t 2 * 512 + 1 * k.val = k.val; rw [h.2.2]; omega

/-- The rows a block's tap reads are the array's rows before it, zeros before the first. -/
theorem line_block (c : Dev nD) (t : Fin cfg0.N) (r : Fin 512) (n : Fin 31) (k : Fin 512) :
    MergeKernel.line (grid0.coords t) (iblk m c 5 t) (iblk m c 6 t) (r.val + 2 + n.val) k
      = Merge.before (fun s k => m ((c : Thread nD τ).loc main_arg5) (ix3 (bat t) s k)) (row t r).val n.val k := by
  have hr := r.isLt
  have hn := n.isLt
  have hrow : (row t r).val = t.val % 8 * 512 + r.val := rfl
  unfold MergeKernel.line Merge.before
  by_cases h32 : r.val + 2 + n.val < 32
  · rw [dif_pos h32, coord]
    by_cases h0 : t.val % 8 = 0
    · rw [if_pos h0, dif_neg (by omega)]
    · rw [if_neg h0, dif_pos (by omega), halo_block m c t (by omega)]
      exact congrArg (fun s => m ((c : Thread nD τ).loc main_arg5) (ix3 (bat t) s k)) (Fin.ext (by show t.val % 8 * 512 - 32 + (r.val + 2 + n.val) = (row t r).val + n.val - 30; omega))
  · rw [dif_neg h32, dif_pos (by omega), dif_pos (by omega), own_block]
    exact congrArg (fun s => m ((c : Thread nD τ).loc main_arg5) (ix3 (bat t) s k)) (Fin.ext (by show t.val % 8 * 512 + (r.val + 2 + n.val - 32) = (row t r).val + n.val - 30; omega))

/-- What the grid leaves in the result array. -/
theorem array_eq (c : Dev nD) :
    (dats m 0 c).arrAt 15 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_cover 15 _ ?_ ?_
  · intro t _
    rw [Value.flushed15_A]
    funext z
    obtain ⟨z0, r, j, rfl⟩ : ∃ (z0 : Fin 1) (r : Fin 512) (j : Fin 1024), z = ix3 z0 r j := ⟨z 0, z 1, z 2, by
      funext a; match a with | ⟨0, _⟩ => rfl | ⟨1, _⟩ => rfl | ⟨2, _⟩ => rfl⟩
    obtain rfl : z0 = 0 := Subsingleton.elim _ _
    show out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 r j) = _
    refine (MergeKernel.block_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j).trans ?_
    simp only [rows_block, mod_block, gain_block, ya_block, yb_block, line_block, taps_block, conv_block, lngain_block, lnoff_block, gate_block, bias_block, branch_block, last_block]
    rw [View.read_apply]
    have hi : (((cfg0.win 15).blk t).view.emb (ix3 0 r j) : S4x4096x1024.Idx) = ix3 (bat t) (row t r) j := by
      funext a
      apply Fin.ext
      have h := out_index t
      match a with
      | ⟨0, _⟩ => show win0_15.index t 0 * 1 + 1 * 0 = t.val / 8; rw [h.1]; omega
      | ⟨1, _⟩ => show win0_15.index t 1 * 512 + 1 * r.val = t.val % 8 * 512 + r.val; rw [h.2.1]; omega
      | ⟨2, _⟩ => show win0_15.index t 2 * 1024 + 1 * j.val = j.val; rw [h.2.2]; omega
    exact (congrArg (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) hi).symm
  · intro i
    have h0 : (i 0).val < 4 := (i 0).isLt
    have h1 : (i 1).val < 4096 := (i 1).isLt
    have h2 : (i 2).val < 1024 := (i 2).isLt
    let t : Fin cfg0.N := ⟨(i 0).val * 8 + (i 1).val / 512, (by omega : (i 0).val * 8 + (i 1).val / 512 < 32)⟩
    have h := out_index t
    have ht : t.val = (i 0).val * 8 + (i 1).val / 512 := rfl
    refine ⟨t, flush0_15 t, ?_⟩
    show i ∈ ((View.whole main_v8).slice (win0_15.rect t)).set
    rw [View.set_slice_whole, Rect.mem_set_unit]
    intro a
    match a with
    | ⟨0, _⟩ => show win0_15.index t 0 * 1 ≤ (i 0).val ∧ (i 0).val < win0_15.index t 0 * 1 + 1; rw [h.1]; omega
    | ⟨1, _⟩ => show win0_15.index t 1 * 512 ≤ (i 1).val ∧ (i 1).val < win0_15.index t 1 * 512 + 512; rw [h.2.1]; omega
    | ⟨2, _⟩ => show win0_15.index t 2 * 1024 ≤ (i 2).val ∧ (i 2).val < win0_15.index t 2 * 1024 + 1024; rw [h.2.2]; omega

end Cert.MergeArray

end
-- ==== Proof.MergeRef.lean ====
/-
  The reference's merge, read index by index as the function of one row.
-/
module

public import proofs.«01_k».proof.Defs
public import proofs.«01_k».proof.Proof.Gen.Reference4Ideal.Read
public import proofs.«01_k».proof.Proof.MergeArray
public import Idealize.ShloMosaic.Lib.Pointwise
public import Idealize.ShloMosaic.Lib.KernelVsHost

@[expose] public section

set_option maxRecDepth 16384

noncomputable section

namespace Cert.MergeRef

open Cert.Reference4Ideal Cert.Reference4Ideal.Read Idealize.ShloMosaic Idealize.ShloMosaic.TcCoe Idealize.SL.Sem

variable (x0 : (⟨S4x4096x1024, .f32⟩ : BufTy).Contents (Elt Ideal)) (x1 : (⟨S4x9x1024, .f32⟩ : BufTy).Contents (Elt Ideal)) (x2 : (⟨S1024, .f32⟩ : BufTy).Contents (Elt Ideal))
    (x3 x4 : (⟨S4x4096x512, .bf16⟩ : BufTy).Contents (Elt Ideal)) (x5 : (⟨S4x4096x512, .f32⟩ : BufTy).Contents (Elt Ideal)) (x6 : (⟨S31x512, .f32⟩ : BufTy).Contents (Elt Ideal))
    (x7 x8 x9 : (⟨S512, .f32⟩ : BufTy).Contents (Elt Ideal)) (x10 : (⟨S2x1024x3072, .f32⟩ : BufTy).Contents (Elt Ideal)) (x11 : (⟨S3072, .f32⟩ : BufTy).Contents (Elt Ideal))
    (x12 : (⟨S2x3x512x1024, .f32⟩ : BufTy).Contents (Elt Ideal)) (x13 : (⟨S2x1024x1024, .f32⟩ : BufTy).Contents (Elt Ideal))

/-- The padded rows at one index: a row of the input, zero before the first. -/
theorem padded_apply (j : S4x4126x512.Idx) (b : Fin 4) (s t : ℕ) (c : Fin 512) (h0 : (j 0).val = b.val) (h1 : (j 1).val = s + t) (h2 : (j 2).val = c.val) :
    val_main_v25 (F := Ideal) x5 j = Merge.before (fun s k => x5 (ix3 b s k)) s t c := by
  have hj : (j 1).val < 4126 := (j 1).isLt
  unfold val_main_v25 Merge.before
  by_cases h : 30 ≤ s + t
  · rw [dif_pos ⟨h, by omega⟩]
    exact pad_apply_of_inside _ _ _ _ _ _ _ j (ix3 b ⟨s + t - 30, by omega⟩ c) fun a => by
      match a with
      | ⟨0, _⟩ => show (j 0).val = 0 + b.val * (0 + 1); omega
      | ⟨1, _⟩ => show (j 1).val = 30 + (s + t - 30) * (0 + 1); omega
      | ⟨2, _⟩ => show (j 2).val = 0 + c.val * (0 + 1); omega
  · rw [dif_neg (by omega)]
    refine (pad_apply_of_not_inside _ _ _ _ _ _ _ j (1 : Fin 3) ?_).trans ?_
    · intro hin
      have h30 : 30 ≤ (j 1).val := hin.1
      omega
    · pointwise [val_main_call0_v0, val_main_c]
      show (((0 : ℤ) : ℝ) : EReal) = 0
      simp

/-- The convolution at one index. -/
theorem conv_apply (b : Fin 4) (s : Fin 4096) (c : Fin 512) :
    val_main_v246 (F := Ideal) x5 x6 x7 (ix3 b s c)
      = Merge.conv (fun t k => Merge.before (fun s k => x5 (ix3 b s k)) s.val t.val k) (fun t k => x6 (ix2 t k)) (fun k => x7 (ix1 k)) c := by
  unfold Merge.conv
  rw [MergeKernel.sum_taps]
  pointwise [val_main_v26, val_main_v27, val_main_v28, val_main_v29, val_main_v30, val_main_v31, val_main_cst_3, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246]
  refine MergeKernel.add_eq ?_ rfl
  iterate 30 refine MergeKernel.add_eq ?_ ?_
  all_goals
    exact MergeKernel.mul_eq (padded_apply x5 _ b s.val _ c rfl (by first | exact Nat.add_comm _ _ | rfl) rfl) rfl

/-- The convolution branch at one index. -/
theorem third_apply (b : Fin 4) (s : Fin 4096) (c : Fin 512) :
    val_main_v277 (F := Ideal) x5 x6 x7 x8 x9 (ix3 b s c)
      = Merge.third (fun k => val_main_v246 (F := Ideal) x5 x6 x7 (ix3 b s k)) (fun k => x8 (ix1 k)) (fun k => x9 (ix1 k)) c := by
  unfold Merge.third Merge.layerNorm
  pointwise [val_main_cst_4, val_main_cst_5, val_main_cst_6, val_main_cst_7, val_main_cst_8, val_main_cst_9, val_main_cst_10, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277]
  simp only [fun y : EReal => show 0 - y = -y by rw [sub_eq_add_neg, zero_add]]

/-- The gates before their lanes are parted, at one index. -/
theorem gate_apply (b : Fin 4) (s : Fin 4096) (n : Fin 3072) :
    val_main_v299 (F := Ideal) x0 x1 x2 x10 x11 (ix3 b s n)
      = Ideal.div 1 (1 + Ideal.exp (0 - ((∑ k, Ffn.normMod (fun k => x0 (ix3 b s k)) (fun k => x2 (ix1 k)) (fun k => x1 (ix3 b 3 k)) (fun k => x1 (ix3 b 4 k)) k * x10 (ix3 0 k n)) + x11 (ix1 n)))) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_cst_2, val_main_v16, val_main_v17, val_main_v18, val_main_v19, val_main_v20, val_main_v21, val_main_v22, val_main_v23, val_main_v24, val_main_v288, val_main_v289, val_main_v290, val_main_v291, val_main_v292, val_main_v293, val_main_v294, val_main_v295, val_main_v296, val_main_cst_11, val_main_cst_12, val_main_v297, val_main_v298, val_main_v299, Ffn.normMod]
  simp only [fun y : EReal => show 0 - y = -y by rw [sub_eq_add_neg, zero_add]]

/-- The three branches, stacked. -/
abbrev cuts : Fin 3 → FVec Ideal S1x4x4096x512 .f32 := fun n => match n with
  | ⟨0, _⟩ => val_main_v280 (F := Ideal) x3
  | ⟨1, _⟩ => val_main_v281 (F := Ideal) x4
  | ⟨2, _⟩ => val_main_v282 (F := Ideal) x5 x6 x7 x8 x9

/-- The branches of one row. -/
abbrev rows (b : Fin 4) (s : Fin 4096) : Fin 3 → Fin 512 → EReal :=
  Merge.pick (fun k => x3 (ix3 b s k)) (fun k => x4 (ix3 b s k))
    (Merge.third (Merge.conv (fun t k => Merge.before (fun s k => x5 (ix3 b s k)) s.val t.val k) (fun t k => x6 (ix2 t k)) (fun k => x7 (ix1 k))) (fun k => x8 (ix1 k)) (fun k => x9 (ix1 k)))

theorem stack_apply (n : Fin 3) (b : Fin 4) (s : Fin 4096) (k : Fin 512) :
    val_main_v283 (F := Ideal) x3 x4 x5 x6 x7 x8 x9 (ix4 n b s k) = rows x3 x4 x5 x6 x7 x8 x9 b s n k := by
  unfold val_main_v283
  show concatenate S3x4x4096x512 0 (List.ofFn fun n : Fin 3 => (⟨S1x4x4096x512, cuts x3 x4 x5 x6 x7 x8 x9 n⟩ : (s : Shape) × (s.Idx → _))) _ (ix4 n b s k) = _
  refine (concatenate_ofFn_apply (t := S3x4x4096x512) (s₁ := S1x4x4096x512) (0 : Fin 4) (cuts x3 x4 x5 x6 x7 x8 x9) _ rfl 1 rfl (ix4 n b s k) n (Nat.div_one _)
    (ix4 0 b s k) (Nat.mod_one _).symm (fun b' hb => by match b' with | ⟨0, _⟩ => exact absurd rfl hb | ⟨1, _⟩ => rfl | ⟨2, _⟩ => rfl | ⟨3, _⟩ => rfl)).trans ?_
  match n with
  | ⟨0, _⟩ => show val_main_v280 (F := Ideal) x3 (ix4 0 b s k) = x3 (ix3 b s k); pointwise [val_main_v280, val_main_v278]
  | ⟨1, _⟩ => show val_main_v281 (F := Ideal) x4 (ix4 0 b s k) = x4 (ix3 b s k); pointwise [val_main_v281, val_main_v279]
  | ⟨2, _⟩ =>
    have hi : idx_main_v282 (ix4 (0 : Fin 1) b s k) = ix3 b s k := by
      funext a; match a with | ⟨0, _⟩ => rfl | ⟨1, _⟩ => rfl | ⟨2, _⟩ => rfl
    refine (val_main_v282_apply x5 x6 x7 x8 x9 (ix4 (0 : Fin 1) b s k)).trans ?_
    rw [hi, third_apply]
    simp only [conv_apply]

/-- One gated branch at one index. -/
theorem branch_apply (b : Fin 4) (s : Fin 4096) (n : Fin 3) (c : Fin 1024) :
    val_main_v304 (F := Ideal) x0 x1 x2 x3 x4 x5 x6 x7 x8 x9 x10 x11 x12 (ix4 b s n c)
      = Merge.branch (Ffn.normMod (fun k => x0 (ix3 b s k)) (fun k => x2 (ix1 k)) (fun k => x1 (ix3 b 3 k)) (fun k => x1 (ix3 b 4 k)))
          (fun k => x10 (ix3 0 k (Merge.lane n c))) (x11 (ix1 (Merge.lane n c))) (rows x3 x4 x5 x6 x7 x8 x9 b s n) (fun k => x12 (ix4 0 n k c)) := by
  have hi : idx_main_v300 (ix4 b s n c) = ix3 b s (Merge.lane n c) := by
    funext a
    match a with
    | ⟨0, _⟩ => exact Fin.ext (by show (((b.val * 4096 + s.val) * 3 + n.val) * 1024 + c.val) / 12582912 = b.val; omega)
    | ⟨1, _⟩ => exact Fin.ext (by show (((b.val * 4096 + s.val) * 3 + n.val) * 1024 + c.val) / 3072 % 4096 = s.val; omega)
    | ⟨2, _⟩ => exact Fin.ext (by show (((b.val * 4096 + s.val) * 3 + n.val) * 1024 + c.val) % 3072 = n.val * 1024 + c.val; omega)
  rw [val_main_v304_apply, val_main_v300_apply, hi, gate_apply, val_main_v287_apply, val_main_v286_apply]
  refine congrArg (Ideal.div 1 _ * ·) (Finset.sum_congr rfl fun k _ => ?_)
  have hl : lidx_main_v286 (idx_main_v287 (ix4 b s n c)) k = ix3 n k c := by
    funext a; match a with | ⟨0, _⟩ => rfl | ⟨1, _⟩ => rfl | ⟨2, _⟩ => rfl
  have hw : val_main_v285 (F := Ideal) x12 (ix3 n k c) = x12 (ix4 0 n k c) := by pointwise [val_main_v285, val_main_v284]
  have hr : ridx_main_v286 (idx_main_v287 (ix4 b s n c)) k = ix4 n b s k := by
    funext a; match a with | ⟨0, _⟩ => rfl | ⟨1, _⟩ => rfl | ⟨2, _⟩ => rfl | ⟨3, _⟩ => rfl
  rw [hl, hr, hw, stack_apply]
  exact mul_comm _ _

/-- The sum of the gated branches at one index. -/
theorem mixed_apply (b : Fin 4) (s : Fin 4096) (c : Fin 1024) :
    val_main_v305 (F := Ideal) x0 x1 x2 x3 x4 x5 x6 x7 x8 x9 x10 x11 x12 (ix3 b s c)
      = Merge.mixed (fun k => x0 (ix3 b s k)) (fun a k => x1 (ix3 b a k)) (fun k => x2 (ix1 k)) (rows x3 x4 x5 x6 x7 x8 x9 b s)
          (fun k n => x10 (ix3 0 k n)) (fun n => x11 (ix1 n)) (fun n k j => x12 (ix4 0 n k j)) c := by
  rw [val_main_v305_apply]
  have hz : ∀ i, val_main_cst_13 (F := Ideal) i = 0 := fun i => by pointwise [val_main_cst_13]
  rw [hz, zero_add]
  refine Finset.sum_congr rfl fun n _ => ?_
  have hi : idx_main_v305 (ix3 b s c) n = ix4 b s n c := by
    funext a; match a with | ⟨0, _⟩ => rfl | ⟨1, _⟩ => rfl | ⟨2, _⟩ => rfl | ⟨3, _⟩ => rfl
  rw [hi, branch_apply]

/-- The reference's result at one index: the merge of that row. -/
theorem result_apply (b : Fin 4) (s : Fin 4096) (c : Fin 1024) :
    val_main_v311 (F := Ideal) x0 x1 x2 x3 x4 x5 x6 x7 x8 x9 x10 x11 x12 x13 (ix3 b s c)
      = Merge.out (fun k => x0 (ix3 b s k)) (fun a k => x1 (ix3 b a k)) (fun k => x2 (ix1 k)) (rows x3 x4 x5 x6 x7 x8 x9 b s)
          (fun k n => x10 (ix3 0 k n)) (fun n => x11 (ix1 n)) (fun n k j => x12 (ix4 0 n k j)) (fun k n => x13 (ix3 0 k n)) c := by
  unfold Merge.out
  simp only [← mixed_apply]
  unfold val_main_v311 val_main_v310 val_main_v308
  generalize val_main_v305 (F := Ideal) x0 x1 x2 x3 x4 x5 x6 x7 x8 x9 x10 x11 x12 = u
  pointwise [val_main_v306, val_main_v307, val_main_v301, val_main_v302, val_main_v303, val_main_v309]

/-- The reference's result: the merge of every row of every batch. -/
theorem result_eq : val_main_v311 (F := Ideal) x0 x1 x2 x3 x4 x5 x6 x7 x8 x9 x10 x11 x12 x13 = MergeArray.result x0 x1 x2 x3 x4 x5 x6 x7 x8 x9 x10 x11 x12 x13 := by
  funext i
  obtain ⟨b, s, c, rfl⟩ : ∃ (b : Fin 4) (s : Fin 4096) (c : Fin 1024), i = ix3 b s c := ⟨i 0, i 1, i 2, by
    funext a; match a with | ⟨0, _⟩ => rfl | ⟨1, _⟩ => rfl | ⟨2, _⟩ => rfl⟩
  exact result_apply x0 x1 x2 x3 x4 x5 x6 x7 x8 x9 x10 x11 x12 x13 b s c

end Cert.MergeRef

end
-- ==== Proof.AdaArray.lean ====
/-
  The modulation's call: one row's lane as a function of the arguments, what the grid leaves in the padded array,
  and what the two operations after the call make of it.
-/
module

public import proofs.«01_k».proof.Defs
public import proofs.«01_k».proof.Proof.Gen.Kernel5Ideal.Frame
public import Idealize.ShloMosaic.Lib.Pipeline.Value
public import Idealize.ShloMosaic.Lib.Pointwise
public import Idealize.ShloMosaic.Lib.MatmulPlain
public import Idealize.ShloMosaic.Lib.Pipeline.ValueKit
public import Idealize.ShloMosaic.Lib.KernelVsHost

@[expose] public section

set_option maxRecDepth 16384

noncomputable section

namespace Cert.AdaArray

open Cert.Kernel5Ideal Cert.Kernel5Ideal.Gen Idealize.ShloMosaic Idealize.ShloMosaic.TcCoe Idealize.SL.Sem
open Idealize.ShloMosaic.Pipeline (Dat)

/-- One lane: the conditioning through the sigmoid-weighted unit, against one column of the weights, and the bias. -/
def lane (c w : Fin 1024 → EReal) (b : EReal) : EReal :=
  (∑ k, c k * Ideal.div 1 (1 + Ideal.exp (0 - c k)) * w k) + b

/-- Part `a`, channel `d`, of the nine parts side by side. -/
def col (a : Fin 9) (d : Fin 1024) : Fin 9216 := ⟨a.val * 1024 + d.val, by omega⟩

/-- The modulation of every layer and every batch. -/
def result (x0 : FVec Ideal S4x1024 .f32) (x1 : FVec Ideal S2x1024x9216 .f32) (x2 : FVec Ideal S2x9216 .f32) : FVec Ideal S2x4x9x1024 .f32 :=
  fun i => lane (fun k => x0 (ix2 (i 1) k)) (fun k => x1 (ix3 (i 0) k (col (i 2) (i 3)))) (x2 (ix2 (i 0) (col (i 2) (i 3))))

/-- The same before the parts are parted, at every row of the padded conditioning. -/
def padded (y : FVec Ideal S8x1024 .f32) (x1 : FVec Ideal S2x1024x9216 .f32) (x2 : FVec Ideal S2x9216 .f32) : FVec Ideal S2x8x9216 .f32 :=
  fun i => lane (fun k => y (ix2 (i 1) k)) (fun k => x1 (ix3 (i 0) k (i 2))) (x2 (ix2 (i 0) (i 2)))

/-- One grid point's payload at one index. -/
theorem pay_apply (x0 : Vec Ideal S8x1024 .f32) (x1 : Vec Ideal S1x1024x2304 .f32) (x2 : Vec Ideal S1x1x2304 .f32) (r : Fin 8) (n : Fin 2304) :
    k0_pay1 (F := Ideal) x0 x1 x2 (ix3 0 r n) = lane (fun k => x0 (ix2 r k)) (fun k => x1 (ix3 0 k n)) (x2 (ix3 0 0 n)) := by
  unfold lane
  pointwise [k0_pay1]

/-- One grid point's block at one index. -/
theorem block_apply (x0 : Vec Ideal S8x1024 .f32) (x1 : Vec Ideal S1x1024x2304 .f32) (x2 : Vec Ideal S1x1x2304 .f32) (r : Fin 8) (n : Fin 2304) :
    out0_3 (F := Ideal) x0 x1 x2 (ix3 0 r n) = lane (fun k => x0 (ix2 r k)) (fun k => x1 (ix3 0 k n)) (x2 (ix3 0 0 n)) := by
  unfold out0_3
  have h0 : View.ld x0 r0_0 = x0 := View.ld_unit_lit _ _ (by decide)
  have h1 : View.ld x1 r0_1 = x1 := View.ld_unit_lit _ _ (by decide)
  have h2 : View.ld x2 r0_2 = x2 := View.ld_unit_lit _ _ (by decide)
  rw [h0, h1, h2]
  refine (congrFun (View.canon_cons_unit_lit _ _ _ (by decide)) _).trans ?_
  exact pay_apply x0 x1 x2 r n

variable (m : (ℓ : Loc nD τ sig) → Buf (Elt Ideal) ℓ)

/-- The conditioning and the bias as the region finds them: the first padded with rows, the second with an axis of one. -/
theorem cond_eq (c : Dev nD) : V m c main_v0 = pad (s := S4x1024) S8x1024 ![0, 0] ![4, 0] ![0, 0] (m ((c : Thread nD τ).loc main_arg0)) (sitofp (F := Ideal) (s := S_) .f32 (constantI S_ 32 0#32)) pads_S4x1024_S8x1024_040_000 h_S_ := by
  rfl

theorem bias_eq (c : Dev nD) : V m c main_v1 = shapeCast (s := S2x9216) S2x1x9216 (m ((c : Thread nD τ).loc main_arg2)) shapeCasts_S2x9216_S2x1x9216 := by
  rfl

/-- A row of the padded conditioning that the argument has. -/
theorem cond_apply (c : Dev nD) (r : Fin 4) (k : Fin 1024) :
    V m c main_v0 (ix2 (⟨r.val, by omega⟩ : Fin 8) k : S8x1024.Idx) = m ((c : Thread nD τ).loc main_arg0) (ix2 r k : S4x1024.Idx) := by
  rw [cond_eq]
  exact pad_apply_of_inside _ _ _ _ _ _ _ _ (ix2 r k) fun a => by
    match a with
    | ⟨0, _⟩ => show r.val = 0 + r.val * (0 + 1); omega
    | ⟨1, _⟩ => show k.val = 0 + k.val * (0 + 1); omega

/-- The block indices of the windows at each grid point. -/
theorem cond_index : ∀ t : Fin cfg0.N, win0_0.index t 0 = 0 ∧ win0_0.index t 1 = 0 :=
  (by decide +kernel : ∀ t : Fin grid0.N, win0_0.index t 0 = 0 ∧ win0_0.index t 1 = 0)

theorem weight_index : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)

theorem bias_index : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)

theorem out_index : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)

theorem points (t : Fin cfg0.N) : t.val < 8 := t.isLt

/-- The layer a grid point works on. -/
def lay (t : Fin cfg0.N) : Fin 2 := ⟨t.val / 4, by have := points t; omega⟩

/-- The lane of a grid point's column. -/
def wide (t : Fin cfg0.N) (n : Fin 2304) : Fin 9216 := ⟨t.val % 4 * 2304 + n.val, by omega⟩

theorem cond_block (c : Dev nD) (t : Fin cfg0.N) (r : Fin 8) (k : Fin 1024) :
    (iblk m c 0 t (ix2 r k : S8x1024.Idx) : EReal) = V m c main_v0 (ix2 r k : S8x1024.Idx) := by
  have h := cond_index t
  refine congrArg (V m c main_v0) ?_
  funext a; apply Fin.ext
  match a with
  | ⟨0, _⟩ => show win0_0.index t 0 * 8 + 1 * r.val = r.val; rw [h.1]; omega
  | ⟨1, _⟩ => show win0_0.index t 1 * 1024 + 1 * k.val = k.val; rw [h.2]; omega

theorem weight_block (c : Dev nD) (t : Fin cfg0.N) (k : Fin 1024) (n : Fin 2304) :
    (iblk m c 1 t (ix3 0 k n : S1x1024x2304.Idx) : EReal) = m ((c : Thread nD τ).loc main_arg1) (ix3 (lay t) k (wide t n) : S2x1024x9216.Idx) := by
  have h := weight_index t
  refine (congrArg (V m c main_arg1) (?_ : _ = (ix3 (lay t) k (wide t n) : S2x1024x9216.Idx))).trans (congrFun (V_main_arg1 m c) _)
  funext a; apply Fin.ext
  match a with
  | ⟨0, _⟩ => show win0_1.index t 0 * 1 + 1 * 0 = t.val / 4; rw [h.1]; omega
  | ⟨1, _⟩ => show win0_1.index t 1 * 1024 + 1 * k.val = k.val; rw [h.2.1]; omega
  | ⟨2, _⟩ => show win0_1.index t 2 * 2304 + 1 * n.val = t.val % 4 * 2304 + n.val; rw [h.2.2]; omega

theorem bias_block (c : Dev nD) (t : Fin cfg0.N) (n : Fin 2304) :
    (iblk m c 2 t (ix3 0 0 n : S1x1x2304.Idx) : EReal) = m ((c : Thread nD τ).loc main_arg2) (ix2 (lay t) (wide t n) : S2x9216.Idx) := by
  have h := bias_index t
  refine (congrArg (V m c main_v1) (?_ : _ = (ix3 (lay t) 0 (wide t n) : S2x1x9216.Idx))).trans ?_
  · funext a; apply Fin.ext
    match a with
    | ⟨0, _⟩ => show win0_2.index t 0 * 1 + 1 * 0 = t.val / 4; rw [h.1]; omega
    | ⟨1, _⟩ => show win0_2.index t 1 * 1 + 1 * 0 = 0; rw [h.2.1]
    | ⟨2, _⟩ => show win0_2.index t 2 * 2304 + 1 * n.val = t.val % 4 * 2304 + n.val; rw [h.2.2]; omega
  · rw [bias_eq]
    pointwise

/-- What a grid point writes back. -/
theorem flushed (c : Dev nD) (t : Fin cfg0.N) :
    (dats m 0 c).flushed 3 t = (cfg0.win 3).cut (grid0.coords t) (out0_3 (F := Ideal) (iblk m c 0 t) (iblk m c 1 t) (iblk m c 2 t)) := by
  show (cfg0.win 3).cut (grid0.coords t) ((dats m 0 c).after 3 t) = _
  rw [after0_3]

/-- What the grid leaves in the padded array. -/
theorem array_eq (c : Dev nD) :
    (dats m 0 c).arrAt 3 cfg0.N = padded (V m c main_v0) (m ((c : Thread nD τ).loc main_arg1)) (m ((c : Thread nD τ).loc main_arg2)) := by
  refine (dats m 0 c).arrAt_eq_of_cover 3 _ ?_ ?_
  · intro t _
    rw [flushed]
    funext z
    obtain ⟨z0, r, n, rfl⟩ : ∃ (z0 : Fin 1) (r : Fin 8) (n : Fin 2304), z = ix3 z0 r n := ⟨z 0, z 1, z 2, by
      funext a; match a with | ⟨0, _⟩ => rfl | ⟨1, _⟩ => rfl | ⟨2, _⟩ => rfl⟩
    obtain rfl : z0 = 0 := Subsingleton.elim _ _
    show out0_3 (F := Ideal) (iblk m c 0 t) (iblk m c 1 t) (iblk m c 2 t) (ix3 0 r n) = _
    refine (block_apply (iblk m c 0 t) (iblk m c 1 t) (iblk m c 2 t) r n).trans ?_
    simp only [cond_block, weight_block, bias_block]
    rw [View.read_apply]
    have hi : (((cfg0.win 3).blk t).view.emb (ix3 0 r n) : S2x8x9216.Idx) = ix3 (lay t) r (wide t n) := by
      funext a
      apply Fin.ext
      have h := out_index t
      match a with
      | ⟨0, _⟩ => show win0_3.index t 0 * 1 + 1 * 0 = t.val / 4; rw [h.1]; omega
      | ⟨1, _⟩ => show win0_3.index t 1 * 8 + 1 * r.val = r.val; rw [h.2.1]; omega
      | ⟨2, _⟩ => show win0_3.index t 2 * 2304 + 1 * n.val = t.val % 4 * 2304 + n.val; rw [h.2.2]; omega
    exact (congrArg (padded (V m c main_v0) (m ((c : Thread nD τ).loc main_arg1)) (m ((c : Thread nD τ).loc main_arg2))) hi).symm
  · intro i
    have h0 : (i 0).val < 2 := (i 0).isLt
    have h1 : (i 1).val < 8 := (i 1).isLt
    have h2 : (i 2).val < 9216 := (i 2).isLt
    let t : Fin cfg0.N := ⟨(i 0).val * 4 + (i 2).val / 2304, (by omega : (i 0).val * 4 + (i 2).val / 2304 < 8)⟩
    have h := out_index t
    have ht : t.val = (i 0).val * 4 + (i 2).val / 2304 := rfl
    refine ⟨t, flush0_3 t, ?_⟩
    show i ∈ ((View.whole main_v2).slice (win0_3.rect t)).set
    rw [View.set_slice_whole, Rect.mem_set_unit]
    intro a
    match a with
    | ⟨0, _⟩ => show win0_3.index t 0 * 1 ≤ (i 0).val ∧ (i 0).val < win0_3.index t 0 * 1 + 1; rw [h.1]; omega
    | ⟨1, _⟩ => show win0_3.index t 1 * 8 ≤ (i 1).val ∧ (i 1).val < win0_3.index t 1 * 8 + 8; rw [h.2.1]; omega
    | ⟨2, _⟩ => show win0_3.index t 2 * 2304 ≤ (i 2).val ∧ (i 2).val < win0_3.index t 2 * 2304 + 2304; rw [h.2.2]; omega

/-- The operations after the call: the padding's rows cut off, and the nine parts parted. -/
theorem parted (y : FVec Ideal S8x1024 .f32) (x0 : FVec Ideal S4x1024 .f32) (x1 : FVec Ideal S2x1024x9216 .f32) (x2 : FVec Ideal S2x9216 .f32)
    (hy : ∀ (r : Fin 4) (k : Fin 1024), y (ix2 (⟨r.val, by omega⟩ : Fin 8) k) = x0 (ix2 r k)) :
    shapeCast S2x4x9x1024 (extractStridedSlice S2x4x9216 ![0, 0, 0] (padded y x1 x2) slices_S2x8x9216_S2x4x9216_0_0_0) shapeCasts_S2x4x9216_S2x4x9x1024
      = result x0 x1 x2 := by
  funext i
  obtain ⟨l, b, a, d, rfl⟩ : ∃ (l : Fin 2) (b : Fin 4) (a : Fin 9) (d : Fin 1024), i = ix4 l b a d := ⟨i 0, i 1, i 2, i 3, by
    funext a; match a with | ⟨0, _⟩ => rfl | ⟨1, _⟩ => rfl | ⟨2, _⟩ => rfl | ⟨3, _⟩ => rfl⟩
  refine (shapeCast_apply _ _ (ix4 l b a d) (ix3 l b (col a d)) ?_).trans ?_
  · rw [Shape.rowMajor_val_three, Shape.rowMajor_val_four]
    show (l.val * 4 + b.val) * 9216 + (a.val * 1024 + d.val) = ((l.val * 4 + b.val) * 9 + a.val) * 1024 + d.val
    omega
  · refine (extractStridedSlice_apply _ _ _ _ (ix3 l (⟨b.val, by omega⟩ : Fin 8) (col a d)) ?_).trans ?_
    · intro e
      match e with
      | ⟨0, _⟩ => exact (Nat.zero_add _).symm
      | ⟨1, _⟩ => exact (Nat.zero_add _).symm
      | ⟨2, _⟩ => exact (Nat.zero_add _).symm
    · exact congrArg (fun z => lane z _ _) (funext fun k => hy b k)

/-- The result's buffer after the operations that follow the call. -/
theorem tail_eq (c : Dev nD) :
    Pipeline.afterTail₀ cfgs (dats m) 0 (V0 m) [hostOps1] c main_v4
      = shapeCast S2x4x9x1024 (extractStridedSlice (s := S2x8x9216) S2x4x9216 ![0, 0, 0] ((dats m 0 c).arrAt 3 cfg0.N) slices_S2x8x9216_S2x4x9216_0_0_0) shapeCasts_S2x4x9216_S2x4x9x1024 := by
  have hw := Pipeline.withArrays_arr spec0 winFacts0.arr_inj c (V0 m c) (fun w => (dats m 0 c).arrAt w cfg0.N) 3
  show StableHlo.after [_, _] _ _ = _
  after_results
  refine congrArg (fun y => shapeCast S2x4x9x1024 (extractStridedSlice (s := S2x8x9216) S2x4x9216 ![0, 0, 0] y slices_S2x8x9216_S2x4x9216_0_0_0) shapeCasts_S2x4x9216_S2x4x9x1024) ?_
  exact hw

/-- The run of the call: its result as a function of the arguments. -/
theorem value (ρ : Dev nD → PrngReg) :
    θ_run defs (onTc (τ := τ) (main (F := Ideal))) ⟨m, fun _ => 0, ρ⟩ (fun r => ∀ c : Dev nD,
      r.2.mem ((c.tc : Thread nD τ).loc main_v4) = result (m ((c.tc : Thread nD τ).loc main_arg0)) (m ((c.tc : Thread nD τ).loc main_arg1)) (m ((c.tc : Thread nD τ).loc main_arg2))) := by
  refine (θ_run defs _ _).mono (fun r h => ?_) (run_main m ρ)
  intro c
  refine ((h c).2 main_v4 (Pipeline.mem_restRefs_of main_v4 (by decide) (by decide))).trans ((tail_eq m c).trans ?_)
  rw [array_eq]
  exact parted _ _ _ _ (cond_apply m c)

/-- The same, and the arguments kept. -/
theorem run (ρ : Dev nD → PrngReg) :
    θ_run defs (onTc (τ := τ) (main (F := Ideal))) ⟨m, fun _ => 0, ρ⟩ (fun r => ∀ c : Dev nD,
      r.2.mem ((c.tc : Thread nD τ).loc main_v4) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h.1 c, h.2 c⟩) (θ_run_and (value m ρ) (unchanged m ρ))

end Cert.AdaArray

end
-- ==== Proof.AdaRef.lean ====
/-
  The reference's modulation, read index by index as the function of one lane.
-/
module

public import proofs.«01_k».proof.Defs
public import proofs.«01_k».proof.Proof.Gen.Reference5Ideal.Read
public import proofs.«01_k».proof.Proof.AdaArray
public import Idealize.ShloMosaic.Lib.Pointwise

@[expose] public section

set_option maxRecDepth 16384

noncomputable section

namespace Cert.AdaRef

open Cert.Reference5Ideal Cert.Reference5Ideal.Read Idealize.ShloMosaic Idealize.ShloMosaic.TcCoe Idealize.SL.Sem

variable (x0 : (⟨S4x1024, .f32⟩ : BufTy).Contents (Elt Ideal)) (x1 : (⟨S2x1024x9216, .f32⟩ : BufTy).Contents (Elt Ideal)) (x2 : (⟨S2x9216, .f32⟩ : BufTy).Contents (Elt Ideal))

/-- The conditioning through the sigmoid-weighted unit, at one index. -/
theorem unit_apply (b : Fin 4) (k : Fin 1024) :
    val_main_v0 (F := Ideal) x0 (ix2 b k) = x0 (ix2 b k) * Ideal.div 1 (1 + Ideal.exp (0 - x0 (ix2 b k))) := by
  pointwise [val_main_call0_v0, val_main_call0_v1, val_main_call0_cst, val_main_call0_v2, val_main_call0_v3, val_main_call0_cst_0, val_main_call0_v4, val_main_call0_v5, val_main_v0]
  simp only [fun y : EReal => show 0 - y = -y by rw [sub_eq_add_neg, zero_add]]

/-- The lanes before the parts are parted, at one index. -/
theorem lane_apply (l : Fin 2) (b : Fin 4) (n : Fin 9216) :
    val_main_v5 (F := Ideal) x0 x1 x2 (ix3 l b n) = AdaArray.lane (fun k => x0 (ix2 b k)) (fun k => x1 (ix3 l k n)) (x2 (ix2 l n)) := by
  rw [val_main_v5_apply, val_main_v2_apply, val_main_v1_apply, val_main_v4_apply, val_main_v3_apply]
  unfold AdaArray.lane
  refine congr_arg₂ (· + ·) (Finset.sum_congr rfl fun k _ => ?_) (congrArg x2 ?_)
  · have hl : lidx_main_v1 (idx_main_v2 (ix3 l b n)) k = ix3 l k n := by
      funext a; match a with | ⟨0, _⟩ => rfl | ⟨1, _⟩ => rfl | ⟨2, _⟩ => rfl
    have hr : ridx_main_v1 (idx_main_v2 (ix3 l b n)) k = ix2 b k := by
      funext a; match a with | ⟨0, _⟩ => rfl | ⟨1, _⟩ => rfl
    rw [hl, hr, unit_apply]
    exact mul_comm _ _
  · funext a; match a with | ⟨0, _⟩ => rfl | ⟨1, _⟩ => rfl

/-- The reference's result. -/
theorem result_eq : val_main_v6 (F := Ideal) x0 x1 x2 = AdaArray.result x0 x1 x2 := by
  funext i
  obtain ⟨l, b, a, d, rfl⟩ : ∃ (l : Fin 2) (b : Fin 4) (a : Fin 9) (d : Fin 1024), i = ix4 l b a d := ⟨i 0, i 1, i 2, i 3, by
    funext a; match a with | ⟨0, _⟩ => rfl | ⟨1, _⟩ => rfl | ⟨2, _⟩ => rfl | ⟨3, _⟩ => rfl⟩
  have hi : idx_main_v6 (ix4 l b a d) = ix3 l b (AdaArray.col a d) := by
    funext e
    match e with
    | ⟨0, _⟩ => exact Fin.ext (by show (((l.val * 4 + b.val) * 9 + a.val) * 1024 + d.val) / 36864 = l.val; omega)
    | ⟨1, _⟩ => exact Fin.ext (by show (((l.val * 4 + b.val) * 9 + a.val) * 1024 + d.val) / 9216 % 4 = b.val; omega)
    | ⟨2, _⟩ => exact Fin.ext (by show (((l.val * 4 + b.val) * 9 + a.val) * 1024 + d.val) % 9216 = a.val * 1024 + d.val; omega)
  rw [val_main_v6_apply, hi, lane_apply]
  rfl

end Cert.AdaRef

end
-- ==== Proof.lean ====
/- The proof of the claims about the feed-forward half step, the differential attention, the projections and the merge of
   the branches: the runs are the generated ones, the equality of the results is read through one function of a row
   (`Cert.Ffn.out`, `Cert.Diff.out`, `Cert.Proj.head` of `Cert.Proj.col`, `Cert.Merge.out`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite
public import proofs.«01_k».proof.Proof.FfnArray
public import proofs.«01_k».proof.Proof.FfnRef
public import Idealize.ShloMosaic.Adequacy
public import Idealize.ShloMosaic.Init
public import proofs.«01_k».proof.Proof.DiffOut
public import proofs.«01_k».proof.Proof.DiffPre
public import proofs.«01_k».proof.Proof.ProjArray
public import proofs.«01_k».proof.Proof.ProjRef
public import proofs.«01_k».proof.Proof.MergeArray
public import proofs.«01_k».proof.Proof.MergeRef
public import proofs.«01_k».proof.Proof.AdaArray
public import proofs.«01_k».proof.Proof.AdaRef

@[expose] public section

noncomputable section

namespace Cert.Proof

open Idealize.ShloMosaic Idealize.SL.Sem Cert.Kernel

/-- The kernel and the reference end with the same array: both are the half step of every row. -/
theorem equal_results : Cert.algebraic_KernelIdeal_ReferenceIdeal := fun m ρ m' ρ' _ hag =>
  ⟨fun c => FfnArray.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run _ _ _).mono (fun _ h c => ⟨(h c).1.trans (FfnArray.array_eq m c), (h c).2⟩) (Cert.KernelIdeal.Value.run_blocks m ρ),
    (θ_run _ _ _).mono (fun _ h c => ⟨by
      refine (h c).1.trans ?_
      rw [Cert.ReferenceIdeal.Read.val_main_v42_eq, (hag c).1, (hag c).2.1, (hag c).2.2.1, (hag c).2.2.2.1, (hag c).2.2.2.2]
      funext i
      obtain ⟨b, s, j, rfl⟩ : ∃ (b : Fin 4) (s : Fin 4096) (j : Fin 1024), i = ix3 b s j := ⟨i 0, i 1, i 2, by
        funext a; match a with | ⟨0, _⟩ => rfl | ⟨1, _⟩ => rfl | ⟨2, _⟩ => rfl⟩
      exact FfnRef.result_apply _ _ _ _ _ b s j, (h c).2⟩) (Cert.ReferenceIdeal.Value.run m' ρ')⟩

/-- On finite arguments the attention's kernel and its reference end with the same array. -/
theorem equal_attention : Cert.algebraic_Kernel2Ideal_Reference2Ideal_pre_finite := fun m ρ m' ρ' hp hag =>
  ⟨fun c => DiffArray.result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)),
    (θ_run _ _ _).mono (fun _ h c => ⟨(h c).1.trans (DiffArray.array_eq m c (DiffPre.nums_of_pre _ _ _ _ _ _ (hp c))), (h c).2⟩) (Cert.Kernel2Ideal.Value.run_blocks m ρ),
    (θ_run _ _ _).mono (fun _ h c => ⟨by
      refine (h c).1.trans ?_
      rw [Cert.Reference2Ideal.Read.val_main_v85_eq, (hag c).1, (hag c).2.1, (hag c).2.2.1, (hag c).2.2.2.1, (hag c).2.2.2.2.1, (hag c).2.2.2.2.2]
      exact DiffRef.result_eq _ _ _ _ _ _ (DiffPre.nums_of_pre _ _ _ _ _ _ (hp c)), (h c).2⟩) (Cert.Reference2Ideal.Value.run m' ρ')⟩

/-- The projections' kernel and their reference end with the same seven arrays. -/
theorem equal_projections : Cert.algebraic_Kernel3Ideal_Reference3Ideal := fun m ρ m' ρ' _ hag =>
  ⟨fun c => ProjArray.rowsOf (ProjArray.qa (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))),
    fun c => ProjArray.rowsOf (ProjArray.ka (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))),
    fun c => ProjArray.rowsOf (ProjArray.va (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))),
    fun c => ProjArray.colsOf (ProjArray.qb (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))),
    fun c => ProjArray.rowsOf (ProjArray.kb (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))),
    fun c => ProjArray.colsOf (ProjArray.vb (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))),
    fun c => ProjArray.rowsOf (ProjArray.gated (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))),
    (θ_run _ _ _).mono (fun _ h c => ⟨(h c).1.trans (ProjArray.qa_array m c),
      (h c).2.1.trans (ProjArray.ka_array m c),
      (h c).2.2.1.trans (ProjArray.va_array m c),
      (h c).2.2.2.1.trans (ProjArray.qb_array m c),
      (h c).2.2.2.2.1.trans (ProjArray.kb_array m c),
      (h c).2.2.2.2.2.1.trans (ProjArray.vb_array m c),
      (h c).2.2.2.2.2.2.1.trans (ProjArray.u_array m c), (h c).2.2.2.2.2.2.2⟩) (Cert.Kernel3Ideal.Value.run_blocks m ρ),
    (θ_run _ _ _).mono (fun _ h c => ⟨by
      refine (h c).1.trans ?_
      rw [Cert.Reference3Ideal.Read.val_main_v106_eq, (hag c).1, (hag c).2.1, (hag c).2.2.1, (hag c).2.2.2.1, (hag c).2.2.2.2]
      exact ProjRef.qa_eq _ _ _ _ _, by
      refine (h c).2.1.trans ?_
      rw [Cert.Reference3Ideal.Read.val_main_v107_eq, (hag c).1, (hag c).2.1, (hag c).2.2.1, (hag c).2.2.2.1, (hag c).2.2.2.2]
      exact ProjRef.ka_eq _ _ _ _ _, by
      refine (h c).2.2.1.trans ?_
      rw [Cert.Reference3Ideal.Read.val_main_v108_eq, (hag c).1, (hag c).2.1, (hag c).2.2.1, (hag c).2.2.2.1]
      exact ProjRef.va_eq _ _ _ _, by
      refine (h c).2.2.2.1.trans ?_
      rw [Cert.Reference3Ideal.Read.val_main_v110_eq, (hag c).1, (hag c).2.1, (hag c).2.2.1, (hag c).2.2.2.1, (hag c).2.2.2.2]
      exact ProjRef.qb_eq _ _ _ _ _, by
      refine (h c).2.2.2.2.1.trans ?_
      rw [Cert.Reference3Ideal.Read.val_main_v111_eq, (hag c).1, (hag c).2.1, (hag c).2.2.1, (hag c).2.2.2.1, (hag c).2.2.2.2]
      exact ProjRef.kb_eq _ _ _ _ _, by
      refine (h c).2.2.2.2.2.1.trans ?_
      rw [Cert.Reference3Ideal.Read.val_main_v113_eq, (hag c).1, (hag c).2.1, (hag c).2.2.1, (hag c).2.2.2.1]
      exact ProjRef.vb_eq _ _ _ _, by
      refine (h c).2.2.2.2.2.2.1.trans ?_
      rw [Cert.Reference3Ideal.Read.val_main_v120_eq, (hag c).1, (hag c).2.1, (hag c).2.2.1, (hag c).2.2.2.1]
      exact ProjRef.u_eq _ _ _ _, (h c).2.2.2.2.2.2.2⟩) (Cert.Reference3Ideal.Value.run m' ρ')⟩

/-- The merge's kernel and its reference end with the same array: both are the merge of every row. -/
theorem equal_merge : Cert.algebraic_Kernel4Ideal_Reference4Ideal := fun m ρ m' ρ' _ hag =>
  ⟨fun c => MergeArray.result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)),
    (θ_run _ _ _).mono (fun _ h c => ⟨(h c).1.trans (MergeArray.array_eq m c), (h c).2⟩) (Cert.Kernel4Ideal.Value.run_blocks m ρ),
    (θ_run _ _ _).mono (fun _ h c => ⟨by
      refine ((h c).1.trans (Cert.Reference4Ideal.Read.val_main_v311_eq _)).trans ?_
      show Cert.Reference4Ideal.Read.val_main_v311 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) (m' ((c.tc : Thread Cert.Reference4Ideal.nD Cert.Reference4Ideal.τ).loc Cert.Reference4Ideal.main_arg13)) = _
      rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2.1, (hag c).2.2.2.2.2.2.2.2.2.2.2.2.2]
      exact MergeRef.result_eq _ _ _ _ _ _ _ _ _ _ _ _ _ _, (h c).2⟩) (Cert.Reference4Ideal.Value.run m' ρ')⟩

/-- The modulation's kernel and its reference end with the same array: both are the modulation of every layer and batch. -/
theorem equal_modulation : Cert.algebraic_Kernel5Ideal_Reference5Ideal := fun m ρ m' ρ' _ hag =>
  ⟨fun c => AdaArray.result (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    AdaArray.run m ρ,
    (θ_run _ _ _).mono (fun _ h c => ⟨by
      refine (h c).1.trans ?_
      rw [Cert.Reference5Ideal.Read.val_main_v6_eq, (hag c).1, (hag c).2.1, (hag c).2.2]
      exact AdaRef.result_eq _ _ _, (h c).2⟩) (Cert.Reference5Ideal.Value.run m' ρ')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts,
  fun m ρ _ => Cert.Kernel.Gen.frame m ρ, fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => Cert.Kernel2.Gen.frame m ρ, fun m ρ _ => Cert.Kernel2Ideal.Gen.frame m ρ, fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ, fun m ρ _ => Cert.Kernel3Ideal.Gen.frame m ρ,
  fun m ρ _ => (θ_run _ _ _).mono (fun r h => ⟨fun c => (h c).2.2.2.2.2.2.2, sem_eq_zero_of_no_sems (by decide) r.2⟩) (Cert.Reference3Ideal.Value.run m ρ),
  fun m ρ _ => Cert.Kernel4.Gen.frame m ρ, fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  fun m ρ _ => Cert.Kernel5.Gen.frame m ρ, fun m ρ _ => Cert.Kernel5Ideal.Gen.frame m ρ,
  fun m ρ _ => (θ_run _ _ _).mono (fun r h => ⟨fun c => (h c).2, sem_eq_zero_of_no_sems (by decide) r.2⟩) (Cert.Reference5Ideal.Value.run m ρ),
  trivial, equal_results, IdealRules.named_const.statement Cert.Kernel2Ideal.κ "mask" .f32 0xF149F2CA#32 ⊥ rfl, equal_attention, trivial, equal_projections, trivial, equal_merge, trivial, equal_modulation⟩

end Cert.Proof

end
